-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts_named : Cert.Pre_experts_named.Facts] (m : (ℓ : Loc Cert.Kernel4.nD Cert.Kernel4.τ Cert.Kernel4.sig) → Buf (Elt Bits) ℓ) : Prop :=
  ∀ c : Dev Cert.Kernel4.nD,
    (Cert.Pre_experts_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_experts_named : Cert.Pre_experts_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts_named [hPre_experts_named : Cert.Pre_experts_named.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_gains [hPre_finite_gains : Cert.Pre_finite_gains.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_gains.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_gains [hPre_finite_gains : Cert.Pre_finite_gains.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_gains.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_padding_zero [hPre_padding_zero : Cert.Pre_padding_zero.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_padding_zero.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_padding_zero [hPre_padding_zero : Cert.Pre_padding_zero.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_padding_zero.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] [hPre_experts_named : Cert.Pre_experts_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_experts_named [hReference4Ideal : Cert.Reference4Ideal.Facts] [hPre_experts_named : Cert.Pre_experts_named.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts_named m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_gains [hKernel5Ideal : Cert.Kernel5Ideal.Facts] [hPre_finite_gains : Cert.Pre_finite_gains.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_gains m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_gains [hReference5Ideal : Cert.Reference5Ideal.Facts] [hPre_finite_gains : Cert.Pre_finite_gains.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_gains m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Kernel6Ideal_pre_padding_zero [hKernel6Ideal : Cert.Kernel6Ideal.Facts] [hPre_padding_zero : Cert.Pre_padding_zero.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_padding_zero m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Reference6Ideal_pre_padding_zero [hReference6Ideal : Cert.Reference6Ideal.Facts] [hPre_padding_zero : Cert.Pre_padding_zero.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_padding_zero m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v17) = v2 c
          ∧ r.2.mem ((c.tc : Thread Cert.Reference2Ideal.nD Cert.Reference2Ideal.τ).loc Cert.Reference2Ideal.main_v18) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  IdealRules.named_const.Statement Cert.Kernel5Ideal.κ "scale" .f32 0x3DB504F3#32 (((Real.sqrt 128)⁻¹ : ℝ) : EReal)

def algebraic_Kernel5Ideal_Reference5Ideal_pre_finite_gains [hKernel5Ideal : Cert.Kernel5Ideal.Facts] [hReference5Ideal : Cert.Reference5Ideal.Facts] [hPre_finite_gains : Cert.Pre_finite_gains.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_gains m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "scale" .f32 0x3D93CD3A#32 (((Real.sqrt 192)⁻¹ : ℝ) : EReal)

def algebraic_Kernel6Ideal_Reference6Ideal_pre_padding_zero [hKernel6Ideal : Cert.Kernel6Ideal.Facts] [hReference6Ideal : Cert.Reference6Ideal.Facts] [hPre_padding_zero : Cert.Pre_padding_zero.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_padding_zero m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v17_0)) (v1 : (c : Dev Cert.Kernel6Ideal.nD) → Buf (Elt Ideal) ((c.tc : Thread Cert.Kernel6Ideal.nD Cert.Kernel6Ideal.τ).loc Cert.Kernel6Ideal.main_v17_1)) (v2 : (c : Dev Cert.Kernel6Ideal.nD) → Buf (Elt Ideal) ((c.tc : Thread Cert.Kernel6Ideal.nD Cert.Kernel6Ideal.τ).loc Cert.Kernel6Ideal.main_v17_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17_0) = v0 c
          ∧ r.2.mem ((c.tc : Thread Cert.Kernel6Ideal.nD Cert.Kernel6Ideal.τ).loc Cert.Kernel6Ideal.main_v17_1) = v1 c
          ∧ r.2.mem ((c.tc : Thread Cert.Kernel6Ideal.nD Cert.Kernel6Ideal.τ).loc Cert.Kernel6Ideal.main_v17_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v126) = v0 c
          ∧ r.2.mem ((c.tc : Thread Cert.Reference6Ideal.nD Cert.Reference6Ideal.τ).loc Cert.Reference6Ideal.main_v128) = v1 c
          ∧ r.2.mem ((c.tc : Thread Cert.Reference6Ideal.nD Cert.Reference6Ideal.τ).loc Cert.Reference6Ideal.main_v130) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v57) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_experts_named : Cert.Pre_experts_named.Facts) (hPre_finite_gains : Cert.Pre_finite_gains.Facts) (hPre_padding_zero : Cert.Pre_padding_zero.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts_named := hPre_experts_named)
    ∧ quiescent_Kernel4Ideal (hKernel4Ideal := hKernel4Ideal) (hPre_experts_named := hPre_experts_named)
    ∧ quiescent_Reference4Ideal (hReference4Ideal := hReference4Ideal)
    ∧ quiescent_Reference4Ideal_pre_experts_named (hReference4Ideal := hReference4Ideal) (hPre_experts_named := hPre_experts_named)
    ∧ quiescent_Kernel5 (hKernel5 := hKernel5)
    ∧ quiescent_Kernel5Ideal (hKernel5Ideal := hKernel5Ideal)
    ∧ quiescent_Kernel5Ideal_pre_finite_gains (hKernel5Ideal := hKernel5Ideal) (hPre_finite_gains := hPre_finite_gains)
    ∧ quiescent_Reference5Ideal (hReference5Ideal := hReference5Ideal)
    ∧ quiescent_Reference5Ideal_pre_finite_gains (hReference5Ideal := hReference5Ideal) (hPre_finite_gains := hPre_finite_gains)
    ∧ quiescent_Kernel6 (hKernel6 := hKernel6)
    ∧ quiescent_Kernel6Ideal (hKernel6Ideal := hKernel6Ideal)
    ∧ quiescent_Kernel6Ideal_pre_padding_zero (hKernel6Ideal := hKernel6Ideal) (hPre_padding_zero := hPre_padding_zero)
    ∧ quiescent_Reference6Ideal (hReference6Ideal := hReference6Ideal)
    ∧ quiescent_Reference6Ideal_pre_padding_zero (hReference6Ideal := hReference6Ideal) (hPre_padding_zero := hPre_padding_zero)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_experts_named := hPre_experts_named)
    ∧ preserves_Kernel5_Kernel5Ideal
    ∧ algebraic_Kernel5Ideal_Reference5Ideal_pre_finite_gains (hKernel5Ideal := hKernel5Ideal) (hReference5Ideal := hReference5Ideal) (hPre_finite_gains := hPre_finite_gains)
    ∧ preserves_Kernel6_Kernel6Ideal
    ∧ algebraic_Kernel6Ideal_Reference6Ideal_pre_padding_zero (hKernel6Ideal := hKernel6Ideal) (hReference6Ideal := hReference6Ideal) (hPre_padding_zero := hPre_padding_zero)
    ∧ preserves_Kernel7_Kernel7Ideal
    ∧ algebraic_Kernel7Ideal_Reference7Ideal (hKernel7Ideal := hKernel7Ideal) (hReference7Ideal := hReference7Ideal)
-- ==== Pre_experts_named.lean ====
abbrev S40960x2048 : Shape := ⟨2, ![40960, 2048]⟩
abbrev S160 : Shape := ⟨1, ![160]⟩
abbrev S1 : Shape := ⟨1, ![1]⟩
abbrev S32x2048x512 : Shape := ⟨3, ![32, 2048, 512]⟩
abbrev S32x512x2048 : Shape := ⟨3, ![32, 512, 2048]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel

variable [Facts]

def fn {F : FTy → Type} [FloatOps F] (main_arg0 : FVec F S40960x2048 .bf16) (main_arg1 : IVec S160 32) (main_arg2 : IVec S1 32) (main_arg3 : FVec F S32x2048x512 .bf16) (main_arg4 : FVec F S32x2048x512 .bf16) (main_arg5 : FVec F S32x512x2048 .bf16) : IVec S_ 1 :=
  let main_c : IVec S_ 32 := constantI S_ 32 0#32
  let main_v0 : IVec S160 32 := broadcastInDim S160 ![] bcast_S_S160 main_c
  let main_v1 : IVec S160 1 := cmpi .sge main_arg1 main_v0
  let main_c_0 : IVec S_ 32 := constantI S_ 32 32#32
  let main_v2 : IVec S160 32 := broadcastInDim S160 ![] bcast_S_S160 main_c_0
  let main_v3 : IVec S160 1 := cmpi .slt main_arg1 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  main_v5
-- ==== Pre_finite_gains.lean ====
abbrev S16384x2048 : Shape := ⟨2, ![16384, 2048]⟩
abbrev S2048 : Shape := ⟨1, ![2048]⟩
abbrev S2048x512 : Shape := ⟨2, ![2048, 512]⟩
abbrev S128 : Shape := ⟨1, ![128]⟩
abbrev S256x1024 : Shape := ⟨2, ![256, 1024]⟩
abbrev S512x2048 : Shape := ⟨2, ![512, 2048]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S16384x2048 .f32) (main_arg1 : FVec F S2048 .f32) (main_arg2 : FVec F S2048x512 .bf16) (main_arg3 : FVec F S128 .f32) (main_arg4 : FVec F S256x1024 .f32) (main_arg5 : FVec F S128 .f32) (main_arg6 : FVec F S512x2048 .bf16) : IVec S_ 1 :=
  let main_v0 : FVec F S128 .f32 := Host.absf main_arg3
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg5
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Pre_finite_scores.lean ====
abbrev S4x16384x256 : Shape := ⟨3, ![4, 16384, 256]⟩
abbrev S4x16384x128 : Shape := ⟨3, ![4, 16384, 128]⟩
abbrev S_ : Shape := ⟨0, ![]⟩

class Facts : Prop where
  bitsLt_bf16_f32 : FTy.bits .bf16 < FTy.bits .f32
  bcast_S_S4x16384x256 : S_.BroadcastsInDim S4x16384x256 (![] : Fin 0 → Fin S4x16384x256.rank)
  reducesTo_S4x16384x256_S_d0_1_2 : S4x16384x256.ReducesTo [0, 1, 2] S_
  h_S_ : 0 < S_.numel

variable [Facts]

def fn {F : FTy → Type} [FloatOps F] (main_arg0 : FVec F S4x16384x256 .bf16) (main_arg1 : FVec F S4x16384x256 .bf16) (main_arg2 : FVec F S4x16384x128 .bf16) : IVec S_ 1 :=
  let main_v0 : FVec F S4x16384x256 .f32 := (extf .f32 · bitsLt_bf16_f32) main_arg0
  let main_v1 : FVec F S4x16384x256 .f32 := Host.absf main_v0
  let main_cst : FVec F S_ .f32 := constant S_ .f32 0x7F800000#32
  let main_v2 : FVec F S4x16384x256 .f32 := broadcastInDim S4x16384x256 ![] bcast_S_S4x16384x256 main_cst
  let main_v3 : IVec S4x16384x256 1 := cmpf .olt main_v1 main_v2
  let main_c : IVec S_ 1 := constantI S_ 1 1#1
  let main_v4 : IVec S_ 1 := (fun x v => Host.reduce IntOp.andi x v reducesTo_S4x16384x256_S_d0_1_2 h_S_) main_v3 main_c
  let main_v5 : FVec F S4x16384x256 .f32 := (extf .f32 · bitsLt_bf16_f32) main_arg1
  let main_v6 : FVec F S4x16384x256 .f32 := Host.absf main_v5
  let main_cst_0 : FVec F S_ .f32 := constant S_ .f32 0x7F800000#32
  let main_v7 : FVec F S4x16384x256 .f32 := broadcastInDim S4x16384x256 ![] bcast_S_S4x16384x256 main_cst_0
  let main_v8 : IVec S4x16384x256 1 := cmpf .olt main_v6 main_v7
  let main_c_1 : IVec S_ 1 := constantI S_ 1 1#1
  let main_v9 : IVec S_ 1 := (fun x v => Host.reduce IntOp.andi x v reducesTo_S4x16384x256_S_d0_1_2 h_S_) main_v8 main_c_1
  let main_v10 : IVec S_ 1 := andi main_v4 main_v9
  main_v10
-- ==== Pre_padding_zero.lean ====
abbrev S16384x896 : Shape := ⟨2, ![16384, 896]⟩
abbrev S16384x32 : Shape := ⟨2, ![16384, 32]⟩
abbrev S512 : Shape := ⟨1, ![512]⟩
abbrev S256 : Shape := ⟨1, ![256]⟩
abbrev S512x768 : Shape := ⟨2, ![512, 768]⟩
abbrev S256x1024 : Shape := ⟨2, ![256, 1024]⟩
abbrev S128 : Shape := ⟨1, ![128]⟩
abbrev S64 : Shape := ⟨1, ![64]⟩
abbrev S16384x64 : Shape := ⟨2, ![16384, 64]⟩
abbrev S_ : Shape := ⟨0, ![]⟩

class Facts : Prop where
  slices_S16384x896_S16384x64_0_832 : S16384x896.Slices ![0, 832] S16384x64
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x896 .f32) (main_arg1 : FVec F S16384x32 .f32) (main_arg2 : FVec F S16384x32 .f32) (main_arg3 : FVec F S512 .f32) (main_arg4 : FVec F S256 .f32) (main_arg5 : FVec F S512x768 .bf16) (main_arg6 : FVec F S256x1024 .bf16) (main_arg7 : FVec F S128 .f32) (main_arg8 : FVec F S64 .f32) (main_arg9 : FVec F S128 .f32) (main_arg10 : FVec F S64 .f32) : IVec S_ 1 :=
  let main_v0 : FVec F S16384x64 .f32 := (extractStridedSlice S16384x64 ![0, 832] · slices_S16384x896_S16384x64_0_832) main_arg0
  let main_cst : FVec F S_ .f32 := constant S_ .f32 0x00000000#32
  let main_v1 : FVec F S16384x64 .f32 := broadcastInDim S16384x64 ![] bcast_S_S16384x64 main_cst
  let main_v2 : IVec S16384x64 1 := cmpf .oeq main_v0 main_v1
  let main_c : IVec S_ 1 := constantI S_ 1 1#1
  let main_v3 : IVec S_ 1 := (fun x v => Host.reduce IntOp.andi x v reducesTo_S16384x64_S_d0_1 h_S_) main_v2 main_c
  main_v3
-- ==== Kernel.lean ====
abbrev S4x16384x256 : Shape := ⟨3, ![4, 16384, 256]⟩
abbrev S4x16384x128 : Shape := ⟨3, ![4, 16384, 128]⟩
abbrev S16384x512 : Shape := ⟨2, ![16384, 512]⟩
abbrev S1x256x256 : Shape := ⟨3, ![1, 256, 256]⟩
abbrev S1x16384x256 : Shape := ⟨3, ![1, 16384, 256]⟩
abbrev S1x16384x128 : Shape := ⟨3, ![1, 16384, 128]⟩
abbrev S256x128 : Shape := ⟨2, ![256, 128]⟩
abbrev S256x1 : Shape := ⟨2, ![256, 1]⟩
abbrev S256x256 : Shape := ⟨2, ![256, 256]⟩
abbrev S1x512x256 : Shape := ⟨3, ![1, 512, 256]⟩
abbrev S512x256 : Shape := ⟨2, ![512, 256]⟩
abbrev S1x512x128 : Shape := ⟨3, ![1, 512, 128]⟩
abbrev S512x128 : Shape := ⟨2, ![512, 128]⟩
abbrev S256x512 : Shape := ⟨2, ![256, 512]⟩
abbrev S256 : Shape := ⟨1, ![256]⟩

abbrev nBuf : Space → Nat
  | .hbm => 4
  | .vmem => 11
  | .smem => 0
  | _ => 0

abbrev bufTy : (tb : Table) → Fin (tcTables nBuf tb) → BufTy
  | .hbm, ⟨0, _⟩ => ⟨S4x16384x256, .bf16⟩
  | .hbm, ⟨1, _⟩ => ⟨S4x16384x256, .bf16⟩
  | .hbm, ⟨2, _⟩ => ⟨S4x16384x128, .bf16⟩
  | .hbm, ⟨3, _⟩ => ⟨S16384x512, .f32⟩
  | .local _ .vmem, ⟨0, _⟩ => ⟨S1x256x256, .bf16⟩
  | .local _ .vmem, ⟨1, _⟩ => ⟨S1x256x256, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x16384x128, .bf16⟩
  | .local _ .vmem, ⟨5, _⟩ => ⟨S1x16384x128, .bf16⟩
  | .local _ .vmem, ⟨6, _⟩ => ⟨S256x128, .f32⟩
  | .local _ .vmem, ⟨7, _⟩ => ⟨S256x128, .f32⟩
  | .local _ .vmem, ⟨8, _⟩ => ⟨S256x1, .f32⟩
  | .local _ .vmem, ⟨9, _⟩ => ⟨S256x1, .f32⟩
  | .local _ .vmem, ⟨10, _⟩ => ⟨S256x128, .f32⟩
  | _, _ => ⟨S4x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 64], ![false, false]⟩

@[reducible] def k0_t1_loop (i : grid0.Coords) : Scf.Loop 32 :=
  let c0_i32_15 : BitVec 32 := 0#32
  let arg1 : BitVec 32 := BitVec.ofNat 32 (i 1).val
  let c256_i32 : BitVec 32 := 256#32
  let v14 : BitVec 32 := Scalar.muli arg1 c256_i32
  let c0_i32 : BitVec 32 := 0#32
  let v16 : BitVec 1 := Scalar.cmpi .sgt v14 c0_i32
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c512_i32 : BitVec 32 := 512#32
  let c0_i32_11 : BitVec 32 := 0#32
  let v21 : BitVec 1 := Scalar.cmpi .sgt c512_i32 c0_i32_11
  let v22 : BitVec 32 := Scalar.extui v21
  let c0_i32_12 : BitVec 32 := 0#32
  let v23 : BitVec 1 := Scalar.cmpi .slt c512_i32 c0_i32_12
  let v24 : BitVec 32 := Scalar.extui v23
  let v25 : BitVec 32 := Scalar.subi v22 v24
  let v26 : BitVec 1 := Scalar.cmpi .ne v20 v25
  let v27 : BitVec 32 := Scalar.remsi v14 c512_i32
  let c0_i32_13 : BitVec 32 := 0#32
  let v28 : BitVec 1 := Scalar.cmpi .ne v27 c0_i32_13
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_17 : BitVec 32 := 1#32
  ⟨c0_i32_15, v36, c1_i32_17⟩
def k0_mult1 (i : grid0.Coords) (k0_t1 : Fin (k0_t1_loop i).trips) : BitVec 32 :=
  let c0_i32_15 : BitVec 32 := 0#32
  let c1_i32_17 : BitVec 32 := 1#32
  let arg9 : BitVec 32 := Scf.iv c0_i32_15 c1_i32_17 k0_t1
  let c512_i32_48 : BitVec 32 := 512#32
  let v90 : BitVec 32 := Scalar.muli arg9 c512_i32_48
  v90
def k0_off1 (i : grid0.Coords) (k0_t1 : Fin (k0_t1_loop i).trips) : Fin 3 → Nat :=
  let c0_49 : Index := 0#32
  let c0_i32_15 : BitVec 32 := 0#32
  let c1_i32_17 : BitVec 32 := 1#32
  let arg9 : BitVec 32 := Scf.iv c0_i32_15 c1_i32_17 k0_t1
  let c512_i32_48 : BitVec 32 := 512#32
  let v90 : BitVec 32 := Scalar.muli arg9 c512_i32_48
  let v91 : BitVec 32 := v90
  let v92 : Index := Scalar.indexCast v91
  let c0_50 : Index := 0#32
  ![0, v92.toNat, 0]
def k0_off2 (i : grid0.Coords) (k0_t1 : Fin (k0_t1_loop i).trips) : Fin 3 → Nat :=
  let c0_51 : Index := 0#32
  let c0_i32_15 : BitVec 32 := 0#32
  let c1_i32_17 : BitVec 32 := 1#32
  let arg9 : BitVec 32 := Scf.iv c0_i32_15 c1_i32_17 k0_t1
  let c512_i32_48 : BitVec 32 := 512#32
  let v90 : BitVec 32 := Scalar.muli arg9 c512_i32_48
  let v91 : BitVec 32 := v90
  let v95 : Index := Scalar.indexCast v91
  let c0_52 : Index := 0#32
  ![0, v95.toNat, 0]
@[reducible] def k0_t2_loop (i : grid0.Coords) : Scf.Loop 32 :=
  let c0_i32_15 : BitVec 32 := 0#32
  let arg1 : BitVec 32 := BitVec.ofNat 32 (i 1).val
  let c256_i32 : BitVec 32 := 256#32
  let v14 : BitVec 32 := Scalar.muli arg1 c256_i32
  let c0_i32 : BitVec 32 := 0#32
  let v16 : BitVec 1 := Scalar.cmpi .sgt v14 c0_i32
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c512_i32 : BitVec 32 := 512#32
  let c0_i32_11 : BitVec 32 := 0#32
  let v21 : BitVec 1 := Scalar.cmpi .sgt c512_i32 c0_i32_11
  let v22 : BitVec 32 := Scalar.extui v21
  let c0_i32_12 : BitVec 32 := 0#32
  let v23 : BitVec 1 := Scalar.cmpi .slt c512_i32 c0_i32_12
  let v24 : BitVec 32 := Scalar.extui v23
  let v25 : BitVec 32 := Scalar.subi v22 v24
  let v26 : BitVec 1 := Scalar.cmpi .ne v20 v25
  let v27 : BitVec 32 := Scalar.remsi v14 c512_i32
  let c0_i32_13 : BitVec 32 := 0#32
  let v28 : BitVec 1 := Scalar.cmpi .ne v27 c0_i32_13
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let v33 : BitVec 32 := Scalar.addi c0_i32_15 v32
  let c1_i32_18 : BitVec 32 := 1#32
  ⟨v36, v33, c1_i32_18⟩
def k0_mult2 (i : grid0.Coords) (k0_t2 : Fin (k0_t2_loop i).trips) : BitVec 32 :=
  let c0_i32_15 : BitVec 32 := 0#32
  let arg1 : BitVec 32 := BitVec.ofNat 32 (i 1).val
  let c256_i32 : BitVec 32 := 256#32
  let v14 : BitVec 32 := Scalar.muli arg1 c256_i32
  let c0_i32 : BitVec 32 := 0#32
  let v16 : BitVec 1 := Scalar.cmpi .sgt v14 c0_i32
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c512_i32 : BitVec 32 := 512#32
  let c0_i32_11 : BitVec 32 := 0#32
  let v21 : BitVec 1 := Scalar.cmpi .sgt c512_i32 c0_i32_11
  let v22 : BitVec 32 := Scalar.extui v21
  let c0_i32_12 : BitVec 32 := 0#32
  let v23 : BitVec 1 := Scalar.cmpi .slt c512_i32 c0_i32_12
  let v24 : BitVec 32 := Scalar.extui v23
  let v25 : BitVec 32 := Scalar.subi v22 v24
  let v26 : BitVec 1 := Scalar.cmpi .ne v20 v25
  let v27 : BitVec 32 := Scalar.remsi v14 c512_i32
  let c0_i32_13 : BitVec 32 := 0#32
  let v28 : BitVec 1 := Scalar.cmpi .ne v27 c0_i32_13
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg9 : BitVec 32 := Scf.iv v36 c1_i32_18 k0_t2
  let c512_i32_48 : BitVec 32 := 512#32
  let v90 : BitVec 32 := Scalar.muli arg9 c512_i32_48
  v90
def k0_off3 (i : grid0.Coords) (k0_t2 : Fin (k0_t2_loop i).trips) : Fin 3 → Nat :=
  let c0_49 : Index := 0#32
  let c0_i32_15 : BitVec 32 := 0#32
  let arg1 : BitVec 32 := BitVec.ofNat 32 (i 1).val
  let c256_i32 : BitVec 32 := 256#32
  let v14 : BitVec 32 := Scalar.muli arg1 c256_i32
  let c0_i32 : BitVec 32 := 0#32
  let v16 : BitVec 1 := Scalar.cmpi .sgt v14 c0_i32
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c512_i32 : BitVec 32 := 512#32
  let c0_i32_11 : BitVec 32 := 0#32
  let v21 : BitVec 1 := Scalar.cmpi .sgt c512_i32 c0_i32_11
  let v22 : BitVec 32 := Scalar.extui v21
  let c0_i32_12 : BitVec 32 := 0#32
  let v23 : BitVec 1 := Scalar.cmpi .slt c512_i32 c0_i32_12
  let v24 : BitVec 32 := Scalar.extui v23
  let v25 : BitVec 32 := Scalar.subi v22 v24
  let v26 : BitVec 1 := Scalar.cmpi .ne v20 v25
  let v27 : BitVec 32 := Scalar.remsi v14 c512_i32
  let c0_i32_13 : BitVec 32 := 0#32
  let v28 : BitVec 1 := Scalar.cmpi .ne v27 c0_i32_13
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg9 : BitVec 32 := Scf.iv v36 c1_i32_18 k0_t2
  let c512_i32_48 : BitVec 32 := 512#32
  let v90 : BitVec 32 := Scalar.muli arg9 c512_i32_48
  let v91 : BitVec 32 := v90
  let v92 : Index := Scalar.indexCast v91
  let c0_50 : Index := 0#32
  ![0, v92.toNat, 0]
def k0_off4 (i : grid0.Coords) (k0_t2 : Fin (k0_t2_loop i).trips) : Fin 3 → Nat :=
  let c0_51 : Index := 0#32
  let c0_i32_15 : BitVec 32 := 0#32
  let arg1 : BitVec 32 := BitVec.ofNat 32 (i 1).val
  let c256_i32 : BitVec 32 := 256#32
  let v14 : BitVec 32 := Scalar.muli arg1 c256_i32
  let c0_i32 : BitVec 32 := 0#32
  let v16 : BitVec 1 := Scalar.cmpi .sgt v14 c0_i32
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c512_i32 : BitVec 32 := 512#32
  let c0_i32_11 : BitVec 32 := 0#32
  let v21 : BitVec 1 := Scalar.cmpi .sgt c512_i32 c0_i32_11
  let v22 : BitVec 32 := Scalar.extui v21
  let c0_i32_12 : BitVec 32 := 0#32
  let v23 : BitVec 1 := Scalar.cmpi .slt c512_i32 c0_i32_12
  let v24 : BitVec 32 := Scalar.extui v23
  let v25 : BitVec 32 := Scalar.subi v22 v24
  let v26 : BitVec 1 := Scalar.cmpi .ne v20 v25
  let v27 : BitVec 32 := Scalar.remsi v14 c512_i32
  let c0_i32_13 : BitVec 32 := 0#32
  let v28 : BitVec 1 := Scalar.cmpi .ne v27 c0_i32_13
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let v32 : BitVec 32 := Scalar.subi v31 c0_i32_15
  let c1_i32_16 : BitVec 32 := 1#32
  let v34 : BitVec 32 := Scalar.divsi v32 c1_i32_16
  let v35 : BitVec 32 := Scalar.muli v34 c1_i32_16
  let v36 : BitVec 32 := Scalar.addi c0_i32_15 v35
  let c1_i32_18 : BitVec 32 := 1#32
  let arg9 : BitVec 32 := Scf.iv v36 c1_i32_18 k0_t2
  let c512_i32_48 : BitVec 32 := 512#32
  let v90 : BitVec 32 := Scalar.muli arg9 c512_i32_48
  let v91 : BitVec 32 := v90
  let v95 : Index := Scalar.indexCast v91
  let c0_52 : Index := 0#32
  ![0, v95.toNat, 0]
def k0_mult3 (i : grid0.Coords) : BitVec 32 :=
  let arg1 : BitVec 32 := BitVec.ofNat 32 (i 1).val
  let c256_i32 : BitVec 32 := 256#32
  let v14 : BitVec 32 := Scalar.muli arg1 c256_i32
  let c0_i32 : BitVec 32 := 0#32
  let v16 : BitVec 1 := Scalar.cmpi .sgt v14 c0_i32
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c512_i32 : BitVec 32 := 512#32
  let c0_i32_11 : BitVec 32 := 0#32
  let v21 : BitVec 1 := Scalar.cmpi .sgt c512_i32 c0_i32_11
  let v22 : BitVec 32 := Scalar.extui v21
  let c0_i32_12 : BitVec 32 := 0#32
  let v23 : BitVec 1 := Scalar.cmpi .slt c512_i32 c0_i32_12
  let v24 : BitVec 32 := Scalar.extui v23
  let v25 : BitVec 32 := Scalar.subi v22 v24
  let v26 : BitVec 1 := Scalar.cmpi .ne v20 v25
  let v27 : BitVec 32 := Scalar.remsi v14 c512_i32
  let c0_i32_13 : BitVec 32 := 0#32
  let v28 : BitVec 1 := Scalar.cmpi .ne v27 c0_i32_13
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let c512_i32_19 : BitVec 32 := 512#32
  let v37 : BitVec 32 := Scalar.muli v31 c512_i32_19
  v37
def k0_off5 (i : grid0.Coords) : Fin 3 → Nat :=
  let c0_20 : Index := 0#32
  let arg1 : BitVec 32 := BitVec.ofNat 32 (i 1).val
  let c256_i32 : BitVec 32 := 256#32
  let v14 : BitVec 32 := Scalar.muli arg1 c256_i32
  let c0_i32 : BitVec 32 := 0#32
  let v16 : BitVec 1 := Scalar.cmpi .sgt v14 c0_i32
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c512_i32 : BitVec 32 := 512#32
  let c0_i32_11 : BitVec 32 := 0#32
  let v21 : BitVec 1 := Scalar.cmpi .sgt c512_i32 c0_i32_11
  let v22 : BitVec 32 := Scalar.extui v21
  let c0_i32_12 : BitVec 32 := 0#32
  let v23 : BitVec 1 := Scalar.cmpi .slt c512_i32 c0_i32_12
  let v24 : BitVec 32 := Scalar.extui v23
  let v25 : BitVec 32 := Scalar.subi v22 v24
  let v26 : BitVec 1 := Scalar.cmpi .ne v20 v25
  let v27 : BitVec 32 := Scalar.remsi v14 c512_i32
  let c0_i32_13 : BitVec 32 := 0#32
  let v28 : BitVec 1 := Scalar.cmpi .ne v27 c0_i32_13
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let c512_i32_19 : BitVec 32 := 512#32
  let v37 : BitVec 32 := Scalar.muli v31 c512_i32_19
  let v38 : BitVec 32 := v37
  let v39 : Index := Scalar.indexCast v38
  let c0_21 : Index := 0#32
  ![0, v39.toNat, 0]
def k0_off6 (i : grid0.Coords) : Fin 3 → Nat :=
  let c0_22 : Index := 0#32
  let arg1 : BitVec 32 := BitVec.ofNat 32 (i 1).val
  let c256_i32 : BitVec 32 := 256#32
  let v14 : BitVec 32 := Scalar.muli arg1 c256_i32
  let c0_i32 : BitVec 32 := 0#32
  let v16 : BitVec 1 := Scalar.cmpi .sgt v14 c0_i32
  let v17 : BitVec 32 := Scalar.extui v16
  let c0_i32_10 : BitVec 32 := 0#32
  let v18 : BitVec 1 := Scalar.cmpi .slt v14 c0_i32_10
  let v19 : BitVec 32 := Scalar.extui v18
  let v20 : BitVec 32 := Scalar.subi v17 v19
  let c512_i32 : BitVec 32 := 512#32
  let c0_i32_11 : BitVec 32 := 0#32
  let v21 : BitVec 1 := Scalar.cmpi .sgt c512_i32 c0_i32_11
  let v22 : BitVec 32 := Scalar.extui v21
  let c0_i32_12 : BitVec 32 := 0#32
  let v23 : BitVec 1 := Scalar.cmpi .slt c512_i32 c0_i32_12
  let v24 : BitVec 32 := Scalar.extui v23
  let v25 : BitVec 32 := Scalar.subi v22 v24
  let v26 : BitVec 1 := Scalar.cmpi .ne v20 v25
  let v27 : BitVec 32 := Scalar.remsi v14 c512_i32
  let c0_i32_13 : BitVec 32 := 0#32
  let v28 : BitVec 1 := Scalar.cmpi .ne v27 c0_i32_13
  let v29 : BitVec 1 := Scalar.andi v26 v28
  let v15 : BitVec 32 := Scalar.divsi v14 c512_i32
  let c1_i32 : BitVec 32 := 1#32
  let v30 : BitVec 32 := Scalar.subi v15 c1_i32
  let v31 : BitVec 32 := Scalar.select v29 v30 v15
  let c512_i32_19 : BitVec 32 := 512#32
  let v37 : BitVec 32 := Scalar.muli v31 c512_i32_19
  let v38 : BitVec 32 := v37
  let v42 : Index := Scalar.indexCast v38
  let c0_23 : Index := 0#32
  ![0, v42.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x16384x256 : Shape := ⟨3, ![4, 16384, 256]⟩
abbrev S4x16384x128 : Shape := ⟨3, ![4, 16384, 128]⟩
abbrev S16384 : Shape := ⟨1, ![16384]⟩
abbrev S4x16384x16384 : Shape := ⟨3, ![4, 16384, 16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S4x16384 : Shape := ⟨2, ![4, 16384]⟩
abbrev S4x16384x1 : Shape := ⟨3, ![4, 16384, 1]⟩
abbrev S4x128x16384 : Shape := ⟨3, ![4, 128, 16384]⟩
abbrev S16384x4x128 : Shape := ⟨3, ![16384, 4, 128]⟩
abbrev S16384x512 : Shape := ⟨2, ![16384, 512]⟩

abbrev nBuf : Space → Nat
  | .hbm => 35
  | .vmem => 0
  | .smem => 0
  | _ => 0

abbrev bufTy : (tb : Table) → Fin (tcTables nBuf tb) → BufTy
  | .hbm, ⟨0, _⟩ => ⟨S4x16384x256, .bf16⟩
  | .hbm, ⟨1, _⟩ => ⟨S4x16384x256, .bf16⟩
  | .hbm, ⟨2, _⟩ => ⟨S4x16384x128, .bf16⟩
  | .hbm, ⟨3, _⟩ => ⟨S4x16384x256, .f32⟩
  | .hbm, ⟨4, _⟩ => ⟨S4x16384x256, .f32⟩
  | .hbm, ⟨5, _⟩ => ⟨S4x16384x128, .f32⟩
  | .hbm, ⟨6, _⟩ => ⟨S16384, .i32⟩
  | .hbm, ⟨7, _⟩ => ⟨S4x16384x16384, .f32⟩
  | .hbm, ⟨8, _⟩ => ⟨S1x16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S_, .f32⟩
  | .hbm, ⟨14, _⟩ => ⟨S_, .f32⟩
  | .hbm, ⟨15, _⟩ => ⟨S4x16384x16384, .i1⟩
  | .hbm, ⟨16, _⟩ => ⟨S4x16384x16384, .f32⟩
  | .hbm, ⟨17, _⟩ => ⟨S4x16384x16384, .f32⟩
  | .hbm, ⟨18, _⟩ => ⟨S_, .f32⟩
  | .hbm, ⟨19, _⟩ => ⟨S4x16384, .f32⟩
  | .hbm, ⟨20, _⟩ => ⟨S_, .f32⟩
  | .hbm, ⟨21, _⟩ => ⟨S4x16384, .f32⟩
  | .hbm, ⟨22, _⟩ => ⟨S4x16384, .f32⟩
  | .hbm, ⟨23, _⟩ => ⟨S4x16384x1, .f32⟩
  | .hbm, ⟨24, _⟩ => ⟨S4x16384x16384, .f32⟩
  | .hbm, ⟨25, _⟩ => ⟨S4x16384x16384, .f32⟩
  | .hbm, ⟨26, _⟩ => ⟨S4x16384x16384, .f32⟩
  | .hbm, ⟨27, _⟩ => ⟨S_, .f32⟩
  | .hbm, ⟨28, _⟩ => ⟨S4x16384, .f32⟩
  | .hbm, ⟨29, _⟩ => ⟨S4x16384x1, .f32⟩
  | .hbm, ⟨30, _⟩ => ⟨S4x16384x16384, .f32⟩
  | .hbm, ⟨31, _⟩ => ⟨S4x16384x16384, .f32⟩
  | .hbm, ⟨32, _⟩ => ⟨S4x128x16384, .f32⟩
  | .hbm, ⟨33, _⟩ => ⟨S16384x4x128, .f32⟩
  | .hbm, ⟨34, _⟩ => ⟨S16384x512, .f32⟩
  | _, _ => ⟨S4x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x3200 : Shape := ⟨2, ![2048, 3200]⟩
abbrev S1x2048 : Shape := ⟨2, ![1, 2048]⟩
abbrev S16384x768 : Shape := ⟨2, ![16384, 768]⟩
abbrev S16384x1024 : Shape := ⟨2, ![16384, 1024]⟩
abbrev S16384x896 : Shape := ⟨2, ![16384, 896]⟩
abbrev S16384x512 : Shape := ⟨2, ![16384, 512]⟩
abbrev S256x2048 : Shape := ⟨2, ![256, 2048]⟩
abbrev S256x768 : Shape := ⟨2, ![256, 768]⟩
abbrev S256x1024 : Shape := ⟨2, ![256, 1024]⟩
abbrev S256x896 : Shape := ⟨2, ![256, 896]⟩
abbrev S256x512 : Shape := ⟨2, ![256, 512]⟩
abbrev S256 : Shape := ⟨1, ![256]⟩
abbrev S256x1 : Shape := ⟨2, ![256, 1]⟩
abbrev S2048x768 : Shape := ⟨2, ![2048, 768]⟩
abbrev S2048x1024 : Shape := ⟨2, ![2048, 1024]⟩
abbrev S2048x896 : Shape := ⟨2, ![2048, 896]⟩
abbrev S2048x512 : Shape := ⟨2, ![2048, 512]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x3200, .bf16⟩
  | .hbm, ⟨3, _⟩ => ⟨S1x2048, .f32⟩
  | .hbm, ⟨4, _⟩ => ⟨S16384x768, .f32⟩
  | .hbm, ⟨5, _⟩ => ⟨S16384x1024, .f32⟩
  | .hbm, ⟨6, _⟩ => ⟨S16384x896, .f32⟩
  | .hbm, ⟨7, _⟩ => ⟨S16384x512, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x3200, .bf16⟩
  | .local _ .vmem, ⟨4, _⟩ => ⟨S256x768, .f32⟩
  | .local _ .vmem, ⟨5, _⟩ => ⟨S256x768, .f32⟩
  | .local _ .vmem, ⟨6, _⟩ => ⟨S256x1024, .f32⟩
  | .local _ .vmem, ⟨7, _⟩ => ⟨S256x1024, .f32⟩
  | .local _ .vmem, ⟨8, _⟩ => ⟨S256x896, .f32⟩
  | .local _ .vmem, ⟨9, _⟩ => ⟨S256x896, .f32⟩
  | .local _ .vmem, ⟨10, _⟩ => ⟨S256x512, .f32⟩
  | .local _ .vmem, ⟨11, _⟩ => ⟨S256x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x2048 : Shape := ⟨2, ![16384, 2048]⟩
abbrev S2048 : Shape := ⟨1, ![2048]⟩
abbrev S2048x3200 : Shape := ⟨2, ![2048, 3200]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x3200 : Shape := ⟨2, ![16384, 3200]⟩
abbrev S16384x768 : Shape := ⟨2, ![16384, 768]⟩
abbrev S16384x1024 : Shape := ⟨2, ![16384, 1024]⟩
abbrev S16384x896 : Shape := ⟨2, ![16384, 896]⟩
abbrev S16384x512 : Shape := ⟨2, ![16384, 512]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x3200, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S2048x3200, .f32⟩
  | .hbm, ⟨20, _⟩ => ⟨S16384x3200, .f32⟩
  | .hbm, ⟨21, _⟩ => ⟨S16384x768, .f32⟩
  | .hbm, ⟨22, _⟩ => ⟨S16384x1024, .f32⟩
  | .hbm, ⟨23, _⟩ => ⟨S16384x896, .f32⟩
  | .hbm, ⟨24, _⟩ => ⟨S16384x512, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel3.lean ====
abbrev S16384x2048 : Shape := ⟨2, ![16384, 2048]⟩
abbrev S16384x512 : Shape := ⟨2, ![16384, 512]⟩
abbrev S512x512 : Shape := ⟨2, ![512, 512]⟩
abbrev S512 : Shape := ⟨1, ![512]⟩
abbrev S2048 : Shape := ⟨1, ![2048]⟩
abbrev S2048x2048 : Shape := ⟨2, ![2048, 2048]⟩
abbrev S1x512 : Shape := ⟨2, ![1, 512]⟩
abbrev S1x2048 : Shape := ⟨2, ![1, 2048]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S512x2048 : Shape := ⟨2, ![512, 2048]⟩

abbrev nBuf : Space → Nat
  | .hbm => 12
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S512x512, .bf16⟩
  | .hbm, ⟨6, _⟩ => ⟨S512, .f32⟩
  | .hbm, ⟨7, _⟩ => ⟨S2048, .f32⟩
  | .hbm, ⟨8, _⟩ => ⟨S2048x2048, .bf16⟩
  | .hbm, ⟨9, _⟩ => ⟨S1x512, .f32⟩
  | .hbm, ⟨10, _⟩ => ⟨S1x2048, .f32⟩
  | .hbm, ⟨11, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S512x512, .bf16⟩
  | .local _ .vmem, ⟨11, _⟩ => ⟨S1x512, .f32⟩
  | .local _ .vmem, ⟨12, _⟩ => ⟨S1x2048, .f32⟩
  | .local _ .vmem, ⟨13, _⟩ => ⟨S2048x2048, .bf16⟩
  | .local _ .vmem, ⟨14, _⟩ => ⟨S256x2048, .f32⟩
  | .local _ .vmem, ⟨15, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x2048 : Shape := ⟨2, ![16384, 2048]⟩
abbrev S16384x512 : Shape := ⟨2, ![16384, 512]⟩
abbrev S512x512 : Shape := ⟨2, ![512, 512]⟩
abbrev S512 : Shape := ⟨1, ![512]⟩
abbrev S2048 : Shape := ⟨1, ![2048]⟩
abbrev S2048x2048 : Shape := ⟨2, ![2048, 2048]⟩
abbrev S_ : Shape := ⟨0, ![]⟩
abbrev S1x512 : Shape := ⟨2, ![1, 512]⟩
abbrev S16384x4x512 : Shape := ⟨3, ![16384, 4, 512]⟩
abbrev S4x512 : Shape := ⟨2, ![4, 512]⟩
abbrev S16384x4 : Shape := ⟨2, ![16384, 4]⟩
abbrev S16384x4x1 : Shape := ⟨3, ![16384, 4, 1]⟩
abbrev S1x4x512 : Shape := ⟨3, ![1, 4, 512]⟩

abbrev nBuf : Space → Nat
  | .hbm => 63
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S512x512, .bf16⟩
  | .hbm, ⟨6, _⟩ => ⟨S512, .f32⟩
  | .hbm, ⟨7, _⟩ => ⟨S2048, .f32⟩
  | .hbm, ⟨8, _⟩ => ⟨S2048x2048, .bf16⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S_, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S512x512, .f32⟩
  | .hbm, ⟨27, _⟩ => ⟨S16384x512, .f32⟩
  | .hbm, ⟨28, _⟩ => ⟨S1x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x2048, .f32⟩
  | .hbm, ⟨41, _⟩ => ⟨S16384x4x512, .f32⟩
  | .hbm, ⟨42, _⟩ => ⟨S4x512, .f32⟩
  | .hbm, ⟨43, _⟩ => ⟨S16384x4x512, .f32⟩
  | .hbm, ⟨44, _⟩ => ⟨S_, .f32⟩
  | .hbm, ⟨45, _⟩ => ⟨S16384x4, .f32⟩
  | .hbm, ⟨46, _⟩ => ⟨S16384x4x1, .f32⟩
  | .hbm, ⟨47, _⟩ => ⟨S_, .f32⟩
  | .hbm, ⟨48, _⟩ => ⟨S16384x4x1, .f32⟩
  | .hbm, ⟨49, _⟩ => ⟨S16384x4x1, .f32⟩
  | .hbm, ⟨50, _⟩ => ⟨S_, .f32⟩
  | .hbm, ⟨51, _⟩ => ⟨S16384x4x1, .f32⟩
  | .hbm, ⟨52, _⟩ => ⟨S16384x4x1, .f32⟩
  | .hbm, ⟨53, _⟩ => ⟨S16384x4x1, .f32⟩
  | .hbm, ⟨54, _⟩ => ⟨S16384x4x512, .f32⟩
  | .hbm, ⟨55, _⟩ => ⟨S16384x4x512, .f32⟩
  | .hbm, ⟨56, _⟩ => ⟨S1x4x512, .f32⟩
  | .hbm, ⟨57, _⟩ => ⟨S16384x4x512, .f32⟩
  | .hbm, ⟨58, _⟩ => ⟨S16384x4x512, .f32⟩
  | .hbm, ⟨59, _⟩ => ⟨S16384x2048, .f32⟩
  | .hbm, ⟨60, _⟩ => ⟨S2048x2048, .f32⟩
  | .hbm, ⟨61, _⟩ => ⟨S16384x2048, .f32⟩
  | .hbm, ⟨62, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Kernel4.lean ====
abbrev S40960x2048 : Shape := ⟨2, ![40960, 2048]⟩
abbrev S160 : Shape := ⟨1, ![160]⟩
abbrev S1 : Shape := ⟨1, ![1]⟩
abbrev S32x2048x512 : Shape := ⟨3, ![32, 2048, 512]⟩
abbrev S32x512x2048 : Shape := ⟨3, ![32, 512, 2048]⟩
abbrev S256x2048 : Shape := ⟨2, ![256, 2048]⟩
abbrev S1x2048x512 : Shape := ⟨3, ![1, 2048, 512]⟩
abbrev S1x512x2048 : Shape := ⟨3, ![1, 512, 2048]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 5
  | .vmem => 10
  | .smem => 2
  | _ => 0

abbrev bufTy : (tb : Table) → Fin (tcTables nBuf tb) → BufTy
  | .hbm, ⟨0, _⟩ => ⟨S40960x2048, .bf16⟩
  | .hbm, ⟨1, _⟩ => ⟨S32x2048x512, .bf16⟩
  | .hbm, ⟨2, _⟩ => ⟨S32x2048x512, .bf16⟩
  | .hbm, ⟨3, _⟩ => ⟨S32x512x2048, .bf16⟩
  | .hbm, ⟨4, _⟩ => ⟨S40960x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S256x2048, .bf16⟩
  | .local _ .vmem, ⟨9, _⟩ => ⟨S256x2048, .bf16⟩
  | .local _ .smem, ⟨0, _⟩ => ⟨S160, .i32⟩
  | .local _ .smem, ⟨1, _⟩ => ⟨S1, .i32⟩
  | _, _ => ⟨S40960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S40960x2048 : Shape := ⟨2, ![40960, 2048]⟩
abbrev S160 : Shape := ⟨1, ![160]⟩
abbrev S1 : Shape := ⟨1, ![1]⟩
abbrev S32x2048x512 : Shape := ⟨3, ![32, 2048, 512]⟩
abbrev S32x512x2048 : Shape := ⟨3, ![32, 512, 2048]⟩
abbrev S160x256x2048 : Shape := ⟨3, ![160, 256, 2048]⟩
abbrev S_ : Shape := ⟨0, ![]⟩
abbrev S160x1 : Shape := ⟨2, ![160, 1]⟩
abbrev S160x2048x512 : Shape := ⟨3, ![160, 2048, 512]⟩
abbrev S160x256x512 : Shape := ⟨3, ![160, 256, 512]⟩
abbrev S160x512x2048 : Shape := ⟨3, ![160, 512, 2048]⟩
abbrev S160x1x1 : Shape := ⟨3, ![160, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S40960x2048, .bf16⟩
  | .hbm, ⟨1, _⟩ => ⟨S160, .i32⟩
  | .hbm, ⟨2, _⟩ => ⟨S1, .i32⟩
  | .hbm, ⟨3, _⟩ => ⟨S32x2048x512, .bf16⟩
  | .hbm, ⟨4, _⟩ => ⟨S32x2048x512, .bf16⟩
  | .hbm, ⟨5, _⟩ => ⟨S32x512x2048, .bf16⟩
  | .hbm, ⟨6, _⟩ => ⟨S40960x2048, .f32⟩
  | .hbm, ⟨7, _⟩ => ⟨S160x256x2048, .f32⟩
  | .hbm, ⟨8, _⟩ => ⟨S32x2048x512, .f32⟩
  | .hbm, ⟨9, _⟩ => ⟨S_, .i32⟩
  | .hbm, ⟨10, _⟩ => ⟨S160, .i32⟩
  | .hbm, ⟨11, _⟩ => ⟨S160, .i1⟩
  | .hbm, ⟨12, _⟩ => ⟨S_, .i32⟩
  | .hbm, ⟨13, _⟩ => ⟨S160, .i32⟩
  | .hbm, ⟨14, _⟩ => ⟨S160, .i32⟩
  | .hbm, ⟨15, _⟩ => ⟨S160, .i32⟩
  | .hbm, ⟨16, _⟩ => ⟨S160x1, .i32⟩
  | .hbm, ⟨17, _⟩ => ⟨S160x2048x512, .f32⟩
  | .hbm, ⟨18, _⟩ => ⟨S160x256x512, .f32⟩
  | .hbm, ⟨19, _⟩ => ⟨S160x256x512, .f32⟩
  | .hbm, ⟨20, _⟩ => ⟨S160x256x512, .f32⟩
  | .hbm, ⟨21, _⟩ => ⟨S_, .f32⟩
  | .hbm, ⟨22, _⟩ => ⟨S160x256x512, .f32⟩
  | .hbm, ⟨23, _⟩ => ⟨S160x256x512, .f32⟩
  | .hbm, ⟨24, _⟩ => ⟨S_, .f32⟩
  | .hbm, ⟨25, _⟩ => ⟨S160x256x512, .f32⟩
  | .hbm, ⟨26, _⟩ => ⟨S160x256x512, .f32⟩
  | .hbm, ⟨27, _⟩ => ⟨S160x256x512, .f32⟩
  | .hbm, ⟨28, _⟩ => ⟨S32x2048x512, .f32⟩
  | .hbm, ⟨29, _⟩ => ⟨S_, .i32⟩
  | .hbm, ⟨30, _⟩ => ⟨S160, .i32⟩
  | .hbm, ⟨31, _⟩ => ⟨S160, .i1⟩
  | .hbm, ⟨32, _⟩ => ⟨S_, .i32⟩
  | .hbm, ⟨33, _⟩ => ⟨S160, .i32⟩
  | .hbm, ⟨34, _⟩ => ⟨S160, .i32⟩
  | .hbm, ⟨35, _⟩ => ⟨S160, .i32⟩
  | .hbm, ⟨36, _⟩ => ⟨S160x1, .i32⟩
  | .hbm, ⟨37, _⟩ => ⟨S160x2048x512, .f32⟩
  | .hbm, ⟨38, _⟩ => ⟨S160x256x512, .f32⟩
  | .hbm, ⟨39, _⟩ => ⟨S160x256x512, .f32⟩
  | .hbm, ⟨40, _⟩ => ⟨S32x512x2048, .f32⟩
  | .hbm, ⟨41, _⟩ => ⟨S_, .i32⟩
  | .hbm, ⟨42, _⟩ => ⟨S160, .i32⟩
  | .hbm, ⟨43, _⟩ => ⟨S160, .i1⟩
  | .hbm, ⟨44, _⟩ => ⟨S_, .i32⟩
  | .hbm, ⟨45, _⟩ => ⟨S160, .i32⟩
  | .hbm, ⟨46, _⟩ => ⟨S160, .i32⟩
  | .hbm, ⟨47, _⟩ => ⟨S160, .i32⟩
  | .hbm, ⟨48, _⟩ => ⟨S160x1, .i32⟩
  | .hbm, ⟨49, _⟩ => ⟨S160x512x2048, .f32⟩
  | .hbm, ⟨50, _⟩ => ⟨S160x256x2048, .f32⟩
  | .hbm, ⟨51, _⟩ => ⟨S160, .i32⟩
  | .hbm, ⟨52, _⟩ => ⟨S_, .i32⟩
  | .hbm, ⟨53, _⟩ => ⟨S160, .i32⟩
  | .hbm, ⟨54, _⟩ => ⟨S160, .i1⟩
  | .hbm, ⟨55, _⟩ => ⟨S160x1x1, .i1⟩
  | .hbm, ⟨56, _⟩ => ⟨S_, .f32⟩
  | .hbm, ⟨57, _⟩ => ⟨S_, .f32⟩
  | .hbm, ⟨58, _⟩ => ⟨S160x256x2048, .i1⟩
  | .hbm, ⟨59, _⟩ => ⟨S160x256x2048, .f32⟩
  | .hbm, ⟨60, _⟩ => ⟨S160x256x2048, .f32⟩
  | .hbm, ⟨61, _⟩ => ⟨S40960x2048, .f32⟩
  | .hbm, ⟨62, _⟩ => ⟨S40960x2048, .bf16⟩
  | _, _ => ⟨S40960x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S2048x512 : Shape := ⟨2, ![2048, 512]⟩
abbrev S128 : Shape := ⟨1, ![128]⟩
abbrev S256x1024 : Shape := ⟨2, ![256, 1024]⟩
abbrev S512x2048 : Shape := ⟨2, ![512, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S256x256 : Shape := ⟨2, ![256, 256]⟩
abbrev S128x2048 : Shape := ⟨2, ![128, 2048]⟩

abbrev nBuf : Space → Nat
  | .hbm => 11
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x512, .bf16⟩
  | .hbm, ⟨3, _⟩ => ⟨S128, .f32⟩
  | .hbm, ⟨4, _⟩ => ⟨S256x1024, .f32⟩
  | .hbm, ⟨5, _⟩ => ⟨S128, .f32⟩
  | .hbm, ⟨6, _⟩ => ⟨S512x2048, .bf16⟩
  | .hbm, ⟨7, _⟩ => ⟨S1x2048, .f32⟩
  | .hbm, ⟨8, _⟩ => ⟨S1x128, .f32⟩
  | .hbm, ⟨9, _⟩ => ⟨S1x128, .f32⟩
  | .hbm, ⟨10, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x512, .bf16⟩
  | .local _ .vmem, ⟨4, _⟩ => ⟨S1x128, .f32⟩
  | .local _ .vmem, ⟨5, _⟩ => ⟨S256x1024, .f32⟩
  | .local _ .vmem, ⟨6, _⟩ => ⟨S1x128, .f32⟩
  | .local _ .vmem, ⟨7, _⟩ => ⟨S512x2048, .bf16⟩
  | .local _ .vmem, ⟨8, _⟩ => ⟨S256x2048, .f32⟩
  | .local _ .vmem, ⟨9, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel5Ideal.lean ====
variable {F : FTy → Type} [FloatOps F] [Named F]
def κ : String → Option EReal := fun
  | "scale" => some (((Real.sqrt 128)⁻¹ : ℝ) : EReal)
  | _ => none
-- ==== Reference5Ideal.lean ====
abbrev S16384x2048 : Shape := ⟨2, ![16384, 2048]⟩
abbrev S2048 : Shape := ⟨1, ![2048]⟩
abbrev S2048x512 : Shape := ⟨2, ![2048, 512]⟩
abbrev S128 : Shape := ⟨1, ![128]⟩
abbrev S256x1024 : Shape := ⟨2, ![256, 1024]⟩
abbrev S512x2048 : Shape := ⟨2, ![512, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x512 : Shape := ⟨2, ![16384, 512]⟩
abbrev S16384x4x128 : Shape := ⟨3, ![16384, 4, 128]⟩
abbrev S16384x4 : Shape := ⟨2, ![16384, 4]⟩
abbrev S16384x4x1 : Shape := ⟨3, ![16384, 4, 1]⟩
abbrev S1x1x128 : Shape := ⟨3, ![1, 1, 128]⟩
abbrev S256x512 : Shape := ⟨2, ![256, 512]⟩
abbrev S256x4x128 : Shape := ⟨3, ![256, 4, 128]⟩
abbrev S256x4 : Shape := ⟨2, ![256, 4]⟩
abbrev S256x4x1 : Shape := ⟨3, ![256, 4, 1]⟩
abbrev S4x16384x256 : Shape := ⟨3, ![4, 16384, 256]⟩
abbrev S4x16384 : Shape := ⟨2, ![4, 16384]⟩
abbrev S4x16384x1 : Shape := ⟨3, ![4, 16384, 1]⟩
abbrev S4x128x16384 : Shape := ⟨3, ![4, 128, 16384]⟩

abbrev nBuf : Space → Nat
  | .hbm => 87
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x512, .bf16⟩
  | .hbm, ⟨3, _⟩ => ⟨S128, .f32⟩
  | .hbm, ⟨4, _⟩ => ⟨S256x1024, .f32⟩
  | .hbm, ⟨5, _⟩ => ⟨S128, .f32⟩
  | .hbm, ⟨6, _⟩ => ⟨S512x2048, .bf16⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x512, .f32⟩
  | .hbm, ⟨24, _⟩ => ⟨S16384x512, .f32⟩
  | .hbm, ⟨25, _⟩ => ⟨S16384x4x128, .f32⟩
  | .hbm, ⟨26, _⟩ => ⟨S16384x4x128, .f32⟩
  | .hbm, ⟨27, _⟩ => ⟨S_, .f32⟩
  | .hbm, ⟨28, _⟩ => ⟨S16384x4, .f32⟩
  | .hbm, ⟨29, _⟩ => ⟨S16384x4x1, .f32⟩
  | .hbm, ⟨30, _⟩ => ⟨S_, .f32⟩
  | .hbm, ⟨31, _⟩ => ⟨S16384x4x1, .f32⟩
  | .hbm, ⟨32, _⟩ => ⟨S16384x4x1, .f32⟩
  | .hbm, ⟨33, _⟩ => ⟨S_, .f32⟩
  | .hbm, ⟨34, _⟩ => ⟨S16384x4x1, .f32⟩
  | .hbm, ⟨35, _⟩ => ⟨S16384x4x1, .f32⟩
  | .hbm, ⟨36, _⟩ => ⟨S16384x4x1, .f32⟩
  | .hbm, ⟨37, _⟩ => ⟨S16384x4x128, .f32⟩
  | .hbm, ⟨38, _⟩ => ⟨S16384x4x128, .f32⟩
  | .hbm, ⟨39, _⟩ => ⟨S1x1x128, .f32⟩
  | .hbm, ⟨40, _⟩ => ⟨S16384x4x128, .f32⟩
  | .hbm, ⟨41, _⟩ => ⟨S16384x4x128, .f32⟩
  | .hbm, ⟨42, _⟩ => ⟨S256x512, .f32⟩
  | .hbm, ⟨43, _⟩ => ⟨S256x4x128, .f32⟩
  | .hbm, ⟨44, _⟩ => ⟨S256x4x128, .f32⟩
  | .hbm, ⟨45, _⟩ => ⟨S_, .f32⟩
  | .hbm, ⟨46, _⟩ => ⟨S256x4, .f32⟩
  | .hbm, ⟨47, _⟩ => ⟨S256x4x1, .f32⟩
  | .hbm, ⟨48, _⟩ => ⟨S_, .f32⟩
  | .hbm, ⟨49, _⟩ => ⟨S256x4x1, .f32⟩
  | .hbm, ⟨50, _⟩ => ⟨S256x4x1, .f32⟩
  | .hbm, ⟨51, _⟩ => ⟨S_, .f32⟩
  | .hbm, ⟨52, _⟩ => ⟨S256x4x1, .f32⟩
  | .hbm, ⟨53, _⟩ => ⟨S256x4x1, .f32⟩
  | .hbm, ⟨54, _⟩ => ⟨S256x4x1, .f32⟩
  | .hbm, ⟨55, _⟩ => ⟨S256x4x128, .f32⟩
  | .hbm, ⟨56, _⟩ => ⟨S256x4x128, .f32⟩
  | .hbm, ⟨57, _⟩ => ⟨S1x1x128, .f32⟩
  | .hbm, ⟨58, _⟩ => ⟨S256x4x128, .f32⟩
  | .hbm, ⟨59, _⟩ => ⟨S256x4x128, .f32⟩
  | .hbm, ⟨60, _⟩ => ⟨S256x512, .f32⟩
  | .hbm, ⟨61, _⟩ => ⟨S256x4x128, .f32⟩
  | .hbm, ⟨62, _⟩ => ⟨S4x16384x256, .f32⟩
  | .hbm, ⟨63, _⟩ => ⟨S_, .f32⟩
  | .hbm, ⟨64, _⟩ => ⟨S_, .f32⟩
  | .hbm, ⟨65, _⟩ => ⟨S4x16384x256, .f32⟩
  | .hbm, ⟨66, _⟩ => ⟨S4x16384x256, .f32⟩
  | .hbm, ⟨67, _⟩ => ⟨S_, .f32⟩
  | .hbm, ⟨68, _⟩ => ⟨S4x16384, .f32⟩
  | .hbm, ⟨69, _⟩ => ⟨S_, .f32⟩
  | .hbm, ⟨70, _⟩ => ⟨S4x16384, .f32⟩
  | .hbm, ⟨71, _⟩ => ⟨S4x16384, .f32⟩
  | .hbm, ⟨72, _⟩ => ⟨S4x16384x1, .f32⟩
  | .hbm, ⟨73, _⟩ => ⟨S4x16384x256, .f32⟩
  | .hbm, ⟨74, _⟩ => ⟨S4x16384x256, .f32⟩
  | .hbm, ⟨75, _⟩ => ⟨S4x16384x256, .f32⟩
  | .hbm, ⟨76, _⟩ => ⟨S_, .f32⟩
  | .hbm, ⟨77, _⟩ => ⟨S4x16384, .f32⟩
  | .hbm, ⟨78, _⟩ => ⟨S4x16384x1, .f32⟩
  | .hbm, ⟨79, _⟩ => ⟨S4x16384x256, .f32⟩
  | .hbm, ⟨80, _⟩ => ⟨S4x16384x256, .f32⟩
  | .hbm, ⟨81, _⟩ => ⟨S4x128x16384, .f32⟩
  | .hbm, ⟨82, _⟩ => ⟨S16384x4x128, .f32⟩
  | .hbm, ⟨83, _⟩ => ⟨S16384x512, .f32⟩
  | .hbm, ⟨84, _⟩ => ⟨S512x2048, .f32⟩
  | .hbm, ⟨85, _⟩ => ⟨S16384x2048, .f32⟩
  | .hbm, ⟨86, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]
-- ==== Kernel6.lean ====
abbrev S16384x896 : Shape := ⟨2, ![16384, 896]⟩
abbrev S16384x32 : Shape := ⟨2, ![16384, 32]⟩
abbrev S512 : Shape := ⟨1, ![512]⟩
abbrev S256 : Shape := ⟨1, ![256]⟩
abbrev S512x768 : Shape := ⟨2, ![512, 768]⟩
abbrev S256x1024 : Shape := ⟨2, ![256, 1024]⟩
abbrev S128 : Shape := ⟨1, ![128]⟩
abbrev S64 : Shape := ⟨1, ![64]⟩
abbrev S1x16384x1x32 : Shape := ⟨4, ![1, 16384, 1, 32]⟩
abbrev S1x16384x8x32 : Shape := ⟨4, ![1, 16384, 8, 32]⟩
abbrev S16384x256 : Shape := ⟨2, ![16384, 256]⟩
abbrev S1x64 : Shape := ⟨2, ![1, 64]⟩
abbrev S4x64 : Shape := ⟨2, ![4, 64]⟩
abbrev S_ : Shape := ⟨0, ![]⟩
abbrev S1x512 : Shape := ⟨2, ![1, 512]⟩
abbrev S1x256 : Shape := ⟨2, ![1, 256]⟩
abbrev S1x128 : Shape := ⟨2, ![1, 128]⟩
abbrev S4x16384x256 : Shape := ⟨3, ![4, 16384, 256]⟩
abbrev S4x16384x128 : Shape := ⟨3, ![4, 16384, 128]⟩
abbrev S256x896 : Shape := ⟨2, ![256, 896]⟩
abbrev S256x256 : Shape := ⟨2, ![256, 256]⟩
abbrev S4x256x256 : Shape := ⟨3, ![4, 256, 256]⟩
abbrev S4x256x128 : Shape := ⟨3, ![4, 256, 128]⟩
abbrev S256x512 : Shape := ⟨2, ![256, 512]⟩
abbrev S256x1 : Shape := ⟨2, ![256, 1]⟩
abbrev S256x768 : Shape := ⟨2, ![256, 768]⟩
abbrev S256x128 : Shape := ⟨2, ![256, 128]⟩
abbrev S1x256x256 : Shape := ⟨3, ![1, 256, 256]⟩
abbrev S1x256x128 : Shape := ⟨3, ![1, 256, 128]⟩

abbrev nBuf : Space → Nat
  | .hbm => 32
  | .vmem => 20
  | .smem => 0
  | _ => 0

abbrev bufTy : (tb : Table) → Fin (tcTables nBuf tb) → BufTy
  | .hbm, ⟨0, _⟩ => ⟨S16384x896, .f32⟩
  | .hbm, ⟨1, _⟩ => ⟨S16384x32, .f32⟩
  | .hbm, ⟨2, _⟩ => ⟨S16384x32, .f32⟩
  | .hbm, ⟨3, _⟩ => ⟨S512, .f32⟩
  | .hbm, ⟨4, _⟩ => ⟨S256, .f32⟩
  | .hbm, ⟨5, _⟩ => ⟨S512x768, .bf16⟩
  | .hbm, ⟨6, _⟩ => ⟨S256x1024, .bf16⟩
  | .hbm, ⟨7, _⟩ => ⟨S128, .f32⟩
  | .hbm, ⟨8, _⟩ => ⟨S64, .f32⟩
  | .hbm, ⟨9, _⟩ => ⟨S128, .f32⟩
  | .hbm, ⟨10, _⟩ => ⟨S64, .f32⟩
  | .hbm, ⟨11, _⟩ => ⟨S1x16384x1x32, .f32⟩
  | .hbm, ⟨12, _⟩ => ⟨S1x16384x8x32, .f32⟩
  | .hbm, ⟨13, _⟩ => ⟨S16384x256, .f32⟩
  | .hbm, ⟨14, _⟩ => ⟨S1x16384x1x32, .f32⟩
  | .hbm, ⟨15, _⟩ => ⟨S1x16384x8x32, .f32⟩
  | .hbm, ⟨16, _⟩ => ⟨S16384x256, .f32⟩
  | .hbm, ⟨17, _⟩ => ⟨S1x64, .f32⟩
  | .hbm, ⟨18, _⟩ => ⟨S4x64, .f32⟩
  | .hbm, ⟨19, _⟩ => ⟨S256, .f32⟩
  | .hbm, ⟨20, _⟩ => ⟨S_, .f32⟩
  | .hbm, ⟨21, _⟩ => ⟨S64, .f32⟩
  | .hbm, ⟨22, _⟩ => ⟨S128, .f32⟩
  | .hbm, ⟨23, _⟩ => ⟨S1x512, .f32⟩
  | .hbm, ⟨24, _⟩ => ⟨S1x256, .f32⟩
  | .hbm, ⟨25, _⟩ => ⟨S1x128, .f32⟩
  | .hbm, ⟨26, _⟩ => ⟨S1x256, .f32⟩
  | .hbm, ⟨27, _⟩ => ⟨S1x128, .f32⟩
  | .hbm, ⟨28, _⟩ => ⟨S1x128, .f32⟩
  | .hbm, ⟨29, _⟩ => ⟨S4x16384x256, .bf16⟩
  | .hbm, ⟨30, _⟩ => ⟨S4x16384x256, .bf16⟩
  | .hbm, ⟨31, _⟩ => ⟨S4x16384x128, .bf16⟩
  | .local _ .vmem, ⟨0, _⟩ => ⟨S256x896, .f32⟩
  | .local _ .vmem, ⟨1, _⟩ => ⟨S256x896, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x512, .f32⟩
  | .local _ .vmem, ⟨7, _⟩ => ⟨S1x256, .f32⟩
  | .local _ .vmem, ⟨8, _⟩ => ⟨S512x768, .bf16⟩
  | .local _ .vmem, ⟨9, _⟩ => ⟨S256x1024, .bf16⟩
  | .local _ .vmem, ⟨10, _⟩ => ⟨S1x128, .f32⟩
  | .local _ .vmem, ⟨11, _⟩ => ⟨S1x256, .f32⟩
  | .local _ .vmem, ⟨12, _⟩ => ⟨S1x128, .f32⟩
  | .local _ .vmem, ⟨13, _⟩ => ⟨S1x128, .f32⟩
  | .local _ .vmem, ⟨14, _⟩ => ⟨S4x256x256, .bf16⟩
  | .local _ .vmem, ⟨15, _⟩ => ⟨S4x256x256, .bf16⟩
  | .local _ .vmem, ⟨16, _⟩ => ⟨S4x256x256, .bf16⟩
  | .local _ .vmem, ⟨17, _⟩ => ⟨S4x256x256, .bf16⟩
  | .local _ .vmem, ⟨18, _⟩ => ⟨S4x256x128, .bf16⟩
  | .local _ .vmem, ⟨19, _⟩ => ⟨S4x256x128, .bf16⟩
  | _, _ => ⟨S16384x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel6Ideal.lean ====
variable {F : FTy → Type} [FloatOps F] [Named F]
def κ : String → Option EReal := fun
  | "scale" => some (((Real.sqrt 192)⁻¹ : ℝ) : EReal)
  | _ => none
-- ==== Reference6Ideal.lean ====
abbrev S16384x896 : Shape := ⟨2, ![16384, 896]⟩
abbrev S16384x32 : Shape := ⟨2, ![16384, 32]⟩
abbrev S512 : Shape := ⟨1, ![512]⟩
abbrev S256 : Shape := ⟨1, ![256]⟩
abbrev S512x768 : Shape := ⟨2, ![512, 768]⟩
abbrev S256x1024 : Shape := ⟨2, ![256, 1024]⟩
abbrev S128 : Shape := ⟨1, ![128]⟩
abbrev S64 : Shape := ⟨1, ![64]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S16384x768 : Shape := ⟨2, ![16384, 768]⟩
abbrev S16384x256 : Shape := ⟨2, ![16384, 256]⟩
abbrev S1x256 : Shape := ⟨2, ![1, 256]⟩
abbrev S16384x1024 : Shape := ⟨2, ![16384, 1024]⟩
abbrev S16384x4x128 : Shape := ⟨3, ![16384, 4, 128]⟩
abbrev S16384x4 : Shape := ⟨2, ![16384, 4]⟩
abbrev S16384x4x1 : Shape := ⟨3, ![16384, 4, 1]⟩
abbrev S1x1x128 : Shape := ⟨3, ![1, 1, 128]⟩
abbrev S16384x4x64 : Shape := ⟨3, ![16384, 4, 64]⟩
abbrev S1x1x64 : Shape := ⟨3, ![1, 1, 64]⟩
abbrev S16384x1x32 : Shape := ⟨3, ![16384, 1, 32]⟩
abbrev S16384x4x32 : Shape := ⟨3, ![16384, 4, 32]⟩
abbrev S16384x64 : Shape := ⟨2, ![16384, 64]⟩
abbrev S1x64 : Shape := ⟨2, ![1, 64]⟩
abbrev S16384x1x64 : Shape := ⟨3, ![16384, 1, 64]⟩
abbrev S16384x4x256 : Shape := ⟨3, ![16384, 4, 256]⟩
abbrev S4x16384x256 : Shape := ⟨3, ![4, 16384, 256]⟩
abbrev S4x16384x128 : Shape := ⟨3, ![4, 16384, 128]⟩

abbrev nBuf : Space → Nat
  | .hbm => 162
  | .vmem => 0
  | .smem => 0
  | _ => 0

abbrev hbmTy0_0 (i : Nat) : BufTy := match i % 128 with
  | 0 => ⟨S16384x896, .f32⟩
  | 1 => ⟨S16384x32, .f32⟩
  | 2 => ⟨S16384x32, .f32⟩
  | 3 => ⟨S512, .f32⟩
  | 4 => ⟨S256, .f32⟩
  | 5 => ⟨S512x768, .bf16⟩
  | 6 => ⟨S256x1024, .bf16⟩
  | 7 => ⟨S128, .f32⟩
  | 8 => ⟨S64, .f32⟩
  | 9 => ⟨S128, .f32⟩
  | 10 => ⟨S64, .f32⟩
  | 11 => ⟨S16384x512, .f32⟩
  | 12 => ⟨S16384x512, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1, .f32⟩
  | 23 => ⟨S16384x512, .f32⟩
  | 24 => ⟨S16384x512, .f32⟩
  | 25 => ⟨S1x512, .f32⟩
  | 26 => ⟨S16384x512, .f32⟩
  | 27 => ⟨S16384x512, .f32⟩
  | 28 => ⟨S512x768, .f32⟩
  | 29 => ⟨S16384x768, .f32⟩
  | 30 => ⟨S16384x256, .f32⟩
  | 31 => ⟨S16384x256, .f32⟩
  | 32 => ⟨S_, .f32⟩
  | 33 => ⟨S16384, .f32⟩
  | 34 => ⟨S16384x1, .f32⟩
  | 35 => ⟨S_, .f32⟩
  | 36 => ⟨S16384x1, .f32⟩
  | 37 => ⟨S16384x1, .f32⟩
  | 38 => ⟨S_, .f32⟩
  | 39 => ⟨S16384x1, .f32⟩
  | 40 => ⟨S16384x1, .f32⟩
  | 41 => ⟨S16384x1, .f32⟩
  | 42 => ⟨S16384x256, .f32⟩
  | 43 => ⟨S16384x256, .f32⟩
  | 44 => ⟨S1x256, .f32⟩
  | 45 => ⟨S16384x256, .f32⟩
  | 46 => ⟨S16384x256, .f32⟩
  | 47 => ⟨S256x1024, .f32⟩
  | 48 => ⟨S16384x1024, .f32⟩
  | 49 => ⟨S16384x512, .f32⟩
  | 50 => ⟨S16384x4x128, .f32⟩
  | 51 => ⟨S16384x4x128, .f32⟩
  | 52 => ⟨S_, .f32⟩
  | 53 => ⟨S16384x4, .f32⟩
  | 54 => ⟨S16384x4x1, .f32⟩
  | 55 => ⟨S_, .f32⟩
  | 56 => ⟨S16384x4x1, .f32⟩
  | 57 => ⟨S16384x4x1, .f32⟩
  | 58 => ⟨S_, .f32⟩
  | 59 => ⟨S16384x4x1, .f32⟩
  | 60 => ⟨S16384x4x1, .f32⟩
  | 61 => ⟨S16384x4x1, .f32⟩
  | 62 => ⟨S16384x4x128, .f32⟩
  | 63 => ⟨S16384x4x128, .f32⟩
  | 64 => ⟨S1x1x128, .f32⟩
  | 65 => ⟨S16384x4x128, .f32⟩
  | 66 => ⟨S16384x4x128, .f32⟩
  | 67 => ⟨S16384x256, .f32⟩
  | 68 => ⟨S16384x4x64, .f32⟩
  | 69 => ⟨S16384x4x64, .f32⟩
  | 70 => ⟨S_, .f32⟩
  | 71 => ⟨S16384x4, .f32⟩
  | 72 => ⟨S16384x4x1, .f32⟩
  | 73 => ⟨S_, .f32⟩
  | 74 => ⟨S16384x4x1, .f32⟩
  | 75 => ⟨S16384x4x1, .f32⟩
  | 76 => ⟨S_, .f32⟩
  | 77 => ⟨S16384x4x1, .f32⟩
  | 78 => ⟨S16384x4x1, .f32⟩
  | 79 => ⟨S16384x4x1, .f32⟩
  | 80 => ⟨S16384x4x64, .f32⟩
  | 81 => ⟨S16384x4x64, .f32⟩
  | 82 => ⟨S1x1x64, .f32⟩
  | 83 => ⟨S16384x4x64, .f32⟩
  | 84 => ⟨S16384x4x64, .f32⟩
  | 85 => ⟨S16384x1x32, .f32⟩
  | 86 => ⟨S16384x1x32, .f32⟩
  | 87 => ⟨S16384x4x32, .f32⟩
  | 88 => ⟨S16384x4x32, .f32⟩
  | 89 => ⟨S16384x4x32, .f32⟩
  | 90 => ⟨S16384x4x32, .f32⟩
  | 91 => ⟨S16384x4x32, .f32⟩
  | 92 => ⟨S16384x4x32, .f32⟩
  | 93 => ⟨S16384x4x32, .f32⟩
  | 94 => ⟨S16384x4x32, .f32⟩
  | 95 => ⟨S16384x4x32, .f32⟩
  | 96 => ⟨S16384x4x32, .f32⟩
  | 97 => ⟨S16384x4x32, .f32⟩
  | 98 => ⟨S16384x4x32, .f32⟩
  | 99 => ⟨S16384x4x64, .f32⟩
  | 100 => ⟨S16384x512, .f32⟩
  | 101 => ⟨S16384x4x128, .f32⟩
  | 102 => ⟨S16384x4x128, .f32⟩
  | 103 => ⟨S_, .f32⟩
  | 104 => ⟨S16384x4, .f32⟩
  | 105 => ⟨S16384x4x1, .f32⟩
  | 106 => ⟨S_, .f32⟩
  | 107 => ⟨S16384x4x1, .f32⟩
  | 108 => ⟨S16384x4x1, .f32⟩
  | 109 => ⟨S_, .f32⟩
  | 110 => ⟨S16384x4x1, .f32⟩
  | 111 => ⟨S16384x4x1, .f32⟩
  | 112 => ⟨S16384x4x1, .f32⟩
  | 113 => ⟨S16384x4x128, .f32⟩
  | 114 => ⟨S16384x4x128, .f32⟩
  | 115 => ⟨S1x1x128, .f32⟩
  | 116 => ⟨S16384x4x128, .f32⟩
  | 117 => ⟨S16384x4x128, .f32⟩
  | 118 => ⟨S16384x512, .f32⟩
  | 119 => ⟨S16384x4x128, .f32⟩
  | 120 => ⟨S16384x64, .f32⟩
  | 121 => ⟨S16384x64, .f32⟩
  | 122 => ⟨S_, .f32⟩
  | 123 => ⟨S16384, .f32⟩
  | 124 => ⟨S16384x1, .f32⟩
  | 125 => ⟨S_, .f32⟩
  | 126 => ⟨S16384x1, .f32⟩
  | 127 => ⟨S16384x1, .f32⟩
  | _ => ⟨S16384x896, .f32⟩

abbrev hbmTy0_1 (i : Nat) : BufTy := match i % 128 with
  | 0 => ⟨S_, .f32⟩
  | 1 => ⟨S16384x1, .f32⟩
  | 2 => ⟨S16384x1, .f32⟩
  | 3 => ⟨S16384x1, .f32⟩
  | 4 => ⟨S16384x64, .f32⟩
  | 5 => ⟨S16384x64, .f32⟩
  | 6 => ⟨S1x64, .f32⟩
  | 7 => ⟨S16384x64, .f32⟩
  | 8 => ⟨S16384x64, .f32⟩
  | 9 => ⟨S16384x32, .f32⟩
  | 10 => ⟨S16384x32, .f32⟩
  | 11 => ⟨S16384x32, .f32⟩
  | 12 => ⟨S16384x32, .f32⟩
  | 13 => ⟨S16384x32, .f32⟩
  | 14 => ⟨S16384x32, .f32⟩
  | 15 => ⟨S16384x32, .f32⟩
  | 16 => ⟨S16384x32, .f32⟩
  | 17 => ⟨S16384x64, .f32⟩
  | 18 => ⟨S16384x1x64, .f32⟩
  | 19 => ⟨S16384x4x64, .f32⟩
  | 20 => ⟨S_, .f32⟩
  | 21 => ⟨S16384x4x64, .f32⟩
  | 22 => ⟨S16384x4x256, .f32⟩
  | 23 => ⟨S_, .f32⟩
  | 24 => ⟨S_, .f32⟩
  | 25 => ⟨S16384x4x256, .f32⟩
  | 26 => ⟨S16384x4x256, .f32⟩
  | 27 => ⟨S16384x4x256, .f32⟩
  | 28 => ⟨S4x16384x256, .f32⟩
  | 29 => ⟨S4x16384x256, .bf16⟩
  | 30 => ⟨S4x16384x256, .f32⟩
  | 31 => ⟨S4x16384x256, .bf16⟩
  | 32 => ⟨S4x16384x128, .f32⟩
  | 33 => ⟨S4x16384x128, .bf16⟩
  | _ => ⟨S16384x896, .f32⟩

abbrev hbmTy (i : Nat) : BufTy := match i / 128 with
  | 0 => hbmTy0_0 i
  | 1 => hbmTy0_1 i
  | _ => ⟨S16384x896, .f32⟩

abbrev bufTy : (tb : Table) → Fin (tcTables nBuf tb) → BufTy
  | .hbm, ⟨i, _⟩ => hbmTy i
  | _, _ => ⟨S16384x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_11 : Ref sig .tc := ⟨.hbm, 103, rfl⟩
abbrev main_v80 : Ref sig .tc := ⟨.hbm, 104, rfl⟩
abbrev main_v81 : Ref sig .tc := ⟨.hbm, 105, rfl⟩
abbrev main_cst_12 : Ref sig .tc := ⟨.hbm, 106, rfl⟩
abbrev main_v82 : Ref sig .tc := ⟨.hbm, 107, rfl⟩
abbrev main_v83 : Ref sig .tc := ⟨.hbm, 108, rfl⟩
abbrev main_cst_13 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_14 : Ref sig .tc := ⟨.hbm, 122, rfl⟩
abbrev main_v96 : Ref sig .tc := ⟨.hbm, 123, rfl⟩
abbrev main_v97 : Ref sig .tc := ⟨.hbm, 124, rfl⟩
abbrev main_cst_15 : Ref sig .tc := ⟨.hbm, 125, rfl⟩
abbrev main_v98 : Ref sig .tc := ⟨.hbm, 126, rfl⟩
abbrev main_v99 : Ref sig .tc := ⟨.hbm, 127, rfl⟩
abbrev main_cst_16 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_17 : Ref sig .tc := ⟨.hbm, 148, rfl⟩
abbrev main_v119 : Ref sig .tc := ⟨.hbm, 149, rfl⟩
abbrev main_v120 : Ref sig .tc := ⟨.hbm, 150, rfl⟩
abbrev main_cst_18 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩

abbrev nD : Nat := 1
abbrev τ : Topo := Topo.v7x

variable {F : FTy → Type} [FloatOps F]
-- ==== Kernel7.lean ====
abbrev S16384x1024 : Shape := ⟨2, ![16384, 1024]⟩
abbrev S31x512 : Shape := ⟨2, ![31, 512]⟩
abbrev S512 : Shape := ⟨1, ![512]⟩
abbrev S512x512 : Shape := ⟨2, ![512, 512]⟩
abbrev S1x512 : Shape := ⟨2, ![1, 512]⟩
abbrev S16384x512 : Shape := ⟨2, ![16384, 512]⟩
abbrev S256x1024 : Shape := ⟨2, ![256, 1024]⟩
abbrev S32x1024 : Shape := ⟨2, ![32, 1024]⟩
abbrev S256x512 : Shape := ⟨2, ![256, 512]⟩
abbrev S288x512 : Shape := ⟨2, ![288, 512]⟩
abbrev S32x512 : Shape := ⟨2, ![32, 512]⟩
abbrev S256 : Shape := ⟨1, ![256]⟩
abbrev S256x1 : Shape := ⟨2, ![256, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x512, .bf16⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S32x1024, .f32⟩
  | .local _ .vmem, ⟨3, _⟩ => ⟨S32x1024, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S256x512, .f32⟩
  | .local _ .vmem, ⟨11, _⟩ => ⟨S256x512, .f32⟩
  | .local _ .vmem, ⟨12, _⟩ => ⟨S288x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S16384x1024 : Shape := ⟨2, ![16384, 1024]⟩
abbrev S31x512 : Shape := ⟨2, ![31, 512]⟩
abbrev S512 : Shape := ⟨1, ![512]⟩
abbrev S512x512 : Shape := ⟨2, ![512, 512]⟩
abbrev S16384x512 : Shape := ⟨2, ![16384, 512]⟩
abbrev S_ : Shape := ⟨0, ![]⟩
abbrev S30x512 : Shape := ⟨2, ![30, 512]⟩
abbrev S16414x512 : Shape := ⟨2, ![16414, 512]⟩
abbrev S16384 : Shape := ⟨1, ![16384]⟩
abbrev S16384x1 : Shape := ⟨2, ![16384, 1]⟩
abbrev S31 : Shape := ⟨1, ![31]⟩
abbrev S1x31 : Shape := ⟨2, ![1, 31]⟩
abbrev S16384x31 : Shape := ⟨2, ![16384, 31]⟩
abbrev S16384x31x1 : Shape := ⟨3, ![16384, 31, 1]⟩
abbrev S16384x31x512 : Shape := ⟨3, ![16384, 31, 512]⟩
abbrev S512x16384 : Shape := ⟨2, ![512, 16384]⟩
abbrev S1x512 : Shape := ⟨2, ![1, 512]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x512, .bf16⟩
  | .hbm, ⟨6, _⟩ => ⟨S512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S_, .f32⟩
  | .hbm, ⟨19, _⟩ => ⟨S30x512, .f32⟩
  | .hbm, ⟨20, _⟩ => ⟨S16414x512, .f32⟩
  | .hbm, ⟨21, _⟩ => ⟨S16384, .i32⟩
  | .hbm, ⟨22, _⟩ => ⟨S16384x1, .i32⟩
  | .hbm, ⟨23, _⟩ => ⟨S31, .i32⟩
  | .hbm, ⟨24, _⟩ => ⟨S1x31, .i32⟩
  | .hbm, ⟨25, _⟩ => ⟨S16384x31, .i32⟩
  | .hbm, ⟨26, _⟩ => ⟨S16384x31, .i32⟩
  | .hbm, ⟨27, _⟩ => ⟨S16384x31, .i32⟩
  | .hbm, ⟨28, _⟩ => ⟨S_, .i32⟩
  | .hbm, ⟨29, _⟩ => ⟨S16384x31, .i32⟩
  | .hbm, ⟨30, _⟩ => ⟨S16384x31, .i1⟩
  | .hbm, ⟨31, _⟩ => ⟨S_, .i32⟩
  | .hbm, ⟨32, _⟩ => ⟨S16384x31, .i32⟩
  | .hbm, ⟨33, _⟩ => ⟨S16384x31, .i32⟩
  | .hbm, ⟨34, _⟩ => ⟨S16384x31, .i32⟩
  | .hbm, ⟨35, _⟩ => ⟨S16384x31x1, .i32⟩
  | .hbm, ⟨36, _⟩ => ⟨S16384x31x512, .f32⟩
  | .hbm, ⟨37, _⟩ => ⟨S512x16384, .f32⟩
  | .hbm, ⟨38, _⟩ => ⟨S16384x512, .f32⟩
  | .hbm, ⟨39, _⟩ => ⟨S1x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x512, .f32⟩
  | .hbm, ⟨62, _⟩ => ⟨S16384x512, .f32⟩
  | .hbm, ⟨63, _⟩ => ⟨S1x512, .f32⟩
  | .hbm, ⟨64, _⟩ => ⟨S16384x512, .f32⟩
  | .hbm, ⟨65, _⟩ => ⟨S16384x512, .f32⟩
  | .hbm, ⟨66, _⟩ => ⟨S1x512, .f32⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S_, .f32⟩
  | .hbm, ⟨72, _⟩ => ⟨S16384x512, .f32⟩
  | .hbm, ⟨73, _⟩ => ⟨S16384x512, .f32⟩
  | .hbm, ⟨74, _⟩ => ⟨S_, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S512x512, .f32⟩
  | .hbm, ⟨79, _⟩ => ⟨S16384x512, .f32⟩
  | .hbm, ⟨80, _⟩ => ⟨S1x512, .f32⟩
  | .hbm, ⟨81, _⟩ => ⟨S16384x512, .f32⟩
  | .hbm, ⟨82, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]
-- ==== Proof.Geometry.lean ====
module

public import proofs.«01_k».proof.Proof.Gen.KernelIdeal.Value
public import Idealize.ShloMosaic.Lib.Pointwise
public import Idealize.ShloMosaic.Lib.WordCmp

/-! # Where the attention kernel reads, per grid point

A grid point is a head and one of 64 blocks of 256 queries. The kernel walks the keys in blocks of 512: those wholly
before the block of queries in a loop, then the one that holds the diagonal. -/

@[expose] public section

set_option maxRecDepth 16384

noncomputable section

namespace Cert.KernelIdeal.Flash

open Cert.KernelIdeal Cert.KernelIdeal.Gen Idealize.ShloMosaic Idealize.ShloMosaic.TcCoe Idealize.SL.Sem

/-- The loop over whole key blocks makes one trip per pair of query blocks before this one. -/
theorem trips1 : ∀ i : grid0.Coords, (k0_t1_loop i).trips = (i 1).val / 2 := by decide +kernel

/-- The remainder loop makes no trip. -/
theorem trips2 : ∀ i : grid0.Coords, (k0_t2_loop i).trips = 0 := by decide +kernel

/-- The word naming the last key block is half the query block's number. -/
theorem last_word : ∀ i : grid0.Coords, kernelRun0_A.sl.v31 i = BitVec.ofNat 32 ((i 1).val / 2) := by decide +kernel

/-- The last key block's offset, in the keys … -/
theorem off5_eq : ∀ i : grid0.Coords, k0_off5 i = ![0, 512 * ((i 1).val / 2), 0] := by decide +kernel

/-- … and in the values. -/
theorem off6_eq : ∀ i : grid0.Coords, k0_off6 i = ![0, 512 * ((i 1).val / 2), 0] := by decide +kernel

theorem mul512 (n : ℕ) (h : n < 32) : (Scalar.muli (Scf.iv (0#32) (1#32) n) 512#32).toNat = 512 * n := by
  have : ∀ n : Fin 32, (Scalar.muli (Scf.iv (0#32) (1#32) n.val) 512#32).toNat = 512 * n.val := by decide +kernel
  exact this ⟨n, h⟩

theorem trips1_lt (i : grid0.Coords) (k : Fin (k0_t1_loop i).trips) : k.val < 32 := by
  have h1 : (i 1).val < 64 := (i 1).isLt
  have h := lt_of_lt_of_eq k.isLt (trips1 i)
  omega

/-- Trip `k`'s offset, in the keys … -/
theorem off1_eq (i : grid0.Coords) (k : Fin (k0_t1_loop i).trips) : k0_off1 i k = ![0, 512 * k.val, 0] := by
  show ![0, (Scalar.muli (Scf.iv (0#32) (1#32) k.val) 512#32).toNat, 0] = _
  rw [mul512 _ (trips1_lt i k)]

/-- … and in the values. -/
theorem off2_eq (i : grid0.Coords) (k : Fin (k0_t1_loop i).trips) : k0_off2 i k = ![0, 512 * k.val, 0] := by
  show ![0, (Scalar.muli (Scf.iv (0#32) (1#32) k.val) 512#32).toNat, 0] = _
  rw [mul512 _ (trips1_lt i k)]

/-- A block's first position plus a position in it, as a word. -/
theorem pos_word (a b t : ℕ) (ha : a < 64) (hb : b ≤ 512) (ht : t < 512) :
    IntOp.addi (Scalar.muli (BitVec.ofNat 32 a) (BitVec.ofNat 32 b)) (BitVec.ofNat 32 t) = BitVec.ofNat 32 (b * a + t) := by
  show BitVec.ofNat 32 a * BitVec.ofNat 32 b + BitVec.ofNat 32 t = _
  rw [← BitVec.ofNat_mul, ← BitVec.ofNat_add, Nat.mul_comm]

/-- The kernel's mask at query `r` and key `t` of their blocks: the comparison of words is the comparison of their
positions. -/
theorem mask_word (n r t : ℕ) (hn : n < 64) (hr : r < 256) (ht : t < 512) :
    IntOp.cmpi .sle (IntOp.addi (Scalar.muli (BitVec.ofNat 32 (n / 2)) 512#32) (BitVec.ofNat 32 t))
        (IntOp.addi (Scalar.muli (BitVec.ofNat 32 n) 256#32) (BitVec.ofNat 32 r))
      = BitVec.ofBool (decide (512 * (n / 2) + t ≤ 256 * n + r)) := by
  rw [pos_word (n / 2) 512 t (by omega) (by omega) ht, pos_word n 256 r hn (by omega) (by omega)]
  exact WordCmp.cmpi_sle_ofNat (by omega) (by omega)

end Cert.KernelIdeal.Flash
end
-- ==== Proof.Trip.lean ====
module

public import proofs.«01_k».proof.Proof.Geometry
public import Idealize.ShloMosaic.Lib.VecWindow
public import Idealize.ShloMosaic.Lib.Pipeline.ValueKit.Tiles

/-! # What one grid point leaves

The running maximum, sum and weighted sum after `j` whole key blocks are a recursion over the blocks
(`state`); the point's result is that state after the last whole block, one more masked block and the division. -/

@[expose] public section

set_option maxRecDepth 16384

noncomputable section

namespace Cert.KernelIdeal.Flash

open Cert.KernelIdeal Cert.KernelIdeal.Gen Idealize.ShloMosaic Idealize.ShloMosaic.TcCoe Idealize.SL.Sem

variable {F : FTy → Type} [FloatOps F] [Named F]

/-- Key block `j` of a head. -/
def keys (x : Vec F S1x16384x256 .bf16) (j : ℕ) : Vec F S1x512x256 .bf16 := fun y =>
  x (ix3 0 ⟨(512 * j + (y 1).val) % 16384, Nat.mod_lt _ (by decide)⟩ (y 2))

/-- Value block `j` of a head. -/
def vals (x : Vec F S1x16384x128 .bf16) (j : ℕ) : Vec F S1x512x128 .bf16 := fun y =>
  x (ix3 0 ⟨(512 * j + (y 1).val) % 16384, Nat.mod_lt _ (by decide)⟩ (y 2))

/-- The running maximum, sum of weights and weighted sum, after one whole key block more. -/
def step (q : FVec F S256x256 .bf16) (kb : Vec F S1x512x256 .bf16) (vb : Vec F S1x512x128 .bf16)
    (s : FVec F S256x1 .f32 × FVec F S256x1 .f32 × FVec F S256x128 .f32) :
    FVec F S256x1 .f32 × FVec F S256x1 .f32 × FVec F S256x128 .f32 :=
  (k0_pay21 (k0_pay6 q kb s.1), k0_pay9 q kb s.1 s.2.1, k0_pay10 q kb vb s.1 s.2.2)

/-- The three after `j` whole key blocks. -/
def state (q : FVec F S256x256 .bf16) (x1 : Vec F S1x16384x256 .bf16) (x2 : Vec F S1x16384x128 .bf16) :
    ℕ → FVec F S256x1 .f32 × FVec F S256x1 .f32 × FVec F S256x128 .f32
  | 0 => (k0_pay18, k0_pay19, k0_pay20)
  | j + 1 => step q (keys x1 j) (vals x2 j) (state q x1 x2 j)

/-- A load of 512 keys at block `j` reads key block `j`. -/
theorem ld_keys (x : Vec F S1x16384x256 .bf16) (j : ℕ) (hj : j < 32) (off : Fin 3 → ℕ) (h : off = ![0, 512 * j, 0]) (inb) :
    View.ld x (Rect.unit (s := S1x16384x256) off S1x512x256.size inb) = keys x j := by
  subst h; funext y
  refine View.ld_unit_apply_of x _ _ inb y _ fun a => ?_
  have h1 : (y 1).val < 512 := (y 1).isLt
  have h0 : (y 0).val < 1 := (y 0).isLt
  fin_cases a
  · show 0 = 0 + (y 0).val; omega
  · show (512 * j + (y 1).val) % 16384 = 512 * j + (y 1).val; omega
  · show (y 2).val = 0 + (y 2).val; omega

/-- A load of 512 values at block `j` reads value block `j`. -/
theorem ld_vals (x : Vec F S1x16384x128 .bf16) (j : ℕ) (hj : j < 32) (off : Fin 3 → ℕ) (h : off = ![0, 512 * j, 0]) (inb) :
    View.ld x (Rect.unit (s := S1x16384x128) off S1x512x128.size inb) = vals x j := by
  subst h; funext y
  refine View.ld_unit_apply_of x _ _ inb y _ fun a => ?_
  have h1 : (y 1).val < 512 := (y 1).isLt
  have h0 : (y 0).val < 1 := (y 0).isLt
  fin_cases a
  · show 0 = 0 + (y 0).val; omega
  · show (512 * j + (y 1).val) % 16384 = 512 * j + (y 1).val; omega
  · show (y 2).val = 0 + (y 2).val; omega

section Loop

variable (𝒱 : Variants) (c : Dev nD) (bd : Option 𝒱.V) (i : grid0.Coords) (arg2 : Memref sig .tc .vmem S1x256x256 .bf16) (harg2 : arg2.IsWhole) (arg3 : Memref sig .tc .vmem S1x16384x256 .bf16) (harg3 : arg3.IsWhole) (arg4 : Memref sig .tc .vmem S1x16384x128 .bf16) (harg4 : arg4.IsWhole) (arg5 : Memref sig .tc .vmem S256x128 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x128 .f32) (harg8 : arg8.IsWhole) (arg1 : BitVec 32) (v1 : FVec F S256x256 .bf16) (v31 : BitVec 32) (c0_i32_15 : BitVec 32) (v32 : BitVec 32) (X_arg3 : BufTy.Contents (Elt F) arg3.view.ty) (X_arg4 : BufTy.Contents (Elt F) arg4.view.ty)
variable (f6 : BufTy.Contents (Elt F) arg6.view.ty) (f7 : BufTy.Contents (Elt F) arg7.view.ty) (f8 : BufTy.Contents (Elt F) arg8.view.ty)

/-- One trip stores the next maximum, sum and weighted sum, each over its whole buffer. -/
theorem trip_pieces (k : Fin (k0_t1_loop i).trips) :
    tripL_k0_t1 𝒱 c bd i arg2 harg2 arg3 harg3 arg4 harg4 arg5 harg5 arg6 harg6 arg7 harg7 arg8 harg8 arg1 v1 v31 c0_i32_15 v32 X_arg3 X_arg4 k f6 f7 f8
      = ([⟨Rect.unit ![0, 0] S256x1.size inb_S256x1_S256x1_0_0, (step v1 (keys (arg3.view.read (Elt F) X_arg3) k) (vals (arg4.view.read (Elt F) X_arg4) k) (arg6.view.read (Elt F) f6, arg7.view.read (Elt F) f7, arg8.view.read (Elt F) f8)).1⟩],
         [⟨Rect.unit ![0, 0] S256x1.size inb_S256x1_S256x1_0_0, (step v1 (keys (arg3.view.read (Elt F) X_arg3) k) (vals (arg4.view.read (Elt F) X_arg4) k) (arg6.view.read (Elt F) f6, arg7.view.read (Elt F) f7, arg8.view.read (Elt F) f8)).2.1⟩],
         [⟨Rect.unit ![0, 0] S256x128.size inb_S256x128_S256x128_0_0, (step v1 (keys (arg3.view.read (Elt F) X_arg3) k) (vals (arg4.view.read (Elt F) X_arg4) k) (arg6.view.read (Elt F) f6, arg7.view.read (Elt F) f7, arg8.view.read (Elt F) f8)).2.2⟩]) := by
  rw [← ld_keys _ k (trips1_lt i k) _ (off1_eq i k) (k0_off1_inb i k), ← ld_vals _ k (trips1_lt i k) _ (off2_eq i k) (k0_off2_inb i k),
    ← View.readAt_full arg6.view f6 inb_S256x1_S256x1_0_0, ← View.readAt_full arg7.view f7 inb_S256x1_S256x1_0_0,
    ← View.readAt_full arg8.view f8 inb_S256x128_S256x128_0_0]
  unfold tripL_k0_t1 trip_k0_t1
  rfl

/-- After `k` trips from the initial maximum, sum and weighted sum, the three buffers hold `state` at `k`. -/
theorem loop_state (h6 : arg6.view.read (Elt F) f6 = k0_pay18) (h7 : arg7.view.read (Elt F) f7 = k0_pay19) (h8 : arg8.view.read (Elt F) f8 = k0_pay20)
    (k : ℕ) (hk : k ≤ (k0_t1_loop i).trips) :
    (arg6.view.read (Elt F) (arg6.view.writes (Elt F) f6 (pb_k0_t1 𝒱 c bd i arg2 harg2 arg3 harg3 arg4 harg4 arg5 harg5 arg6 harg6 arg7 harg7 arg8 harg8 arg1 v1 v31 c0_i32_15 v32 X_arg3 X_arg4 f6 f7 f8 k).1),
      arg7.view.read (Elt F) (arg7.view.writes (Elt F) f7 (pb_k0_t1 𝒱 c bd i arg2 harg2 arg3 harg3 arg4 harg4 arg5 harg5 arg6 harg6 arg7 harg7 arg8 harg8 arg1 v1 v31 c0_i32_15 v32 X_arg3 X_arg4 f6 f7 f8 k).2.1),
      arg8.view.read (Elt F) (arg8.view.writes (Elt F) f8 (pb_k0_t1 𝒱 c bd i arg2 harg2 arg3 harg3 arg4 harg4 arg5 harg5 arg6 harg6 arg7 harg7 arg8 harg8 arg1 v1 v31 c0_i32_15 v32 X_arg3 X_arg4 f6 f7 f8 k).2.2))
      = state v1 (arg3.view.read (Elt F) X_arg3) (arg4.view.read (Elt F) X_arg4) k := by
  induction k with
  | zero => exact Prod.ext h6 (Prod.ext h7 h8)
  | succ k ih =>
    have ih := ih (by omega)
    rw [pb_k0_t1_succ 𝒱 c bd i arg2 harg2 arg3 harg3 arg4 harg4 arg5 harg5 arg6 harg6 arg7 harg7 arg8 harg8 arg1 v1 v31 c0_i32_15 v32 X_arg3 X_arg4 f6 f7 f8 ⟨k, hk⟩]
    rw [trip_pieces]
    simp only [ih]
    refine Prod.ext ?_ (Prod.ext ?_ ?_)
    · exact View.read_writes_full ..
    · exact View.read_writes_full ..
    · exact View.read_writes_full ..

end Loop

/-- One masked key block more, then the division: what query block `n` ends with from the state before its last block. -/
def finish (n : ℕ) (q : FVec F S256x256 .bf16) (kb : Vec F S1x512x256 .bf16) (vb : Vec F S1x512x128 .bf16)
    (s : FVec F S256x1 .f32 × FVec F S256x1 .f32 × FVec F S256x128 .f32) : FVec F S256x128 .f32 :=
  k0_pay4
    (k0_pay2 (k0_pay23 vb) (k0_pay26 (BitVec.ofNat 32 n) q (BitVec.ofNat 32 (n / 2)) kb s.1)
      (k0_pay27 (BitVec.ofNat 32 n) q (BitVec.ofNat 32 (n / 2)) kb s.1) s.2.2)
    (k0_pay1 (k0_pay28 (BitVec.ofNat 32 n) q (BitVec.ofNat 32 (n / 2)) kb s.1 s.2.1))

/-- What the grid point of query block `n` stores, from its queries and its head's keys and values. -/
def result (n : ℕ) (x0 : Vec F S1x256x256 .bf16) (x1 : Vec F S1x16384x256 .bf16) (x2 : Vec F S1x16384x128 .bf16) : FVec F S256x128 .f32 :=
  finish n (k0_pay17 x0) (keys x1 (n / 2)) (vals x2 (n / 2)) (state (k0_pay17 x0) x1 x2 (n / 2))

section Point

variable (c : Dev nD) (i : grid0.Coords) (arg2 : Memref sig .tc .vmem S1x256x256 .bf16) (harg2 : arg2.IsWhole) (arg3 : Memref sig .tc .vmem S1x16384x256 .bf16) (harg3 : arg3.IsWhole) (arg4 : Memref sig .tc .vmem S1x16384x128 .bf16) (harg4 : arg4.IsWhole) (arg5 : Memref sig .tc .vmem S256x128 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x128 .f32) (harg8 : arg8.IsWhole)
variable (x0 : Vec F S1x256x256 .bf16) (x1 : Vec F S1x16384x256 .bf16) (x2 : Vec F S1x16384x128 .bf16)

/-- The second loop makes no trip. -/
theorem no_trips2 (𝒱 : Variants) (bd : Option 𝒱.V) (arg1 : BitVec 32) (v1 : FVec F S256x256 .bf16) (v31 : BitVec 32) (c0_i32_15 : BitVec 32) (v32 v36 : BitVec 32) (X_arg3 : BufTy.Contents (Elt F) arg3.view.ty) (X_arg4 : BufTy.Contents (Elt F) arg4.view.ty)
    (f6 : BufTy.Contents (Elt F) arg6.view.ty) (f7 : BufTy.Contents (Elt F) arg7.view.ty) (f8 : BufTy.Contents (Elt F) arg8.view.ty) :
    pb_k0_t2 𝒱 c bd i arg2 harg2 arg3 harg3 arg4 harg4 arg5 harg5 arg6 harg6 arg7 harg7 arg8 harg8 arg1 v1 v31 c0_i32_15 v32 v36 X_arg3 X_arg4 f6 f7 f8 (k0_t2_loop i).trips = ([], [], []) := by
  rw [trips2]; rfl

/-- The queries as the kernel reads them. -/
theorem queries_read : kernelRun0_A.sl.r c arg2 harg2 x0 = k0_pay17 x0 := by
  unfold kernelRun0_A.sl.r
  rw [View.readAt_full, harg2.read_unread]

/-- Before the last block, scratch 0 holds the state's maximum. -/
theorem scratch0 : kernelRun0_A.sl.v56 c i arg2 harg2 arg3 harg3 arg4 harg4 arg5 harg5 arg6 harg6 arg7 harg7 arg8 harg8 x0 x1 x2 = (state (k0_pay17 x0) x1 x2 ((i 1).val / 2)).1 := by
  have h := loop_state Variants.none c none i arg2 harg2 arg3 harg3 arg4 harg4 arg5 harg5 arg6 harg6 arg7 harg7 arg8 harg8
    (BitVec.ofNat 32 (i 1)) (kernelRun0_A.sl.r c arg2 harg2 x0) (kernelRun0_A.sl.v31 i) (0#32) (kernelRun0_A.sl.v32 i) (harg3.unread x1) (harg4.unread x2)
    (arg6.view.writes (Elt F) arg6.view.junk kernelRun0_A.sl.HS0_1) (arg7.view.writes (Elt F) arg7.view.junk kernelRun0_A.sl.HS1_1)
    (arg8.view.writes (Elt F) arg8.view.junk kernelRun0_A.sl.HS2_1)
    (View.read_writes_full ..) (View.read_writes_full ..) (View.read_writes_full ..) _ le_rfl
  rw [queries_read, harg3.read_unread, harg4.read_unread] at h
  conv_rhs at h => rw [trips1]
  unfold kernelRun0_A.sl.v56
  rw [no_trips2, queries_read]
  refine (View.readAt_full ..).trans ?_
  rw [List.nil_append, View.writes_append]
  exact congrArg (fun t => t.1) h

/-- Before the last block, scratch 1 holds the state's sum. -/
theorem scratch1 : kernelRun0_A.sl.v65 c i arg2 harg2 arg3 harg3 arg4 harg4 arg5 harg5 arg6 harg6 arg7 harg7 arg8 harg8 x0 x1 x2 = (state (k0_pay17 x0) x1 x2 ((i 1).val / 2)).2.1 := by
  have h := loop_state Variants.none c none i arg2 harg2 arg3 harg3 arg4 harg4 arg5 harg5 arg6 harg6 arg7 harg7 arg8 harg8
    (BitVec.ofNat 32 (i 1)) (kernelRun0_A.sl.r c arg2 harg2 x0) (kernelRun0_A.sl.v31 i) (0#32) (kernelRun0_A.sl.v32 i) (harg3.unread x1) (harg4.unread x2)
    (arg6.view.writes (Elt F) arg6.view.junk kernelRun0_A.sl.HS0_1) (arg7.view.writes (Elt F) arg7.view.junk kernelRun0_A.sl.HS1_1)
    (arg8.view.writes (Elt F) arg8.view.junk kernelRun0_A.sl.HS2_1)
    (View.read_writes_full ..) (View.read_writes_full ..) (View.read_writes_full ..) _ le_rfl
  rw [queries_read, harg3.read_unread, harg4.read_unread] at h
  conv_rhs at h => rw [trips1]
  unfold kernelRun0_A.sl.v65
  rw [no_trips2, queries_read]
  refine (View.readAt_full ..).trans ?_
  rw [List.nil_append, View.writes_append]
  exact congrArg (fun t => t.2.1) h

/-- Before the last block, scratch 2 holds the state's weighted sum. -/
theorem scratch2 : kernelRun0_A.sl.v73 c i arg2 harg2 arg3 harg3 arg4 harg4 arg5 harg5 arg6 harg6 arg7 harg7 arg8 harg8 x0 x1 x2 = (state (k0_pay17 x0) x1 x2 ((i 1).val / 2)).2.2 := by
  have h := loop_state Variants.none c none i arg2 harg2 arg3 harg3 arg4 harg4 arg5 harg5 arg6 harg6 arg7 harg7 arg8 harg8
    (BitVec.ofNat 32 (i 1)) (kernelRun0_A.sl.r c arg2 harg2 x0) (kernelRun0_A.sl.v31 i) (0#32) (kernelRun0_A.sl.v32 i) (harg3.unread x1) (harg4.unread x2)
    (arg6.view.writes (Elt F) arg6.view.junk kernelRun0_A.sl.HS0_1) (arg7.view.writes (Elt F) arg7.view.junk kernelRun0_A.sl.HS1_1)
    (arg8.view.writes (Elt F) arg8.view.junk kernelRun0_A.sl.HS2_1)
    (View.read_writes_full ..) (View.read_writes_full ..) (View.read_writes_full ..) _ le_rfl
  rw [queries_read, harg3.read_unread, harg4.read_unread] at h
  conv_rhs at h => rw [trips1]
  unfold kernelRun0_A.sl.v73
  rw [no_trips2, queries_read]
  refine (View.readAt_full ..).trans ?_
  rw [List.nil_append, View.writes_append]
  exact congrArg (fun t => t.2.2) h

/-- What the body leaves in the result block. -/
theorem out_eq : out0_A_3 c i arg2 harg2 arg3 harg3 arg4 harg4 arg5 harg5 arg6 harg6 arg7 harg7 arg8 harg8 x0 x1 x2 = result (i 1).val x0 x1 x2 := by
  unfold out0_A_3
  rw [View.read_writes_eq_canon _ _ _ (cover0_A_3 c i arg2 harg2 arg3 harg3 arg4 harg4 arg5 harg5 arg6 harg6 arg7 harg7 arg8 harg8 x0 x1 x2)]
  unfold kernelRun0_A
  dsimp only
  rw [View.canon_unit_zero (by funext a; fin_cases a <;> rfl)]
  unfold kernelRun0_A.sl.v85 kernelRun0_A.sl.v86 kernelRun0_A.sl.HS2_1_1 kernelRun0_A.sl.HS1_1_1
  refine (congrArg₂ k0_pay4 (View.readCov_full ..) (View.readCov_full ..)).trans ?_
  unfold result finish
  unfold kernelRun0_A.sl.r_1 kernelRun0_A.sl.r_3 kernelRun0_A.sl.r_4 kernelRun0_A.sl.r_5
  rw [queries_read, last_word, scratch0, scratch1, scratch2]
  rw [View.readAt_eq_ld, harg4.read_unread, View.readAt_eq_ld, harg3.read_unread]
  have hn : (i 1).val / 2 < 32 := by have := (i 1).isLt; change (i 1).val < 64 at this; omega
  rw [ld_keys x1 _ hn _ (off5_eq i), ld_vals x2 _ hn _ (off6_eq i)]

end Point

end Cert.KernelIdeal.Flash
end
-- ==== Proof.Softmax.lean ====
module

public import Idealize.ShloMosaic.PureOps.Ideal
public import Mathlib.Data.EReal.Operations
public import Mathlib.Data.EReal.Inv
public import Mathlib.Algebra.BigOperators.Fin
public import Mathlib.Algebra.BigOperators.Intervals

/-! # The softmax of a row of scores, taken block by block

The scores of one query are a sequence `s` of extended reals, `⊥` where a key is masked, and `v` is a column of
the values. The facts here are about the running maximum, the running sum of weights and the running weighted sum over
the first `n` keys, and about what adding the next keys does to them. -/

@[expose] public section

noncomputable section

namespace Cert.Softmax

open Idealize.ShloMosaic

/-- The largest of the first `n` scores (`⊥` when there is none). -/
def top (s : ℕ → EReal) (n : ℕ) : EReal := (Finset.range n).sup s

/-- The weight of key `k` against the largest of the first `n` scores. -/
def wt (s : ℕ → EReal) (n k : ℕ) : EReal := Ideal.exp (s k - top s n)

/-- The sum of the weights of the first `n` keys. -/
def den (s : ℕ → EReal) (n : ℕ) : EReal := ∑ k ∈ Finset.range n, wt s n k

/-- The weighted sum of the values of the first `n` keys. -/
def num (s v : ℕ → EReal) (n : ℕ) : EReal := ∑ k ∈ Finset.range n, wt s n k * v k

/-- An exponential is never negative. -/
theorem exp_nonneg (x : EReal) : 0 ≤ Ideal.exp x := by
  induction x with
  | bot => exact le_refl _
  | top => exact le_top
  | coe r => rw [Ideal.exp_coe]; exact_mod_cast (Real.exp_pos r).le

/-- An exponential of a difference `a - b` with `a ≤ b` is at most one. -/
theorem exp_sub_le_one {a b : EReal} (h : a ≤ b) : Ideal.exp (a - b) ≤ 1 := by
  induction b with
  | bot => rw [le_bot_iff.mp h]; simp
  | top => simp
  | coe y =>
    induction a with
    | bot => simp
    | top => exact absurd h (by simp)
    | coe x =>
      rw [← EReal.coe_sub, Ideal.exp_coe]
      have : x ≤ y := by exact_mod_cast h
      exact_mod_cast Real.exp_le_one_iff.mpr (by linarith)

/-- Such an exponential is not infinite. -/
theorem exp_sub_ne_top {a b : EReal} (h : a ≤ b) : Ideal.exp (a - b) ≠ ⊤ :=
  ne_top_of_le_ne_top (by decide) (exp_sub_le_one h)

/-- The change of reference: the weight against `b`, scaled by the weight of `b` against `c`, is the weight against
`c`. It holds at the infinities too. -/
theorem exp_sub_mul {a b c : EReal} (hab : a ≤ b) (hbc : b ≤ c) :
    Ideal.exp (b - c) * Ideal.exp (a - b) = Ideal.exp (a - c) := by
  induction c with
  | top => simp
  | bot =>
    have hb := le_bot_iff.mp hbc
    subst hb
    rw [le_bot_iff.mp hab]; simp
  | coe z =>
    induction b with
    | top => exact absurd hbc (by simp)
    | bot => rw [le_bot_iff.mp hab]; simp
    | coe y =>
      induction a with
      | top => exact absurd hab (by simp)
      | bot => simp
      | coe x =>
        rw [← EReal.coe_sub, ← EReal.coe_sub, ← EReal.coe_sub, Ideal.exp_coe, Ideal.exp_coe, Ideal.exp_coe,
          ← EReal.coe_mul, ← Real.exp_add]
        congr 2; ring

/-- A finite factor that is not negative goes into a sum of extended reals. -/
theorem mul_sum {ι : Type*} (c : EReal) (h0 : 0 ≤ c) (ht : c ≠ ⊤) (t : Finset ι) (f : ι → EReal) :
    c * ∑ k ∈ t, f k = ∑ k ∈ t, c * f k := by
  classical
  induction t using Finset.induction_on with
  | empty => simp
  | insert a t ha ih =>
    rw [Finset.sum_insert ha, Finset.sum_insert ha, EReal.left_distrib_of_nonneg_of_ne_top h0 ht, ih]

/-- The largest of the first `n + B` scores is the larger of the largest of the first `n` and of the next `B`. -/
theorem top_add (s : ℕ → EReal) (n B : ℕ) :
    max (top s n) (Finset.univ.fold max ⊥ fun t : Fin B => s (n + t)) = top s (n + B) := by
  have hf : (Finset.univ.fold max ⊥ fun t : Fin B => s (n + t)) = Finset.univ.sup fun t : Fin B => s (n + t) := rfl
  rw [hf]
  apply le_antisymm
  · refine max_le (Finset.sup_mono (Finset.range_mono (by omega))) (Finset.sup_le fun t _ => ?_)
    exact Finset.le_sup (f := s) (Finset.mem_range.mpr (by omega))
  · refine Finset.sup_le fun k hk => ?_
    by_cases h : k < n
    · exact le_max_of_le_left (Finset.le_sup (f := s) (Finset.mem_range.mpr h))
    · have hk' := Finset.mem_range.mp hk
      refine le_max_of_le_right ?_
      have := Finset.le_sup (f := fun t : Fin B => s (n + t)) (Finset.mem_univ (⟨k - n, by omega⟩ : Fin B))
      simpa [show n + (k - n) = k by omega] using this

theorem top_mono (s : ℕ → EReal) {n n' : ℕ} (h : n ≤ n') : top s n ≤ top s n' :=
  Finset.sup_mono (Finset.range_mono h)

theorem le_top_of_lt (s : ℕ → EReal) {n k : ℕ} (h : k < n) : s k ≤ top s n :=
  Finset.le_sup (f := s) (Finset.mem_range.mpr h)

/-- The weights of earlier keys, moved to the larger maximum. -/
theorem wt_move (s : ℕ → EReal) {n n' k : ℕ} (h : n ≤ n') (hk : k < n) :
    Ideal.exp (top s n - top s n') * wt s n k = wt s n' k :=
  exp_sub_mul (le_top_of_lt s hk) (top_mono s h)

/-- One step of the running sum of weights. -/
theorem den_add (s : ℕ → EReal) (n B : ℕ) :
    Ideal.exp (top s n - top s (n + B)) * den s n + ∑ t : Fin B, Ideal.exp (s (n + t) - top s (n + B))
      = den s (n + B) := by
  have h : n ≤ n + B := by omega
  rw [den, mul_sum _ (exp_nonneg _) (exp_sub_ne_top (top_mono s h)), den, Finset.sum_range_add]
  refine congrArg₂ (· + ·) (Finset.sum_congr rfl fun k hk => wt_move s h (Finset.mem_range.mp hk)) ?_
  exact Fin.sum_univ_eq_sum_range (fun t => wt s (n + B) (n + t)) B

/-- One step of the running weighted sum. -/
theorem num_add (s v : ℕ → EReal) (n B : ℕ) :
    Ideal.exp (top s n - top s (n + B)) * num s v n + ∑ t : Fin B, Ideal.exp (s (n + t) - top s (n + B)) * v (n + t)
      = num s v (n + B) := by
  have h : n ≤ n + B := by omega
  rw [num, mul_sum _ (exp_nonneg _) (exp_sub_ne_top (top_mono s h)), num, Finset.sum_range_add]
  refine congrArg₂ (· + ·) (Finset.sum_congr rfl fun k hk => ?_) ?_
  · rw [← mul_assoc, wt_move s h (Finset.mem_range.mp hk)]
  · exact Fin.sum_univ_eq_sum_range (fun t => wt s (n + B) (n + t) * v (n + t)) B

/-- Before any key the three are `⊥`, zero and zero. -/
theorem top_zero (s : ℕ → EReal) : top s 0 = ⊥ := rfl
theorem den_zero (s : ℕ → EReal) : den s 0 = 0 := rfl
theorem num_zero (s v : ℕ → EReal) : num s v 0 = 0 := rfl

/-- Masked keys past `n` change nothing of the maximum. -/
theorem top_masked (s : ℕ → EReal) (n B : ℕ) (h : ∀ k, n ≤ k → s k = ⊥) : top s (n + B) = top s n := by
  refine le_antisymm (Finset.sup_le fun k hk => ?_) (top_mono s (by omega))
  by_cases hn : k < n
  · exact le_top_of_lt s hn
  · rw [h k (by omega)]; exact bot_le

/-- A masked key has weight zero. -/
theorem wt_masked (s : ℕ → EReal) (n k : ℕ) (h : s k = ⊥) : wt s n k = 0 := by
  rw [wt, h]; simp

/-- Masked keys past `n` change nothing of the sum of weights. -/
theorem den_masked (s : ℕ → EReal) (n B : ℕ) (h : ∀ k, n ≤ k → s k = ⊥) : den s (n + B) = den s n := by
  rw [den, Finset.sum_range_add]
  rw [Finset.sum_eq_zero (s := Finset.range B) fun t _ => wt_masked s _ _ (h (n + t) (by omega)), add_zero]
  unfold den wt; rw [top_masked s n B h]

/-- Masked keys past `n` change nothing of the weighted sum. -/
theorem num_masked (s v : ℕ → EReal) (n B : ℕ) (h : ∀ k, n ≤ k → s k = ⊥) : num s v (n + B) = num s v n := by
  rw [num, Finset.sum_range_add]
  rw [Finset.sum_eq_zero (s := Finset.range B) fun t _ => by rw [wt_masked s _ _ (h (n + t) (by omega)), zero_mul],
    add_zero]
  unfold num wt; rw [top_masked s n B h]

/-- With at least one score not masked and none `⊤`, the sum of weights is a positive real. -/
theorem den_pos (s : ℕ → EReal) (n : ℕ) (hb : ∃ k < n, s k ≠ ⊥) (ht : ∀ k < n, s k ≠ ⊤) :
    ∃ r : ℝ, 0 < r ∧ den s n = (r : EReal) := by
  obtain ⟨k0, hk0, hs0⟩ := hb
  obtain ⟨k1, hk1, he1⟩ := Finset.exists_mem_eq_sup (Finset.range n) ⟨k0, Finset.mem_range.mpr hk0⟩ s
  have hk1' := Finset.mem_range.mp hk1
  have hM : top s n = s k1 := he1
  have hMb : s k1 ≠ ⊥ := fun e => hs0 (le_bot_iff.mp (e ▸ hM ▸ le_top_of_lt s hk0))
  have hterm : ∀ k ∈ Finset.range n, wt s n k = ((wt s n k).toReal : EReal) := fun k hk =>
    (EReal.coe_toReal (exp_sub_ne_top (le_top_of_lt s (Finset.mem_range.mp hk)))
      (fun e => absurd (e ▸ exp_nonneg _ : (0 : EReal) ≤ ⊥) (by simp))).symm
  have hone : wt s n k1 = 1 := by
    unfold wt; rw [hM, EReal.sub_self (ht k1 hk1') hMb]
    rw [← EReal.coe_zero, Ideal.exp_coe, Real.exp_zero, EReal.coe_one]
  refine ⟨∑ k ∈ Finset.range n, (wt s n k).toReal, ?_, ?_⟩
  · refine Finset.sum_pos' (fun k _ => EReal.toReal_nonneg (exp_nonneg _)) ⟨k1, hk1, ?_⟩
    rw [hone]; simp
  · rw [den, Finset.sum_congr rfl hterm]
    exact (map_sum (⟨⟨Real.toEReal, EReal.coe_zero⟩, EReal.coe_add⟩ : ℝ →+ EReal) _ _).symm

/-- The weighted sum over the sum of weights is the sum of the values at the normalized weights. -/
theorem num_div_den (s v : ℕ → EReal) (n : ℕ) (hb : ∃ k < n, s k ≠ ⊥) (ht : ∀ k < n, s k ≠ ⊤) :
    Ideal.div (num s v n) (den s n) = ∑ k ∈ Finset.range n, v k * Ideal.div (wt s n k) (den s n) := by
  obtain ⟨r, hr, hd⟩ := den_pos s n hb ht
  rw [hd, Ideal.div_coe hr.ne', num, mul_comm, mul_sum _ (by exact_mod_cast (by positivity : (0 : ℝ) ≤ 1 / r)) (EReal.coe_ne_top _)]
  refine Finset.sum_congr rfl fun k _ => ?_
  rw [Ideal.div_coe hr.ne']
  ac_rfl

end Cert.Softmax

end
-- ==== Proof.Rows.lean ====
module

public import proofs.«01_k».proof.Proof.Trip
public import proofs.«01_k».proof.Proof.Softmax

/-! # The kernel's blocks, row by row, over the extended reals

For one query, the running maximum, sum and weighted sum after some whole key blocks are the softmax's maximum, sum of
weights and weighted sum of values over the keys of those blocks; the masked last block carries them to every key. -/

@[expose] public section

set_option maxRecDepth 16384

noncomputable section

namespace Cert.KernelIdeal.Flash

open Cert.KernelIdeal Cert.KernelIdeal.Gen Idealize.ShloMosaic Idealize.ShloMosaic.TcCoe Idealize.SL.Sem
open Cert.Softmax

variable (q : FVec Ideal S256x256 .bf16) (kb : FVec Ideal S1x512x256 .bf16) (vb : FVec Ideal S1x512x128 .bf16)
variable (m l : FVec Ideal S256x1 .f32) (a : FVec Ideal S256x128 .f32)

/-- The word of −∞. -/
theorem negInf : Ideal.ofBits .f32 0xFF800000#32 = ⊥ := by
  simp [Ideal.ofBits, Ideal.ieee]

/-- The kernel's mask constant is −∞. -/
theorem mask_bot : Named.named (F := Ideal) κ "mask" (φ := .f32) 0xF149F2CA#32 = ⊥ := rfl

/-- A query's product with a key of the block. -/
theorem pay5_at (r : Fin 256) (t : Fin 512) :
    k0_pay5 (F := Ideal) q kb (ix2 r t) = ∑ x : Fin 256, q (ix2 r x) * kb (ix3 0 t x) := by
  pointwise [k0_pay5]

/-- The next maximum. -/
theorem pay6_at (r : Fin 256) :
    k0_pay6 (F := Ideal) q kb m (ix2 r 0) = max (m (ix2 r 0)) (Finset.univ.fold max ⊥ fun t : Fin 512 => k0_pay5 (F := Ideal) q kb (ix2 r t)) := by
  pointwise [k0_pay6]
  rw [← negInf]
  try rfl

/-- The next sum of weights. -/
theorem pay9_at (r : Fin 256) :
    k0_pay9 (F := Ideal) q kb m l (ix2 r 0) = Ideal.exp (m (ix2 r 0) - k0_pay6 (F := Ideal) q kb m (ix2 r 0)) * l (ix2 r 0)
      + ∑ t : Fin 512, Ideal.exp (k0_pay5 (F := Ideal) q kb (ix2 r t) - k0_pay6 (F := Ideal) q kb m (ix2 r 0)) := by
  pointwise [k0_pay9, k0_pay7, k0_pay8]

/-- The next weighted sum. -/
theorem pay10_at (r : Fin 256) (d : Fin 128) :
    k0_pay10 (F := Ideal) q kb vb m a (ix2 r d) = Ideal.exp (m (ix2 r 0) - k0_pay6 (F := Ideal) q kb m (ix2 r 0)) * a (ix2 r d)
      + ∑ t : Fin 512, Ideal.exp (k0_pay5 (F := Ideal) q kb (ix2 r t) - k0_pay6 (F := Ideal) q kb m (ix2 r 0)) * vb (ix3 0 t d) := by
  pointwise [k0_pay10, k0_pay7, k0_pay8]

theorem pay21_at (r : Fin 256) : k0_pay21 (F := Ideal) m (ix2 r 0) = m (ix2 r 0) := by
  pointwise [k0_pay21]

theorem pay1_at (r : Fin 256) : k0_pay1 (F := Ideal) m (ix2 r 0) = m (ix2 r 0) := by
  pointwise [k0_pay1]

/-- Nothing seen yet: the maximum is −∞. -/
theorem pay18_at (r : Fin 256) : k0_pay18 (F := Ideal) (ix2 r 0) = ⊥ := by
  pointwise [k0_pay18]
  all_goals exact mask_bot

theorem pay19_at (r : Fin 256) : k0_pay19 (F := Ideal) (ix2 r 0) = 0 := by
  pointwise [k0_pay19]

theorem pay20_at (r : Fin 256) (d : Fin 128) : k0_pay20 (F := Ideal) (ix2 r d) = 0 := by
  pointwise [k0_pay20]

theorem pay17_at (x0 : Vec Ideal S1x256x256 .bf16) (r d : Fin 256) : k0_pay17 (F := Ideal) x0 (ix2 r d) = x0 (ix3 0 r d) := by
  pointwise [k0_pay17]

theorem pay4_at (r : Fin 256) (d : Fin 128) : k0_pay4 (F := Ideal) a l (ix2 r d) = Ideal.div (a (ix2 r d)) (l (ix2 r 0)) := by
  pointwise [k0_pay4]

/-- A score of the masked block: −∞ past the query's own position. -/
theorem pay24_at (n : ℕ) (hn : n < 64) (r : Fin 256) (t : Fin 512) :
    k0_pay24 (F := Ideal) (BitVec.ofNat 32 n) q (BitVec.ofNat 32 (n / 2)) kb (ix2 r t)
      = if 512 * (n / 2) + t.val ≤ 256 * n + r.val then ∑ x : Fin 256, q (ix2 r x) * kb (ix3 0 t x) else ⊥ := by
  pointwise [k0_pay24]
  rw [mask_word n r.val t.val hn r.isLt t.isLt, mask_bot]
  by_cases h : 512 * (n / 2) + t.val ≤ 256 * n + r.val <;> simp [h, Scalar.select]

theorem pay25_at (x y : BitVec 32) (r : Fin 256) :
    k0_pay25 (F := Ideal) x q y kb m (ix2 r 0) = max (m (ix2 r 0)) (Finset.univ.fold max ⊥ fun t : Fin 512 => k0_pay24 (F := Ideal) x q y kb (ix2 r t)) := by
  pointwise [k0_pay25]
  rw [← negInf]
  try rfl

theorem pay28_at (x y : BitVec 32) (r : Fin 256) :
    k0_pay28 (F := Ideal) x q y kb m l (ix2 r 0) = Ideal.exp (m (ix2 r 0) - k0_pay25 (F := Ideal) x q y kb m (ix2 r 0)) * l (ix2 r 0)
      + ∑ t : Fin 512, Ideal.exp (k0_pay24 (F := Ideal) x q y kb (ix2 r t) - k0_pay25 (F := Ideal) x q y kb m (ix2 r 0)) := by
  pointwise [k0_pay28, k0_pay26, k0_pay27]

theorem pay2_at (x y : BitVec 32) (r : Fin 256) (d : Fin 128) :
    k0_pay2 (F := Ideal) (k0_pay23 vb) (k0_pay26 x q y kb m) (k0_pay27 x q y kb m) a (ix2 r d)
      = Ideal.exp (m (ix2 r 0) - k0_pay25 (F := Ideal) x q y kb m (ix2 r 0)) * a (ix2 r d)
      + ∑ t : Fin 512, Ideal.exp (k0_pay24 (F := Ideal) x q y kb (ix2 r t) - k0_pay25 (F := Ideal) x q y kb m (ix2 r 0)) * vb (ix3 0 t d) := by
  pointwise [k0_pay2, k0_pay23, k0_pay26, k0_pay27]

/-- The score of key `k` for the query at position `b` of row `r`: its product, −∞ past the query's own position. -/
def score (r : Fin 256) (b : ℕ) (x1 : Vec Ideal S1x16384x256 .bf16) (k : ℕ) : EReal :=
  if k ≤ b then ∑ x : Fin 256, q (ix2 r x) * x1 (ix3 0 ⟨k % 16384, Nat.mod_lt _ (by decide)⟩ x) else ⊥

/-- Column `d` of value `k`. -/
def value (x2 : Vec Ideal S1x16384x128 .bf16) (d : Fin 128) (k : ℕ) : EReal :=
  x2 (ix3 0 ⟨k % 16384, Nat.mod_lt _ (by decide)⟩ d)

variable (x1 : Vec Ideal S1x16384x256 .bf16) (x2 : Vec Ideal S1x16384x128 .bf16)

/-- The state of row `r` after `j` whole key blocks, for a query past all their keys. -/
theorem state_row (r : Fin 256) (b : ℕ) (j : ℕ) (hb : 512 * j ≤ b) :
    (state q x1 x2 j).1 (ix2 r 0) = top (score q r b x1) (512 * j)
    ∧ (state q x1 x2 j).2.1 (ix2 r 0) = den (score q r b x1) (512 * j)
    ∧ ∀ d, (state q x1 x2 j).2.2 (ix2 r d) = num (score q r b x1) (value x2 d) (512 * j) := by
  induction j with
  | zero => exact ⟨pay18_at r, pay19_at r, fun d => pay20_at r d⟩
  | succ j ih =>
    obtain ⟨hm, hl, ha⟩ := ih (by omega)
    have hs : ∀ t : Fin 512, k0_pay5 (F := Ideal) q (keys x1 j) (ix2 r t) = score q r b x1 (512 * j + t.val) := fun t => by
      rw [pay5_at, score, if_pos (by have := t.isLt; omega)]; rfl
    have h6 : k0_pay6 (F := Ideal) q (keys x1 j) (state q x1 x2 j).1 (ix2 r 0) = top (score q r b x1) (512 * j + 512) := by
      rw [pay6_at, hm, ← top_add]; simp only [hs]
    refine ⟨?_, ?_, fun d => ?_⟩
    · exact (pay21_at _ r).trans h6
    · refine (pay9_at _ _ _ _ r).trans ?_
      rw [h6, hm, hl]; simp only [hs]; exact den_add _ _ _
    · refine (pay10_at _ _ _ _ _ r d).trans ?_
      rw [h6, hm, ha]; simp only [hs]; exact num_add _ (value x2 d) _ _

/-- What the grid point of query block `n` stores for its row `r`: the softmax's weighted sum over all keys, divided by
the sum of its weights. -/
theorem result_row (n : ℕ) (hn : n < 64) (x0 : Vec Ideal S1x256x256 .bf16) (r : Fin 256) (d : Fin 128) :
    result (F := Ideal) n x0 x1 x2 (ix2 r d)
      = Ideal.div (num (score (k0_pay17 x0) r (256 * n + r.val) x1) (value x2 d) 16384)
          (den (score (k0_pay17 x0) r (256 * n + r.val) x1) 16384) := by
  generalize hs : score (k0_pay17 x0) r (256 * n + r.val) x1 = s
  obtain ⟨hm, hl, ha⟩ := state_row (k0_pay17 x0) x1 x2 r (256 * n + r.val) (n / 2) (by omega)
  rw [hs] at hm hl
  simp only [hs] at ha
  have h24 : ∀ t : Fin 512, k0_pay24 (F := Ideal) (BitVec.ofNat 32 n) (k0_pay17 x0) (BitVec.ofNat 32 (n / 2)) (keys x1 (n / 2)) (ix2 r t)
      = s (512 * (n / 2) + t.val) := fun t => by
    rw [pay24_at _ _ n hn, ← hs]; rfl
  have h25 : k0_pay25 (F := Ideal) (BitVec.ofNat 32 n) (k0_pay17 x0) (BitVec.ofNat 32 (n / 2)) (keys x1 (n / 2)) (state (k0_pay17 x0) x1 x2 (n / 2)).1 (ix2 r 0)
      = top s (512 * (n / 2) + 512) := by
    rw [pay25_at, hm, ← top_add]; simp only [h24]
  have hmask : ∀ k, 512 * (n / 2) + 512 ≤ k → s k = ⊥ := fun k hk => by
    rw [← hs, score, if_neg]; have := r.isLt; omega
  have hlen : 512 * (n / 2) + 512 + (16384 - (512 * (n / 2) + 512)) = 16384 := by omega
  rw [← hlen, num_masked _ _ _ _ hmask, den_masked _ _ _ hmask]
  refine (pay4_at _ _ r d).trans (congrArg₂ Ideal.div ?_ ?_)
  · refine (pay2_at _ _ _ _ _ _ _ r d).trans ?_
    rw [h25, hm, ha]; simp only [h24]; exact num_add _ (value x2 d) _ _
  · refine (pay1_at _ r).trans ((pay28_at _ _ _ _ _ _ r).trans ?_)
    rw [h25, hm, hl]; simp only [h24]; exact den_add _ _ _

end Cert.KernelIdeal.Flash
end
-- ==== Proof.Attn.lean ====
module

public import proofs.«01_k».proof.Proof.Gen.ReferenceIdeal.Run
public import Idealize.ShloMosaic.Lib.Pointwise
public import Idealize.ShloMosaic.Lib.WordCmp
public import proofs.«01_k».proof.Proof.Softmax

/-! # The reference at an index

Causal attention of one head at one query position: the scores, their softmax against the largest, and the weighted sum
of the values. -/

@[expose] public section

set_option maxRecDepth 16384

noncomputable section

namespace Cert.ReferenceIdeal.Attn

open Cert.ReferenceIdeal Cert.ReferenceIdeal.Gen Idealize.ShloMosaic Idealize.ShloMosaic.TcCoe Idealize.SL.Sem
open Cert.Softmax

variable (q k : FVec Ideal S4x16384x256 .bf16) (v : FVec Ideal S4x16384x128 .bf16)

/-- The word of −∞. -/
theorem negInf : Ideal.ofBits .f32 0xFF800000#32 = ⊥ := by
  simp [Ideal.ofBits, Ideal.ieee]

/-- The score of key `n` for the query at position `b` of head `h`: their product, −∞ for a later key. -/
def score (h : Fin 4) (b : ℕ) (n : ℕ) : EReal :=
  if n ≤ b then ∑ x : Fin 256, q (ix3 h ⟨b % 16384, Nat.mod_lt _ (by decide)⟩ x) * k (ix3 h ⟨n % 16384, Nat.mod_lt _ (by decide)⟩ x) else ⊥

/-- Column `d` of value `n` of head `h`. -/
def value (h : Fin 4) (d : Fin 128) (n : ℕ) : EReal := v (ix3 h ⟨n % 16384, Nat.mod_lt _ (by decide)⟩ d)

/-- Attention's result for head `h`, query position `b`, column `d`. -/
def attend (h : Fin 4) (b : ℕ) (d : Fin 128) : EReal :=
  ∑ n ∈ Finset.range 16384, value v h d n * Ideal.div (wt (score q k h b) 16384 n) (den (score q k h b) 16384)

/-- The reference's masked scores. -/
def masked : FVec Ideal S4x16384x16384 .f32 :=
  select (broadcastInDim S4x16384x16384 ![1, 2] bcast_S16384x16384_S4x16384x16384_1_2 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0)))))
    (Host.dotGeneral dot_S4x16384x256_S4x16384x256_S4x16384x16384_2_2_1_1_0_0 none (extf .f32 q bitsLt_bf16_f32) (extf .f32 k bitsLt_bf16_f32))
    (broadcastInDim S4x16384x16384 ![] bcast_S_S4x16384x16384 (id (constant S_ .f32 0xFF800000#32)))

/-- A masked score: the comparison of positions as words is that of the positions. -/
theorem masked_at (h : Fin 4) (b n : Fin 16384) : masked q k (ix3 h b n) = score q k h b.val n.val := by
  pointwise [masked]
  rw [WordCmp.cmpi_sle_ofNat (by have := n.isLt; omega) (by have := b.isLt; omega), score]
  have hb : (⟨b.val % 16384, Nat.mod_lt _ (by decide)⟩ : Fin 16384) = b := Fin.ext (Nat.mod_eq_of_lt b.isLt)
  have hn : (⟨n.val % 16384, Nat.mod_lt _ (by decide)⟩ : Fin 16384) = n := Fin.ext (Nat.mod_eq_of_lt n.isLt)
  rw [hb, hn]
  by_cases hc : n.val ≤ b.val
  · simp [hc, Scalar.select]
  · simp only [hc, decide_false, if_false, Scalar.select]
    exact negInf

/-- The host's maximum over the last of three axes. -/
theorem max_last (a b c : ℕ) (x : FVec Ideal ⟨3, ![a, b, c]⟩ .f32) (w : BitVec 32)
    (h : (⟨3, ![a, b, c]⟩ : Shape).ReducesTo [2] ⟨2, ![a, b]⟩) (hu) (i : Fin a) (j : Fin b) :
    Host.reduce FloatOps.maximumf x (constant (F := Ideal) ⟨0, ![]⟩ .f32 w) h hu (ix2 i j) = Finset.univ.fold max (Ideal.ofBits .f32 w) fun n : Fin c => x (ix3 i j n) := by
  pointwise

/-- The host's sum over the last of three axes. -/
theorem add_last (a b c : ℕ) (x : FVec Ideal ⟨3, ![a, b, c]⟩ .f32) (w : BitVec 32)
    (h : (⟨3, ![a, b, c]⟩ : Shape).ReducesTo [2] ⟨2, ![a, b]⟩) (hu) (i : Fin a) (j : Fin b) :
    Host.reduceAdd x (constant (F := Ideal) ⟨0, ![]⟩ .f32 w) h hu (ix2 i j) = Ideal.ofBits .f32 w + ∑ n : Fin c, x (ix3 i j n) := by
  pointwise

/-- A largest over `Fin N` is the largest over the first `N`. -/
theorem sup_fin (N : ℕ) (f : ℕ → EReal) : (Finset.univ.fold max ⊥ fun n : Fin N => f n.val) = (Finset.range N).sup f := by
  show (Finset.univ.sup fun n : Fin N => f n.val) = _
  refine le_antisymm (Finset.sup_le fun n _ => Finset.le_sup (f := f) (Finset.mem_range.mpr n.isLt)) (Finset.sup_le fun n hn => ?_)
  exact Finset.le_sup (f := fun n : Fin N => f n.val) (Finset.mem_univ (⟨n, Finset.mem_range.mp hn⟩ : Fin N))

/-- The largest of a row's scores, on every device value of the row. -/
def largest (x : FVec Ideal S4x16384x16384 .f32) : FVec Ideal S4x16384 .f32 :=
  maximumf (broadcastInDim S4x16384 ![] bcast_S_S4x16384 (constant S_ .f32 0xFF800000#32))
    (Host.reduce FloatOps.maximumf x (constant S_ .f32 0xFF800000#32) reducesTo_S4x16384x16384_S4x16384_d2 h_S_)

/-- A maximum with a constant, at an index. -/
theorem max_const (a b : ℕ) (y : FVec Ideal ⟨2, ![a, b]⟩ .f32) (w : BitVec 32) (hb : (⟨0, ![]⟩ : Shape).BroadcastsInDim ⟨2, ![a, b]⟩ ![]) (i : Fin a) (j : Fin b) :
    maximumf (broadcastInDim ⟨2, ![a, b]⟩ ![] hb (constant (F := Ideal) ⟨0, ![]⟩ .f32 w)) y (ix2 i j) = max (Ideal.ofBits .f32 w) (y (ix2 i j)) := rfl

theorem largest_at (x : FVec Ideal S4x16384x16384 .f32) (f : ℕ → EReal) (h : Fin 4) (b : Fin 16384)
    (hx : ∀ n : Fin 16384, x (ix3 h b n) = f n.val) : largest x (ix2 h b) = top f 16384 := by
  unfold largest
  rw [max_const 4 16384, max_last 4 16384 16384, negInf]
  simp only [hx]
  rw [sup_fin 16384 f, max_eq_right bot_le, top]

/-- The weights of a row's scores against the row's largest. -/
def weights (x : FVec Ideal S4x16384x16384 .f32) : FVec Ideal S4x16384x16384 .f32 :=
  Host.exp (subf x (broadcastInDim S4x16384x16384 ![0, 1, 2] bcast_S4x16384x1_S4x16384x16384_0_1_2 (broadcastInDim S4x16384x1 ![0, 1] bcast_S4x16384_S4x16384x1_0_1 (largest x))))

theorem weights_at (x : FVec Ideal S4x16384x16384 .f32) (h : Fin 4) (b n : Fin 16384) :
    weights x (ix3 h b n) = Ideal.exp (x (ix3 h b n) - largest x (ix2 h b)) := by
  pointwise [weights]

/-- The sum of a row. -/
def total (x : FVec Ideal S4x16384x16384 .f32) : FVec Ideal S4x16384 .f32 :=
  Host.reduceAdd x (constant S_ .f32 0x00000000#32) reducesTo_S4x16384x16384_S4x16384_d2 h_S_

theorem total_at (x : FVec Ideal S4x16384x16384 .f32) (h : Fin 4) (b : Fin 16384) :
    total x (ix2 h b) = ∑ n : Fin 16384, x (ix3 h b n) := by
  unfold total
  rw [add_last 4 16384 16384, Ideal.ofBits_zero_f32, zero_add]

/-- A row divided by its sum. -/
def probs (x : FVec Ideal S4x16384x16384 .f32) : FVec Ideal S4x16384x16384 .f32 :=
  Host.divf x (broadcastInDim S4x16384x16384 ![0, 1, 2] bcast_S4x16384x1_S4x16384x16384_0_1_2 (broadcastInDim S4x16384x1 ![0, 1] bcast_S4x16384_S4x16384x1_0_1 (total x)))

theorem probs_at (x : FVec Ideal S4x16384x16384 .f32) (h : Fin 4) (b n : Fin 16384) :
    probs x (ix3 h b n) = Ideal.div (x (ix3 h b n)) (total x (ix2 h b)) := by
  pointwise [probs]

/-- The values weighted by a row, the heads side by side. -/
def mixed (p : FVec Ideal S4x16384x16384 .f32) : FVec Ideal S16384x512 .f32 :=
  shapeCast _ (transpose S16384x4x128 [2, 0, 1] (Host.dotGeneral (F := Ideal) dot_S4x16384x128_S4x16384x16384_S4x128x16384_1_2_2_1_0_0 none (extf .f32 v bitsLt_bf16_f32) p) transposes_S4x128x16384_S16384x4x128_2_0_1) shapeCasts_S16384x4x128_S16384x512

theorem mixed_at (p : FVec Ideal S4x16384x16384 .f32) (b : Fin 16384) (c : Fin 512) :
    mixed v p (ix2 b c) = ∑ n : Fin 16384, v (ix3 ⟨c.val / 128, by omega⟩ n ⟨c.val % 128, by omega⟩) * p (ix3 ⟨c.val / 128, by omega⟩ b n) := by
  pointwise [mixed]

/-- The reference's result is the weighted sum of the values by the softmax of the masked scores. -/
theorem res_eq (m : (ℓ : Loc nD τ sig) → Buf (Elt Ideal) ℓ) (c : Dev nD) :
    Value.res_main_v24 m c = mixed (m ((c.tc : Thread nD τ).loc main_arg2))
      (probs (weights (masked (m ((c.tc : Thread nD τ).loc main_arg0)) (m ((c.tc : Thread nD τ).loc main_arg1))))) := by
  unfold Value.res_main_v24 mixed probs total weights largest masked
  rfl

/-- The reference at an index: attention's result. -/
theorem reference_at (b : Fin 16384) (c : Fin 512) :
    mixed v (probs (weights (masked q k))) (ix2 b c) = attend q k v ⟨c.val / 128, by omega⟩ b.val ⟨c.val % 128, by omega⟩ := by
  rw [mixed_at, attend, Finset.sum_range]
  refine Finset.sum_congr rfl fun n _ => ?_
  have hl := largest_at (masked q k) (score q k ⟨c.val / 128, by omega⟩ b.val) ⟨c.val / 128, by omega⟩ b fun n => masked_at q k _ b n
  have hw : ∀ n : Fin 16384, weights (masked q k) (ix3 ⟨c.val / 128, by omega⟩ b n) = wt (score q k ⟨c.val / 128, by omega⟩ b.val) 16384 n.val := fun n => by
    rw [weights_at, hl, masked_at, wt]
  have hn : (⟨n.val % 16384, Nat.mod_lt _ (by decide)⟩ : Fin 16384) = n := Fin.ext (Nat.mod_eq_of_lt n.isLt)
  rw [probs_at, total_at, hw n, value, hn, den, Finset.sum_range]
  simp only [hw]

end Cert.ReferenceIdeal.Attn
end
-- ==== Proof.Blocks.lean ====
module

public import proofs.«01_k».proof.Proof.Rows
public import proofs.«01_k».proof.Proof.Attn
public import Idealize.ShloMosaic.Lib.Pipeline.ValueKit
public import Idealize.ShloMosaic.Lib.Claim

/-! # The kernel's array

Each grid point writes 256 query positions of one head, 128 columns; together they tile the result. -/

@[expose] public section

set_option maxRecDepth 16384

noncomputable section

namespace Cert.KernelIdeal.Flash

open Cert.KernelIdeal Cert.KernelIdeal.Gen Idealize.ShloMosaic Idealize.ShloMosaic.TcCoe Idealize.SL.Sem
open Cert.Softmax

variable (m : (ℓ : Loc nD τ sig) → Buf (Elt Ideal) ℓ) (c : Dev nD)

/-- The query block of a grid point. -/
theorem idx0 : ∀ t : Fin grid0.N, win0_0.index t = ![(grid0.coords t 0).val, (grid0.coords t 1).val, 0] := by decide +kernel
/-- The key block of a grid point: its head's. -/
theorem idx1 : ∀ t : Fin grid0.N, win0_1.index t = ![(grid0.coords t 0).val, 0, 0] := by decide +kernel
/-- The value block of a grid point: its head's. -/
theorem idx2 : ∀ t : Fin grid0.N, win0_2.index t = ![(grid0.coords t 0).val, 0, 0] := by decide +kernel
/-- The result block of a grid point. -/
theorem idx3 : ∀ t : Fin grid0.N, win0_3.index t = ![(grid0.coords t 1).val, (grid0.coords t 0).val] := by decide +kernel

abbrev Q : FVec Ideal S4x16384x256 .bf16 := m ((c.tc : Thread nD τ).loc main_arg0)
abbrev K : FVec Ideal S4x16384x256 .bf16 := m ((c.tc : Thread nD τ).loc main_arg1)
abbrev V' : FVec Ideal S4x16384x128 .bf16 := m ((c.tc : Thread nD τ).loc main_arg2)

theorem head_lt (t : Fin grid0.N) : (grid0.coords t 0).val < 4 := (grid0.coords t 0).isLt
theorem block_lt (t : Fin grid0.N) : (grid0.coords t 1).val < 64 := (grid0.coords t 1).isLt

/-- A point's queries. -/
theorem queries_at (t : Fin grid0.N) (r x : Fin 256) :
    iblk m c 0 t (ix3 0 r x) = Q m c (ix3 ⟨(grid0.coords t 0).val, head_lt t⟩ ⟨256 * (grid0.coords t 1).val + r.val, by have := block_lt t; omega⟩ x) := by
  blk_ext [iblk, V_main_arg0, idx0 t]

/-- A point's keys. -/
theorem keys_at (t : Fin grid0.N) (n : Fin 16384) (x : Fin 256) :
    iblk m c 1 t (ix3 0 n x) = K m c (ix3 ⟨(grid0.coords t 0).val, head_lt t⟩ n x) := by
  blk_ext [iblk, V_main_arg1, idx1 t]

/-- A point's values. -/
theorem values_at (t : Fin grid0.N) (n : Fin 16384) (d : Fin 128) :
    iblk m c 2 t (ix3 0 n d) = V' m c (ix3 ⟨(grid0.coords t 0).val, head_lt t⟩ n d) := by
  blk_ext [iblk, V_main_arg2, idx2 t]

/-- A row's scores at a grid point are those of its head and its position. -/
theorem score_point (t : Fin grid0.N) (r : Fin 256) :
    score (k0_pay17 (iblk m c 0 t)) r (256 * (grid0.coords t 1).val + r.val) (iblk m c 1 t)
      = ReferenceIdeal.Attn.score (Q m c) (K m c) ⟨(grid0.coords t 0).val, head_lt t⟩ (256 * (grid0.coords t 1).val + r.val) := by
  funext n
  have hb : (⟨(256 * (grid0.coords t 1).val + r.val) % 16384, Nat.mod_lt _ (by decide)⟩ : Fin 16384)
      = ⟨256 * (grid0.coords t 1).val + r.val, by have := block_lt t; omega⟩ :=
    Fin.ext (Nat.mod_eq_of_lt (by have := block_lt t; omega))
  unfold score ReferenceIdeal.Attn.score
  refine if_congr Iff.rfl (Finset.sum_congr rfl fun x _ => ?_) rfl
  rw [pay17_at, queries_at, keys_at, hb]

/-- A column's values at a grid point are those of its head. -/
theorem value_point (t : Fin grid0.N) (d : Fin 128) :
    value (iblk m c 2 t) d = ReferenceIdeal.Attn.value (V' m c) ⟨(grid0.coords t 0).val, head_lt t⟩ d := by
  funext n
  exact values_at m c t _ d

/-- The kernel's result at query position `b` and column `d` of head `h`: the weighted sum of the values over the sum of
the weights. -/
def ratio (h : Fin 4) (b : ℕ) (d : Fin 128) : EReal :=
  Ideal.div (num (ReferenceIdeal.Attn.score (Q m c) (K m c) h b) (ReferenceIdeal.Attn.value (V' m c) h d) 16384)
    (den (ReferenceIdeal.Attn.score (Q m c) (K m c) h b) 16384)

/-- The kernel's array. -/
def array : FVec Ideal S16384x512 .f32 := fun i =>
  ratio m c ⟨(i 1).val / 128, by have := (i 1).isLt; change (i 1).val < 512 at this; omega⟩ (i 0).val ⟨(i 1).val % 128, by omega⟩

/-- The head of a column of the result. -/
theorem head_of (a b : ℕ) (h : b < 128) : (128 * a + b) / 128 = a := by omega
/-- The column in its head. -/
theorem col_of (a b : ℕ) (h : b < 128) : (128 * a + b) % 128 = b := by omega

/-- The array the kernel leaves. -/
theorem final : (dats m 0 c).arrAt 3 cfg0.N = array m c := by
  refine (dats m 0 c).arrAt_eq_of_covers 3 _ (by decide +kernel) fun t hf y => ?_
  blk_simp
  rw [after0_3]
  unfold outsAt0
  rw [out_eq]
  have h0 := head_lt t
  have h1 := block_lt t
  have hy0 : (y 0).val < 256 := (y 0).isLt
  have hy1 : (y 1).val < 128 := (y 1).isLt
  have e0 : (((win0_3.blk t).view.emb y) 0).val = 256 * (grid0.coords t 1).val + (y 0).val := by
    blk_simp [idx3 t]; simp; omega
  have e1 : (((win0_3.blk t).view.emb y) 1).val = 128 * (grid0.coords t 0).val + (y 1).val := by
    blk_simp [idx3 t]; simp; omega
  have ey : y = ix2 ⟨(y 0).val, hy0⟩ ⟨(y 1).val, hy1⟩ := by funext a; fin_cases a <;> rfl
  have eh : (⟨(((win0_3.blk t).view.emb y) 1).val / 128, by omega⟩ : Fin 4) = ⟨(grid0.coords t 0).val, h0⟩ := Fin.ext (by
    show (((win0_3.blk t).view.emb y) 1).val / 128 = _; rw [e1]; exact head_of _ _ hy1)
  have ed : (⟨(((win0_3.blk t).view.emb y) 1).val % 128, by omega⟩ : Fin 128) = ⟨(y 1).val, hy1⟩ := Fin.ext (by
    show (((win0_3.blk t).view.emb y) 1).val % 128 = _; rw [e1]; exact col_of _ _ hy1)
  refine (congrArg (result (grid0.coords t 1).val (iblk m c 0 t) (iblk m c 1 t) (iblk m c 2 t)) ey).trans ?_
  refine (result_row _ _ _ h1 _ _ _).trans ?_
  unfold array ratio
  rw [eh, ed, e0, score_point, value_point]

end Cert.KernelIdeal.Flash
end
-- ==== Proof.Finite.lean ====
module

public import proofs.«01_k».proof.Pre_finite_scores
public import Idealize.ShloMosaic.PureOps.Ideal
public import Idealize.ShloMosaic.Lib.Pointwise
public import Idealize.ShloMosaic.Lib.ReduceAll

/-! # What the precondition says

Every query and every key entry is a real number. -/

@[expose] public section

set_option maxRecDepth 16384

noncomputable section

namespace Cert.Pre_finite_scores

open Idealize.ShloMosaic

/-- The precondition's shape relations hold. -/
instance facts : Facts where
  bitsLt_bf16_f32 := by decide
  bcast_S_S4x16384x256 := by decide
  reducesTo_S4x16384x256_S_d0_1_2 := by decide
  h_S_ := by decide

/-- The word of +∞. -/
theorem infBits : Ideal.ofBits .f32 0x7F800000#32 = ⊤ := by
  simp [Ideal.ofBits, Ideal.ieee]

/-- An entry whose magnitude is below the word of +∞ is a real number. -/
theorem real_of_lt (x : EReal) (h : FloatOps.cmpf (F := Ideal) (φ := .f32) .olt (FloatOps.absf (F := Ideal) (φ := .f32) x) (FloatOps.ofBits .f32 0x7F800000#32) = 1#1) : x ≠ ⊤ ∧ x ≠ ⊥ := by
  rw [Ideal.cmpf_def, Ideal.absf_def, Ideal.ofBits_def, infBits] at h
  constructor <;> rintro rfl <;> simp [Ideal.cmp] at h

/-- Under the precondition every query and every key entry is a real number. -/
theorem finite (q k : FVec Ideal S4x16384x256 .bf16) (v : FVec Ideal S4x16384x128 .bf16) (h : fn (F := Ideal) q k v = fun _ => 1#1)
    (i : S4x16384x256.Idx) : (q i ≠ ⊤ ∧ q i ≠ ⊥) ∧ (k i ≠ ⊤ ∧ k i ≠ ⊥) := by
  have e := congrFun h ix0
  obtain ⟨h1, h2⟩ := IntOp.andi_eq_one.1 e
  have g1 := Host.reduce_andi_all _ _ _ _ _ h1 i
  have g2 := Host.reduce_andi_all _ _ _ _ _ h2 i
  exact ⟨real_of_lt _ g1, real_of_lt _ g2⟩

end Cert.Pre_finite_scores
end
-- ==== Proof.Agree.lean ====
module

public import proofs.«01_k».proof.Proof.Blocks
public import proofs.«01_k».proof.Proof.Finite

/-! # The kernel's array is the reference's

With real queries and keys every score is real or masked, and key 0 is never masked: the sum of the weights is a
positive real, so dividing the weighted sum by it is weighting by the quotients. -/

@[expose] public section

set_option maxRecDepth 16384

noncomputable section

namespace Cert.Proof

open Idealize.ShloMosaic Idealize.SL.Sem
open Cert.Softmax Cert.ReferenceIdeal Cert.ReferenceIdeal.Attn

/-- A sum of products of reals is a real. -/
theorem sum_real {ι : Type} (t : Finset ι) (f g : ι → EReal) (hf : ∀ i, f i ≠ ⊤ ∧ f i ≠ ⊥) (hg : ∀ i, g i ≠ ⊤ ∧ g i ≠ ⊥) :
    ∃ r : ℝ, ∑ i ∈ t, f i * g i = (r : EReal) := by
  classical
  induction t using Finset.induction_on with
  | empty => exact ⟨0, by simp⟩
  | insert a s ha ih =>
    obtain ⟨r, hr⟩ := ih
    refine ⟨(f a).toReal * (g a).toReal + r, ?_⟩
    rw [Finset.sum_insert ha, hr, EReal.coe_add, EReal.coe_mul, EReal.coe_toReal (hf a).1 (hf a).2, EReal.coe_toReal (hg a).1 (hg a).2]

variable (q k : FVec Ideal S4x16384x256 .bf16) (v : FVec Ideal S4x16384x128 .bf16)

/-- With real queries and keys, the quotient of the two sums is attention's result. -/
theorem quotient (hf : ∀ i : S4x16384x256.Idx, (q i ≠ ⊤ ∧ q i ≠ ⊥) ∧ (k i ≠ ⊤ ∧ k i ≠ ⊥)) (h : Fin 4) (b : ℕ) (d : Fin 128) :
    Ideal.div (num (score q k h b) (value v h d) 16384) (den (score q k h b) 16384) = attend q k v h b d := by
  refine num_div_den _ _ _ ⟨0, by decide, ?_⟩ fun n _ => ?_
  · obtain ⟨r, hr⟩ := sum_real Finset.univ (fun x : Fin 256 => q (ix3 h ⟨b % 16384, Nat.mod_lt _ (by decide)⟩ x))
      (fun x => k (ix3 h ⟨0 % 16384, Nat.mod_lt _ (by decide)⟩ x)) (fun x => (hf _).1) (fun x => (hf _).2)
    rw [score, if_pos (Nat.zero_le _), hr]; exact EReal.coe_ne_bot r
  · unfold score
    split
    · obtain ⟨r, hr⟩ := sum_real Finset.univ (fun x : Fin 256 => q (ix3 h ⟨b % 16384, Nat.mod_lt _ (by decide)⟩ x))
        (fun x => k (ix3 h ⟨n % 16384, Nat.mod_lt _ (by decide)⟩ x)) (fun x => (hf _).1) (fun x => (hf _).2)
      rw [hr]; exact EReal.coe_ne_top r
    · exact bot_ne_top

end Cert.Proof
end
-- ==== Proof.NormProj.lean ====
module

public import proofs.«01_k».proof.Proof.Gen.Kernel2Ideal.Value
public import Idealize.ShloMosaic.Lib.Pipeline.ValueKit
public import Idealize.ShloMosaic.Lib.Pointwise
public import Idealize.ShloMosaic.Lib.Claim

/-! # The norm and the input projection: the kernel's arrays

Each grid point normalises 256 rows and multiplies them by the whole weight, in four groups of columns. -/

@[expose] public section

set_option maxRecDepth 16384

noncomputable section

namespace Cert.Kernel2Ideal.Proj

open Cert.Kernel2Ideal Cert.Kernel2Ideal.Gen Idealize.ShloMosaic Idealize.ShloMosaic.TcCoe Idealize.SL.Sem

/-- The inverse root of a row's mean square, with the norm's small constant. -/
def scale {n : ℕ} (x : FVec Ideal ⟨2, ![n, 2048]⟩ .f32) (r : Fin n) : EReal :=
  Ideal.rsqrt (Ideal.div (∑ k : Fin 2048, x (ix2 r k) * x (ix2 r k)) (Ideal.ofBits .f32 0x45000000#32) + Ideal.ofBits .f32 0x358637BD#32)

/-- A normalised row times a column of the weight. -/
def proj {n : ℕ} (x : FVec Ideal ⟨2, ![n, 2048]⟩ .f32) (g : Fin 2048 → EReal) (w : Fin 2048 → EReal) (r : Fin n) : EReal :=
  ∑ k : Fin 2048, x (ix2 r k) * scale x r * g k * w k

variable (x0 : FVec Ideal S256x2048 .f32) (x1 : FVec Ideal S1x2048 .f32)

/-- A block's normalised rows. -/
theorem pay1_at (r : Fin 256) (k : Fin 2048) :
    k0_pay1 (F := Ideal) x0 x1 (ix2 r k) = x0 (ix2 r k) * scale x0 r * x1 (ix2 0 k) := by
  pointwise [k0_pay1, scale]

/-- The first group of columns. -/
theorem pay2_at (w : FVec Ideal S2048x768 .bf16) (r : Fin 256) (n : Fin 768) :
    k0_pay2 (F := Ideal) x0 x1 w (ix2 r n) = proj x0 (fun k => x1 (ix2 0 k)) (fun k => w (ix2 k n)) r := by
  pointwise [k0_pay2, proj, pay1_at]

/-- The second group of columns. -/
theorem pay3_at (w : FVec Ideal S2048x1024 .bf16) (r : Fin 256) (n : Fin 1024) :
    k0_pay3 (F := Ideal) x0 x1 w (ix2 r n) = proj x0 (fun k => x1 (ix2 0 k)) (fun k => w (ix2 k n)) r := by
  pointwise [k0_pay3, proj, pay1_at]

/-- The third group of columns. -/
theorem pay4_at (w : FVec Ideal S2048x896 .bf16) (r : Fin 256) (n : Fin 896) :
    k0_pay4 (F := Ideal) x0 x1 w (ix2 r n) = proj x0 (fun k => x1 (ix2 0 k)) (fun k => w (ix2 k n)) r := by
  pointwise [k0_pay4, proj, pay1_at]

/-- The fourth group of columns. -/
theorem pay5_at (w : FVec Ideal S2048x512 .bf16) (r : Fin 256) (n : Fin 512) :
    k0_pay5 (F := Ideal) x0 x1 w (ix2 r n) = proj x0 (fun k => x1 (ix2 0 k)) (fun k => w (ix2 k n)) r := by
  pointwise [k0_pay5, proj, pay1_at]

variable (m : (ℓ : Loc nD τ sig) → Buf (Elt Ideal) ℓ) (c : Dev nD)

/-- The blocks of a grid point. -/
theorem idx : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] := by decide +kernel

/-- The rows, the gains and the weight as launched. -/
abbrev X : FVec Ideal S16384x2048 .f32 := m ((c.tc : Thread nD τ).loc main_arg0)
/-- The gains. -/
abbrev G : FVec Ideal S2048 .f32 := m ((c.tc : Thread nD τ).loc main_arg1)
/-- The weight. -/
abbrev W : FVec Ideal S2048x3200 .bf16 := m ((c.tc : Thread nD τ).loc main_arg2)

/-- There are 64 grid points. -/
theorem point_lt (t : Fin grid0.N) : t.val < 64 := t.isLt

/-- A point's rows. -/
theorem rows_at (t : Fin grid0.N) (r : Fin 256) (k : Fin 2048) :
    iblk m c 0 t (ix2 r k) = X m c (ix2 ⟨256 * t.val + r.val, by have := point_lt t; omega⟩ k) := by
  blk_ext [iblk, V_main_arg0, (idx t).1]

/-- A point's gains. -/
theorem gains_at (t : Fin grid0.N) (k : Fin 2048) : iblk m c 1 t (ix2 0 k) = G m c (ix1 k) := by
  blk_ext! [iblk, V, (idx t).2.1]

/-- A point's weight. -/
theorem weight_at (t : Fin grid0.N) (k : Fin 2048) (n : Fin 3200) : iblk m c 2 t (ix2 k n) = W m c (ix2 k n) := by
  blk_ext [iblk, V_main_arg2, (idx t).2.2.1]

/-- A point's normalised rows times a column of the weight are the array's. -/
theorem proj_point (t : Fin grid0.N) (w : Fin 2048 → EReal) (r : Fin 256) (s : Fin 16384) (hs : s.val = 256 * t.val + r.val) :
    proj (n := 256) (iblk m c 0 t) (fun k => iblk m c 1 t (ix2 0 k)) w r = proj (X m c) (fun k => G m c (ix1 k)) w s := by
  have hx : ∀ k : Fin 2048, iblk m c 0 t (ix2 r k) = X m c (ix2 s k) := fun k =>
    (rows_at m c t r k).trans (congrArg (fun a => X m c (ix2 a k)) (Fin.ext hs.symm))
  unfold proj scale
  simp only [hx, gains_at]

/-- Column `n` of the product, with the weight's columns from `off` on. -/
def cols (off : ℕ) {w : ℕ} (h : off + w ≤ 3200) : FVec Ideal ⟨2, ![16384, w]⟩ .f32 := fun i =>
  proj (X m c) (fun k => G m c (ix1 k)) (fun k => W m c (ix2 k ⟨off + (i 1).val, by have := (i 1).isLt; change (i 1).val < w at this; omega⟩)) (i 0)

/-- A point's block of `cols`, from what its columns of the weight are. -/
theorem cols_point (off : ℕ) {w : ℕ} (h : off + w ≤ 3200) (t : Fin grid0.N) (b : Fin 2048 → EReal) (r : Fin 256) (n : Fin w)
    (i : Shape.Idx ⟨2, ![16384, w]⟩) (h0 : (i 0).val = 256 * t.val + r.val) (h1 : (i 1).val = n.val)
    (hb : ∀ k, b k = W m c (ix2 k ⟨off + n.val, by omega⟩)) :
    proj (n := 256) (iblk m c 0 t) (fun k => iblk m c 1 t (ix2 0 k)) b r = cols m c off h i := by
  rw [proj_point m c t b r (i 0) h0]
  unfold cols
  refine congrArg (fun w => proj (X m c) (fun k => G m c (ix1 k)) w (i 0)) (funext fun k => (hb k).trans ?_)
  exact congrArg (fun a => W m c (ix2 k a)) (Fin.ext (by simp [h1]))

/-- The first array. -/
theorem final3 : (dats m 0 c).arrAt 3 cfg0.N = cols m c 0 (w := 768) (by decide) := by
  refine (dats m 0 c).arrAt_eq_of_covers 3 _ (by decide +kernel) fun t hf y => ?_
  blk_simp
  rw [after0_3]
  frame_out
  have hy0 : (y 0).val < 256 := (y 0).isLt
  have hy1 : (y 1).val < 768 := (y 1).isLt
  have ey : y = ix2 (⟨(y 0).val, hy0⟩ : Fin 256) (⟨(y 1).val, hy1⟩ : Fin 768) := by funext a; fin_cases a <;> rfl
  refine (congrArg _ ey).trans ((pay2_at _ _ _ _ _).trans (cols_point m c 0 (by decide) t _ ⟨(y 0).val, hy0⟩ ⟨(y 1).val, hy1⟩ _ ?_ ?_ fun k => ?_))
  · blk_simp [idx t]; simp; omega
  · blk_simp [idx t]
  · exact (View.ld_unit_apply_of _ _ _ _ _ (ix2 k _) fun a => by fin_cases a <;> simp).trans (weight_at m c t k _)

/-- The second array. -/
theorem final4 : (dats m 0 c).arrAt 4 cfg0.N = cols m c 768 (w := 1024) (by decide) := by
  refine (dats m 0 c).arrAt_eq_of_covers 4 _ (by decide +kernel) fun t hf y => ?_
  blk_simp
  rw [after0_4]
  frame_out
  have hy0 : (y 0).val < 256 := (y 0).isLt
  have hy1 : (y 1).val < 1024 := (y 1).isLt
  have ey : y = ix2 (⟨(y 0).val, hy0⟩ : Fin 256) (⟨(y 1).val, hy1⟩ : Fin 1024) := by funext a; fin_cases a <;> rfl
  refine (congrArg _ ey).trans ((pay3_at _ _ _ _ _).trans (cols_point m c 768 (by decide) t _ ⟨(y 0).val, hy0⟩ ⟨(y 1).val, hy1⟩ _ ?_ ?_ fun k => ?_))
  · blk_simp [idx t]; simp; omega
  · blk_simp [idx t]
  · exact (View.ld_unit_apply_of _ _ _ _ _ (ix2 k _) fun a => by fin_cases a <;> simp).trans (weight_at m c t k _)

/-- The third array. -/
theorem final5 : (dats m 0 c).arrAt 5 cfg0.N = cols m c 1792 (w := 896) (by decide) := by
  refine (dats m 0 c).arrAt_eq_of_covers 5 _ (by decide +kernel) fun t hf y => ?_
  blk_simp
  rw [after0_5]
  frame_out
  have hy0 : (y 0).val < 256 := (y 0).isLt
  have hy1 : (y 1).val < 896 := (y 1).isLt
  have ey : y = ix2 (⟨(y 0).val, hy0⟩ : Fin 256) (⟨(y 1).val, hy1⟩ : Fin 896) := by funext a; fin_cases a <;> rfl
  refine (congrArg _ ey).trans ((pay4_at _ _ _ _ _).trans (cols_point m c 1792 (by decide) t _ ⟨(y 0).val, hy0⟩ ⟨(y 1).val, hy1⟩ _ ?_ ?_ fun k => ?_))
  · blk_simp [idx t]; simp; omega
  · blk_simp [idx t]
  · exact (View.ld_unit_apply_of _ _ _ _ _ (ix2 k _) fun a => by fin_cases a <;> simp).trans (weight_at m c t k _)

/-- The fourth array. -/
theorem final6 : (dats m 0 c).arrAt 6 cfg0.N = cols m c 2688 (w := 512) (by decide) := by
  refine (dats m 0 c).arrAt_eq_of_covers 6 _ (by decide +kernel) fun t hf y => ?_
  blk_simp
  rw [after0_6]
  frame_out
  have hy0 : (y 0).val < 256 := (y 0).isLt
  have hy1 : (y 1).val < 512 := (y 1).isLt
  have ey : y = ix2 (⟨(y 0).val, hy0⟩ : Fin 256) (⟨(y 1).val, hy1⟩ : Fin 512) := by funext a; fin_cases a <;> rfl
  refine (congrArg _ ey).trans ((pay5_at _ _ _ _ _).trans (cols_point m c 2688 (by decide) t _ ⟨(y 0).val, hy0⟩ ⟨(y 1).val, hy1⟩ _ ?_ ?_ fun k => ?_))
  · blk_simp [idx t]; simp; omega
  · blk_simp [idx t]
  · exact (View.ld_unit_apply_of _ _ _ _ _ (ix2 k _) fun a => by fin_cases a <;> simp).trans (weight_at m c t k _)

end Cert.Kernel2Ideal.Proj
end
-- ==== Proof.NormRef.lean ====
module

public import proofs.«01_k».proof.Proof.Gen.Reference2Ideal.Run
public import proofs.«01_k».proof.Proof.NormProj

/-! # The norm and the input projection: the reference

The four groups of columns of one product; they are the kernel's arrays. -/

@[expose] public section

set_option maxRecDepth 16384

noncomputable section

namespace Cert.Reference2Ideal.Proj

open Cert.Reference2Ideal Cert.Reference2Ideal.Gen Idealize.ShloMosaic Idealize.ShloMosaic.TcCoe Idealize.SL.Sem
open Cert.Kernel2Ideal.Proj (scale proj)

variable (x : FVec Ideal S16384x2048 .f32) (g : FVec Ideal S2048 .f32) (w : FVec Ideal S2048x3200 .bf16)

/-- The host's sum over the second of two axes. -/
theorem add_last (a b : ℕ) (x : FVec Ideal ⟨2, ![a, b]⟩ .f32) (w : BitVec 32)
    (h : (⟨2, ![a, b]⟩ : Shape).ReducesTo [1] ⟨1, ![a]⟩) (hu) (i : Fin a) :
    Host.reduceAdd x (constant (F := Ideal) ⟨0, ![]⟩ .f32 w) h hu (ix1 i) = Ideal.ofBits .f32 w + ∑ n : Fin b, x (ix2 i n) := by
  pointwise

/-- The sums of the rows' squares. -/
def squares : FVec Ideal S16384 .f32 :=
  Host.reduceAdd (mulf x x) (constant S_ .f32 0x00000000#32) reducesTo_S16384x2048_S16384_d1 h_S_

/-- A row's sum of squares. -/
theorem squares_at (s : Fin 16384) : squares x (ix1 s) = ∑ k : Fin 2048, x (ix2 s k) * x (ix2 s k) := by
  unfold squares
  rw [add_last 16384 2048, Ideal.ofBits_zero_f32, zero_add]
  rfl

/-- The normalised rows, from the sums of their squares. -/
def normed (q : FVec Ideal S16384 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 q) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 g))

/-- An element of a normalised row. -/
theorem normed_at (s : Fin 16384) (k : Fin 2048) : normed x g (squares x) (ix2 s k) = x (ix2 s k) * scale x s * g (ix1 k) := by
  unfold scale
  rw [← squares_at]
  generalize squares x = q
  pointwise [normed]

/-- The whole product. -/
def product (y : FVec Ideal S16384x2048 .f32) : FVec Ideal S16384x3200 .f32 :=
  Host.dotGeneral dot_S16384x2048_S2048x3200_S16384x3200_1_0_0_1_n_n none y (extf .f32 w bitsLt_bf16_f32)

/-- An element of the product. -/
theorem product_at (y : FVec Ideal S16384x2048 .f32) (s : Fin 16384) (n : Fin 3200) :
    product w y (ix2 s n) = ∑ k : Fin 2048, y (ix2 s k) * w (ix2 k n) := by
  pointwise [product]

/-- An element of the product of the normalised rows. -/
theorem rows_at (s : Fin 16384) (n : Fin 3200) :
    product w (normed x g (squares x)) (ix2 s n) = proj x (fun k => g (ix1 k)) (fun k => w (ix2 k n)) s := by
  rw [product_at]
  unfold proj
  simp only [normed_at]

variable (m : (ℓ : Loc Cert.Kernel2Ideal.nD Cert.Kernel2Ideal.τ Cert.Kernel2Ideal.sig) → Buf (Elt Ideal) ℓ) (c : Dev Cert.Kernel2Ideal.nD)

/-- An element of a group of the reference's columns is the kernel's, whatever the slice that reads it. -/
theorem cols_at (off : ℕ) {n : ℕ} (h : off + n ≤ 3200) (i : Shape.Idx ⟨2, ![16384, n]⟩) (hn : off + (i 1).val < 3200)
    (hx : x = Cert.Kernel2Ideal.Proj.X m c) (hg : g = Cert.Kernel2Ideal.Proj.G m c) (hw : w = Cert.Kernel2Ideal.Proj.W m c) :
    product w (normed x g (squares x)) (ix2 (i 0) ⟨off + (i 1).val, hn⟩) = Cert.Kernel2Ideal.Proj.cols m c off h i := by
  subst hx hg hw
  exact rows_at _ _ _ _ _

/-- A slice of the product reads columns `off` on. -/
theorem slice_at (off : ℕ) {n : ℕ} (h : off + n ≤ 3200) (y : FVec Ideal S16384x3200 .f32)
    (hs : S16384x3200.Slices ![0, off] ⟨2, ![16384, n]⟩)
    (i : Shape.Idx ⟨2, ![16384, n]⟩) (hn : off + (i 1).val < 3200) :
    extractStridedSlice ⟨2, ![16384, n]⟩ ![0, off] y hs i = y (ix2 (i 0) ⟨off + (i 1).val, hn⟩) := by
  refine congrArg y (funext fun a => Fin.ext ?_)
  fin_cases a <;> simp

/-- A group of the reference's columns is the kernel's array. -/
theorem slice_cols (off : ℕ) {n : ℕ} (h : off + n ≤ 3200) (hs : S16384x3200.Slices ![0, off] ⟨2, ![16384, n]⟩)
    (hx : x = Cert.Kernel2Ideal.Proj.X m c) (hg : g = Cert.Kernel2Ideal.Proj.G m c) (hw : w = Cert.Kernel2Ideal.Proj.W m c) :
    extractStridedSlice ⟨2, ![16384, n]⟩ ![0, off] (product w (normed x g (squares x))) hs = Cert.Kernel2Ideal.Proj.cols m c off h := by
  funext i
  have hi : (i 1).val < n := (i 1).isLt
  exact (slice_at off h _ hs i (by omega)).trans (cols_at x g w m c off h i (by omega) hx hg hw)

end Cert.Reference2Ideal.Proj
end
-- ==== Proof.MixOut.lean ====
module

public import proofs.«01_k».proof.Proof.Gen.Kernel3Ideal.Value
public import Idealize.ShloMosaic.Lib.Pipeline.ValueKit
public import Idealize.ShloMosaic.Lib.Pointwise
public import Idealize.ShloMosaic.Lib.Claim

/-! # The mix and the output projection: the kernel's array

Each grid point gates the fourth mixer's 256 rows, normalises the four mixers' rows each by itself, multiplies each by
its 512 rows of the weight, and adds the four products to the residual one after the other. -/

@[expose] public section

set_option maxRecDepth 16384

noncomputable section

namespace Cert.Kernel3Ideal.Mix

open Cert.Kernel3Ideal Cert.Kernel3Ideal.Gen Idealize.ShloMosaic Idealize.ShloMosaic.TcCoe Idealize.SL.Sem

/-- The activation, by its tangent form. -/
def gelu (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * (y * y))))))

/-- An activated row gated by the sigmoid of its own projection. -/
def gate (y : Fin 512 → EReal) (u : Fin 512 → Fin 512 → EReal) (b : Fin 512 → EReal) (n : Fin 512) : EReal :=
  gelu (y n) * Ideal.logistic ((∑ k, gelu (y k) * u k n) + b n)

/-- The inverse root of a group's mean square, with the norm's small constant. -/
def scale (o : Fin 512 → EReal) : EReal :=
  Ideal.rsqrt (Ideal.div (∑ k, o k * o k) (Ideal.ofBits .f32 0x44000000#32) + Ideal.ofBits .f32 0x358637BD#32)

/-- A normalised group times its part of a column of the weight. -/
def part (o g w : Fin 512 → EReal) : EReal := ∑ k, o k * scale o * g k * w k

/-- The four groups' products added to the residual in turn. -/
def mix (x : EReal) (a b c d : Fin 512 → EReal) (g w : Fin 4 → Fin 512 → EReal) : EReal :=
  x + part a (g 0) (w 0) + part b (g 1) (w 1) + part c (g 2) (w 2) + part d (g 3) (w 3)

/-- The gated rows. -/
theorem pay2_at (y : FVec Ideal S256x512 .f32) (u : FVec Ideal S512x512 .bf16) (b : FVec Ideal S1x512 .f32) (r : Fin 256) (n : Fin 512) :
    k0_pay2 (F := Ideal) y u b (ix2 r n) = gate (fun k => y (ix2 r k)) (fun k n => u (ix2 k n)) (fun n => b (ix2 0 n)) n := by
  pointwise [k0_pay2, gate, gelu]

/-- The third group's normalised rows. -/
theorem pay7_at (o : FVec Ideal S256x512 .f32) (g : FVec Ideal S1x512 .f32) (r : Fin 256) (k : Fin 512) :
    k0_pay7 (F := Ideal) o g (ix2 r k) = o (ix2 r k) * scale (fun k => o (ix2 r k)) * g (ix2 0 k) := by
  pointwise [k0_pay7, scale]

/-- The residual and the first two groups. -/
theorem pay6_at (x : FVec Ideal S256x2048 .f32) (a b : FVec Ideal S256x512 .f32) (ga gb : FVec Ideal S1x512 .f32)
    (wa wb : FVec Ideal S512x2048 .bf16) (r : Fin 256) (n : Fin 2048) :
    k0_pay6 (F := Ideal) x a b (k0_pay3 ga) (k0_pay4 a) k0_pay5 wa gb wb (ix2 r n)
      = x (ix2 r n) + part (fun k => a (ix2 r k)) (fun k => ga (ix2 0 k)) (fun k => wa (ix2 k n))
        + part (fun k => b (ix2 r k)) (fun k => gb (ix2 0 k)) (fun k => wb (ix2 k n)) := by
  pointwise [k0_pay6, k0_pay3, k0_pay4, k0_pay5, part, scale]

/-- A running row and the last two groups. -/
theorem pay1_at (d : FVec Ideal S256x512 .f32) (p : FVec Ideal S256x2048 .f32) (o : FVec Ideal S256x512 .bf16)
    (wc wd : FVec Ideal S512x2048 .bf16) (gd : FVec Ideal S1x512 .f32) (r : Fin 256) (n : Fin 2048) :
    k0_pay1 (F := Ideal) d p o wc gd wd (ix2 r n)
      = p (ix2 r n) + (∑ k, o (ix2 r k) * wc (ix2 k n))
        + part (fun k => d (ix2 r k)) (fun k => gd (ix2 0 k)) (fun k => wd (ix2 k n)) := by
  pointwise [k0_pay1, part, scale]

variable (m : (ℓ : Loc nD τ sig) → Buf (Elt Ideal) ℓ) (c : Dev nD)

/-- The blocks of a grid point. -/
theorem idx : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] := by decide +kernel

/-- The residual rows as launched. -/
abbrev X : FVec Ideal S16384x2048 .f32 := m ((c.tc : Thread nD τ).loc main_arg0)
/-- The first mixer's rows. -/
abbrev A : FVec Ideal S16384x512 .f32 := m ((c.tc : Thread nD τ).loc main_arg1)
/-- The second mixer's rows. -/
abbrev B : FVec Ideal S16384x512 .f32 := m ((c.tc : Thread nD τ).loc main_arg2)
/-- The third mixer's rows. -/
abbrev C : FVec Ideal S16384x512 .f32 := m ((c.tc : Thread nD τ).loc main_arg3)
/-- The fourth mixer's rows, not yet activated. -/
abbrev Y : FVec Ideal S16384x512 .f32 := m ((c.tc : Thread nD τ).loc main_arg4)
/-- The gate's weight. -/
abbrev U : FVec Ideal S512x512 .bf16 := m ((c.tc : Thread nD τ).loc main_arg5)
/-- The gate's bias. -/
abbrev Bias : FVec Ideal S512 .f32 := m ((c.tc : Thread nD τ).loc main_arg6)
/-- The gains of the four groups. -/
abbrev G : FVec Ideal S2048 .f32 := m ((c.tc : Thread nD τ).loc main_arg7)
/-- The output weight. -/
abbrev W : FVec Ideal S2048x2048 .bf16 := m ((c.tc : Thread nD τ).loc main_arg8)

/-- There are 64 grid points. -/
theorem point_lt (t : Fin grid0.N) : t.val < 64 := t.isLt

/-- A point's residual rows. -/
theorem x_at (t : Fin grid0.N) (r : Fin 256) (n : Fin 2048) :
    iblk m c 0 t (ix2 r n) = X m c (ix2 ⟨256 * t.val + r.val, by have := point_lt t; omega⟩ n) := by
  blk_ext [iblk, V_main_arg0, idx t]

/-- A point's rows of the first mixer. -/
theorem a_at (t : Fin grid0.N) (r : Fin 256) (k : Fin 512) :
    iblk m c 1 t (ix2 r k) = A m c (ix2 ⟨256 * t.val + r.val, by have := point_lt t; omega⟩ k) := by
  blk_ext [iblk, V_main_arg1, idx t]

/-- A point's rows of the second mixer. -/
theorem b_at (t : Fin grid0.N) (r : Fin 256) (k : Fin 512) :
    iblk m c 2 t (ix2 r k) = B m c (ix2 ⟨256 * t.val + r.val, by have := point_lt t; omega⟩ k) := by
  blk_ext [iblk, V_main_arg2, idx t]

/-- A point's rows of the third mixer. -/
theorem c_at (t : Fin grid0.N) (r : Fin 256) (k : Fin 512) :
    iblk m c 3 t (ix2 r k) = C m c (ix2 ⟨256 * t.val + r.val, by have := point_lt t; omega⟩ k) := by
  blk_ext [iblk, V_main_arg3, idx t]

/-- A point's rows of the fourth mixer. -/
theorem y_at (t : Fin grid0.N) (r : Fin 256) (k : Fin 512) :
    iblk m c 4 t (ix2 r k) = Y m c (ix2 ⟨256 * t.val + r.val, by have := point_lt t; omega⟩ k) := by
  blk_ext [iblk, V_main_arg4, idx t]

/-- A point's gate weight. -/
theorem u_at (t : Fin grid0.N) (k n : Fin 512) : iblk m c 5 t (ix2 k n) = U m c (ix2 k n) := by
  blk_ext [iblk, V_main_arg5, idx t]

/-- A point's gate bias. -/
theorem bias_at (t : Fin grid0.N) (k : Fin 512) : iblk m c 6 t (ix2 0 k) = Bias m c (ix1 k) := by
  blk_ext! [iblk, V, idx t]

/-- A point's gains. -/
theorem g_at (t : Fin grid0.N) (k : Fin 2048) : iblk m c 7 t (ix2 0 k) = G m c (ix1 k) := by
  blk_ext! [iblk, V, idx t]

/-- A point's output weight. -/
theorem w_at (t : Fin grid0.N) (k n : Fin 2048) : iblk m c 8 t (ix2 k n) = W m c (ix2 k n) := by
  blk_ext [iblk, V_main_arg8, idx t]

/-- Position `k` of group `j`. -/
def at_ (j : Fin 4) (k : Fin 512) : Fin 2048 := ⟨j.val * 512 + k.val, by omega⟩

/-- The array. -/
def array : FVec Ideal S16384x2048 .f32 := fun i =>
  mix (X m c i) (fun k => A m c (ix2 (i 0) k)) (fun k => B m c (ix2 (i 0) k)) (fun k => C m c (ix2 (i 0) k))
    (gate (fun k => Y m c (ix2 (i 0) k)) (fun k n => U m c (ix2 k n)) (fun n => Bias m c (ix1 n)))
    (fun j k => G m c (ix1 (at_ j k))) (fun j k => W m c (ix2 (at_ j k) (i 1)))

/-- The array at an index, from the values of its coordinates. -/
theorem array_of (i : S16384x2048.Idx) (s : Fin 16384) (n : Fin 2048) (h0 : (i 0).val = s.val) (h1 : (i 1).val = n.val) :
    mix (X m c (ix2 s n)) (fun k => A m c (ix2 s k)) (fun k => B m c (ix2 s k)) (fun k => C m c (ix2 s k))
      (gate (fun k => Y m c (ix2 s k)) (fun k n => U m c (ix2 k n)) (fun n => Bias m c (ix1 n)))
      (fun j k => G m c (ix1 (at_ j k))) (fun j k => W m c (ix2 (at_ j k) n)) = array m c i := by
  have ei : i = ix2 s n := by
    funext a
    fin_cases a
    · exact Fin.ext h0
    · exact Fin.ext h1
  subst ei
  rfl

/-- A block's element from the blocks, its gains and weights read as columns and rows of the whole. -/
theorem out_at (x0 : FVec Ideal S256x2048 .f32) (x1 x2 x3 x4 : FVec Ideal S256x512 .f32) (x5 : FVec Ideal S512x512 .bf16)
    (x6 : FVec Ideal S1x512 .f32) (x7 : FVec Ideal S1x2048 .f32) (x8 : FVec Ideal S2048x2048 .bf16) (r : Fin 256) (n : Fin 2048) :
    out0_9 (F := Ideal) x0 x1 x2 x3 x4 x5 x6 x7 x8 (ix2 r n)
      = mix (x0 (ix2 r n)) (fun k => x1 (ix2 r k)) (fun k => x2 (ix2 r k)) (fun k => x3 (ix2 r k))
        (gate (fun k => x4 (ix2 r k)) (fun k n => x5 (ix2 k n)) (fun n => x6 (ix2 0 n)))
        (fun j k => x7 (ix2 0 (at_ j k))) (fun j k => x8 (ix2 (at_ j k) n)) := by
  frame_out
  refine (pay1_at _ _ _ _ _ _ r n).trans ?_
  rw [pay6_at]
  simp only [pay7_at, pay2_at]
  have hw : ∀ (j : Fin 4) (h : ∀ a, ![j.val * 512, 0] a + S512x2048.size a ≤ S2048x2048.size a) (k : Fin 512),
      View.ld (Val := Elt Ideal) (e' := .bf16) x8 (Rect.unit (s := S2048x2048) ![j.val * 512, 0] S512x2048.size h) (ix2 k n : S512x2048.Idx) = x8 (ix2 (at_ j k) n) := by
    intro j h k
    refine View.ld_unit_apply_of _ _ _ _ _ (ix2 (at_ j k) n) fun a => ?_
    fin_cases a <;> simp [at_]
  have hg : ∀ (j : Fin 4) (h : ∀ a, ![0, j.val * 512] a + S1x512.size a ≤ S1x2048.size a) (k : Fin 512),
      View.ld (Val := Elt Ideal) (e' := .f32) x7 (Rect.unit (s := S1x2048) ![0, j.val * 512] S1x512.size h) (ix2 0 k : S1x512.Idx) = x7 (ix2 0 (at_ j k)) := by
    intro j h k
    refine View.ld_unit_apply_of _ _ _ _ _ (ix2 0 (at_ j k)) fun a => ?_
    fin_cases a <;> simp [at_]
  unfold mix part
  simp only [← hw 0 inb_S2048x2048_S512x2048_0_0, ← hw 1 inb_S2048x2048_S512x2048_512_0, ← hw 2 inb_S2048x2048_S512x2048_1024_0, ← hw 3 inb_S2048x2048_S512x2048_1536_0,
    ← hg 0 inb_S1x2048_S1x512_0_0, ← hg 1 inb_S1x2048_S1x512_0_512, ← hg 2 inb_S1x2048_S1x512_0_1024, ← hg 3 inb_S1x2048_S1x512_0_1536]
  rfl

/-- The kernel's array. -/
theorem final : (dats m 0 c).arrAt 9 cfg0.N = array m c := by
  refine (dats m 0 c).arrAt_eq_of_covers 9 _ (by decide +kernel) fun t hf y => ?_
  blk_simp
  rw [after0_9]
  have hy0 : (y 0).val < 256 := (y 0).isLt
  have hy1 : (y 1).val < 2048 := (y 1).isLt
  have ey : y = ix2 (⟨(y 0).val, hy0⟩ : Fin 256) (⟨(y 1).val, hy1⟩ : Fin 2048) := by funext a; fin_cases a <;> rfl
  refine (congrArg _ ey).trans ((out_at _ _ _ _ _ _ _ _ _ _ _).trans ?_)
  simp only [x_at, a_at, b_at, c_at, y_at, u_at, bias_at, g_at, w_at]
  refine array_of m c _ _ _ ?_ ?_
  · blk_simp [idx t]; simp; omega
  · blk_simp [idx t]

end Cert.Kernel3Ideal.Mix
end
-- ==== Proof.MixRef.lean ====
module

public import proofs.«01_k».proof.Proof.Gen.Reference3Ideal.Run
public import proofs.«01_k».proof.Proof.MixOut

/-! # The mix and the output projection: the reference

The activation and its gate, the four groups side by side, each normalised by itself, and one product over all of them;
its sum over the 2048 columns is the kernel's four sums. -/

@[expose] public section

set_option maxRecDepth 16384

noncomputable section

namespace Cert.Reference3Ideal.Mix

open Cert.Reference3Ideal Cert.Reference3Ideal.Gen Idealize.ShloMosaic Idealize.ShloMosaic.TcCoe Idealize.SL.Sem
open Cert.Kernel3Ideal.Mix (gelu gate scale part mix at_)

/-- The activated rows. -/
def act (y : FVec Ideal S16384x512 .f32) : FVec Ideal S16384x512 .f32 :=
  mulf y (mulf (broadcastInDim S16384x512 ![] bcast_S_S16384x512 (constant S_ .f32 0x3F000000#32)) (addf (broadcastInDim S16384x512 ![] bcast_S_S16384x512 (constant S_ .f32 0x3F800000#32)) (Host.tanh (mulf (broadcastInDim S16384x512 ![] bcast_S_S16384x512 (constant S_ .f32 0x3F4C422A#32)) (addf y (mulf (broadcastInDim S16384x512 ![] bcast_S_S16384x512 (constant S_ .f32 0x3D372713#32)) (mulf (mulf y y) y)))))))

/-- An activated element. -/
theorem act_at (y : FVec Ideal S16384x512 .f32) (s : Fin 16384) (k : Fin 512) : act y (ix2 s k) = gelu (y (ix2 s k)) := by
  unfold gelu
  rw [← mul_comm (y (ix2 s k) * y (ix2 s k)) (y (ix2 s k))]
  pointwise [act]

/-- The gated rows, from the activated ones. -/
def gated (z : FVec Ideal S16384x512 .f32) (u : FVec Ideal S512x512 .bf16) (b : FVec Ideal S512 .f32) : FVec Ideal S16384x512 .f32 :=
  mulf z (Host.divf (broadcastInDim S16384x512 ![] bcast_S_S16384x512 (constant S_ .f32 0x3F800000#32)) (addf (broadcastInDim S16384x512 ![] bcast_S_S16384x512 (constant S_ .f32 0x3F800000#32)) (Host.exp (Host.negf (addf (Host.dotGeneral dot_S16384x512_S512x512_S16384x512_1_0_0_1_n_n none z (extf .f32 u bitsLt_bf16_f32)) (broadcastInDim S16384x512 ![0, 1] bcast_S1x512_S16384x512_0_1 (broadcastInDim S1x512 ![1] bcast_S512_S1x512_1 b)))))))

/-- A gated element. -/
theorem gated_at (z : FVec Ideal S16384x512 .f32) (u : FVec Ideal S512x512 .bf16) (b : FVec Ideal S512 .f32) (s : Fin 16384) (n : Fin 512) :
    gated z u b (ix2 s n) = z (ix2 s n) * Ideal.logistic ((∑ k : Fin 512, z (ix2 s k) * u (ix2 k n)) + b (ix1 n)) := by
  unfold Ideal.logistic
  pointwise [gated]

/-- The four groups side by side. -/
def side (a b c d : FVec Ideal S16384x512 .f32) : FVec Ideal S16384x2048 .f32 :=
  concatenate S16384x2048 1 [⟨S16384x512, a⟩, ⟨S16384x512, b⟩, ⟨S16384x512, c⟩, ⟨S16384x512, d⟩] concatenates_S16384x512_S16384x512_S16384x512_S16384x512_S16384x2048_d1

/-- The row of group `j`. -/
def row (a b c d : FVec Ideal S16384x512 .f32) (s : Fin 16384) (j : Fin 4) (k : Fin 512) : EReal :=
  (![a, b, c, d] j) (ix2 s k)

/-- An element of the four groups side by side. -/
theorem side_at (a b c d : FVec Ideal S16384x512 .f32) (s : Fin 16384) (j : Fin 4) (k : Fin 512) :
    side a b c d (ix2 s (at_ j k)) = row a b c d s j k := by
  have e : ∀ (p q : Fin 512) (f : FVec Ideal S16384x512 .f32), p.val = q.val → f (ix2 s p) = f (ix2 s q) := fun p q f h =>
    congrArg (fun i => f (ix2 s i)) (Fin.ext h)
  fin_cases j
  · pointwise [side, row, at_]
  · pointwise [side, row, at_]
  · pointwise [side, row, at_]
    rw [dif_neg (by omega), dif_neg (by omega), dif_pos (by omega)]
    exact e _ _ _ (by dsimp only; omega)
  · pointwise [side, row, at_]
    rw [dif_neg (by omega), dif_neg (by omega), dif_neg (by omega)]
    exact e _ _ _ (by dsimp only; omega)

/-- The host's sum over the last of three axes. -/
theorem add_last (a b c : ℕ) (x : FVec Ideal ⟨3, ![a, b, c]⟩ .f32) (w : BitVec 32)
    (h : (⟨3, ![a, b, c]⟩ : Shape).ReducesTo [2] ⟨2, ![a, b]⟩) (hu) (i : Fin a) (j : Fin b) :
    Host.reduceAdd x (constant (F := Ideal) ⟨0, ![]⟩ .f32 w) h hu (ix2 i j) = Ideal.ofBits .f32 w + ∑ n : Fin c, x (ix3 i j n) := by
  pointwise

/-- The groups' sums of squares. -/
def squares (o : FVec Ideal S16384x4x512 .f32) : FVec Ideal S16384x4 .f32 :=
  Host.reduceAdd (mulf o o) (constant S_ .f32 0x00000000#32) reducesTo_S16384x4x512_S16384x4_d2 h_S_

/-- A group's sum of squares. -/
theorem squares_at (o : FVec Ideal S16384x4x512 .f32) (s : Fin 16384) (j : Fin 4) :
    squares o (ix2 s j) = ∑ k : Fin 512, o (ix3 s j k) * o (ix3 s j k) := by
  unfold squares
  rw [add_last 16384 4 512, Ideal.ofBits_zero_f32, zero_add]
  rfl

/-- The normalised groups, from their sums of squares. -/
def normed (o : FVec Ideal S16384x4x512 .f32) (g : FVec Ideal S4x512 .f32) (q : FVec Ideal S16384x4 .f32) : FVec Ideal S16384x4x512 .f32 :=
  mulf (mulf o (broadcastInDim S16384x4x512 ![0, 1, 2] bcast_S16384x4x1_S16384x4x512_0_1_2 (Host.rsqrt (addf (Host.divf (broadcastInDim S16384x4x1 ![0, 1] bcast_S16384x4_S16384x4x1_0_1 q) (broadcastInDim S16384x4x1 ![] bcast_S_S16384x4x1 (constant S_ .f32 0x44000000#32))) (broadcastInDim S16384x4x1 ![] bcast_S_S16384x4x1 (constant S_ .f32 0x358637BD#32)))))) (broadcastInDim S16384x4x512 ![0, 1, 2] bcast_S1x4x512_S16384x4x512_0_1_2 (broadcastInDim S1x4x512 ![1, 2] bcast_S4x512_S1x4x512_1_2 g))

/-- An element of a normalised group. -/
theorem normed_at (o : FVec Ideal S16384x4x512 .f32) (g : FVec Ideal S4x512 .f32) (s : Fin 16384) (j : Fin 4) (k : Fin 512) :
    normed o g (squares o) (ix3 s j k) = o (ix3 s j k) * scale (fun k => o (ix3 s j k)) * g (ix2 j k) := by
  unfold scale
  rw [← squares_at]
  generalize squares o = q
  pointwise [normed]

/-- The groups read out of the row. -/
theorem split_at (x : FVec Ideal S16384x2048 .f32) (s : Fin 16384) (j : Fin 4) (k : Fin 512) :
    shapeCast S16384x4x512 x shapeCasts_S16384x2048_S16384x4x512 (ix3 s j k) = x (ix2 s (at_ j k)) := by
  pointwise [at_]

/-- The gains read by group. -/
theorem gains_at (g : FVec Ideal S2048 .f32) (j : Fin 4) (k : Fin 512) :
    shapeCast S4x512 g shapeCasts_S2048_S4x512 (ix2 j k) = g (ix1 (at_ j k)) := by
  pointwise [at_]

/-- The row read out of the groups. -/
theorem join_at (y : FVec Ideal S16384x4x512 .f32) (s : Fin 16384) (j : Fin 4) (k : Fin 512) :
    shapeCast S16384x2048 y shapeCasts_S16384x4x512_S16384x2048 (ix2 s (at_ j k)) = y (ix3 s j k) := by
  pointwise [at_]

/-- The residual and the whole product. -/
def out (x : FVec Ideal S16384x2048 .f32) (y : FVec Ideal S16384x2048 .f32) (w : FVec Ideal S2048x2048 .bf16) : FVec Ideal S16384x2048 .f32 :=
  addf x (Host.dotGeneral dot_S16384x2048_S2048x2048_S16384x2048_1_0_0_1_n_n none y (extf .f32 w bitsLt_bf16_f32))

/-- An element of the output. -/
theorem out_at (x y : FVec Ideal S16384x2048 .f32) (w : FVec Ideal S2048x2048 .bf16) (s : Fin 16384) (n : Fin 2048) :
    out x y w (ix2 s n) = x (ix2 s n) + ∑ k : Fin 2048, y (ix2 s k) * w (ix2 k n) := by
  pointwise [out]

/-- A sum over the 2048 columns is the four groups' sums. -/
theorem sum_groups (f : Fin 2048 → EReal) : ∑ k, f k = ∑ j : Fin 4, ∑ k : Fin 512, f (at_ j k) :=
  Fin.sum_univ_tiles 4 512 rfl f

variable (x : FVec Ideal S16384x2048 .f32) (a b c y : FVec Ideal S16384x512 .f32) (u : FVec Ideal S512x512 .bf16)
  (v : FVec Ideal S512 .f32) (g : FVec Ideal S2048 .f32) (w : FVec Ideal S2048x2048 .bf16)

/-- The groups, read out of the row that holds them side by side. -/
def groups : FVec Ideal S16384x4x512 .f32 :=
  shapeCast S16384x4x512 (side a b c (gated (act y) u v)) shapeCasts_S16384x2048_S16384x4x512

/-- The reference's output. -/
def whole : FVec Ideal S16384x2048 .f32 :=
  out x (shapeCast S16384x2048 (normed (groups a b c y u v) (shapeCast S4x512 g shapeCasts_S2048_S4x512) (squares (groups a b c y u v))) shapeCasts_S16384x4x512_S16384x2048) w

/-- An element of the reference's output is the kernel's. -/
theorem whole_at (s : Fin 16384) (n : Fin 2048) :
    whole x a b c y u v g w (ix2 s n)
      = mix (x (ix2 s n)) (fun k => a (ix2 s k)) (fun k => b (ix2 s k)) (fun k => c (ix2 s k))
        (gate (fun k => y (ix2 s k)) (fun k n => u (ix2 k n)) (fun n => v (ix1 n)))
        (fun j k => g (ix1 (at_ j k))) (fun j k => w (ix2 (at_ j k) n)) := by
  have hg : ∀ (j : Fin 4) (k : Fin 512), groups a b c y u v (ix3 s j k) = row a b c (gated (act y) u v) s j k := fun j k =>
    (split_at _ s j k).trans (side_at _ _ _ _ s j k)
  have hd : ∀ k : Fin 512, gated (act y) u v (ix2 s k)
      = gate (fun k => y (ix2 s k)) (fun k n => u (ix2 k n)) (fun n => v (ix1 n)) k := fun k => by
    rw [gated_at]
    simp only [act_at]
    rfl
  unfold whole
  rw [out_at, sum_groups, Fin.sum_univ_four]
  simp only [join_at, normed_at, gains_at, hg]
  have h3 : row a b c (gated (act y) u v) s 3 = gate (fun k => y (ix2 s k)) (fun k n => u (ix2 k n)) (fun n => v (ix1 n)) := funext hd
  unfold mix part
  rw [← h3]
  simp only [add_assoc]
  rfl

open Cert.Kernel3Ideal.Mix (X A B C Y U Bias G W array)

/-- The two arrays are equal, from equal arguments. -/
theorem arrays_eq (m : (ℓ : Loc Cert.Kernel3Ideal.nD Cert.Kernel3Ideal.τ Cert.Kernel3Ideal.sig) → Buf (Elt Ideal) ℓ)
    (m' : (ℓ : Loc nD τ sig) → Buf (Elt Ideal) ℓ) (c : Dev nD)
    (h0 : m' ((c.tc : Thread nD τ).loc main_arg0) = X m c) (h1 : m' ((c.tc : Thread nD τ).loc main_arg1) = A m c)
    (h2 : m' ((c.tc : Thread nD τ).loc main_arg2) = B m c) (h3 : m' ((c.tc : Thread nD τ).loc main_arg3) = C m c)
    (h4 : m' ((c.tc : Thread nD τ).loc main_arg4) = Y m c) (h5 : m' ((c.tc : Thread nD τ).loc main_arg5) = U m c)
    (h6 : m' ((c.tc : Thread nD τ).loc main_arg6) = Bias m c) (h7 : m' ((c.tc : Thread nD τ).loc main_arg7) = G m c)
    (h8 : m' ((c.tc : Thread nD τ).loc main_arg8) = W m c) :
    Cert.Reference3Ideal.Value.res_main_v44 m' c = array m c := by
  have e : Cert.Reference3Ideal.Value.res_main_v44 m' c
      = whole (m' ((c.tc : Thread nD τ).loc main_arg0)) (m' ((c.tc : Thread nD τ).loc main_arg1)) (m' ((c.tc : Thread nD τ).loc main_arg2))
        (m' ((c.tc : Thread nD τ).loc main_arg3)) (m' ((c.tc : Thread nD τ).loc main_arg4)) (m' ((c.tc : Thread nD τ).loc main_arg5))
        (m' ((c.tc : Thread nD τ).loc main_arg6)) (m' ((c.tc : Thread nD τ).loc main_arg7)) (m' ((c.tc : Thread nD τ).loc main_arg8)) := rfl
  rw [e, h0, h1, h2, h3, h4, h5, h6, h7, h8]
  funext i
  have ei : i = ix2 (i 0) (i 1) := by funext a; fin_cases a <;> rfl
  refine (congrArg _ ei).trans ((whole_at _ _ _ _ _ _ _ _ _ (i 0) (i 1)).trans ?_)
  exact Cert.Kernel3Ideal.Mix.array_of m c i (i 0) (i 1) rfl rfl

end Cert.Reference3Ideal.Mix
end
-- ==== Proof.ExpertsRun.lean ====
module

public import proofs.«01_k».proof.Proof.Gen.Kernel4Ideal.Skeleton
public import proofs.«01_k».proof.Proof.Gen.Kernel4Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

/-! # The experts' call: it runs, whatever experts its table names

The call walks 160 blocks of rows. A table names each block's expert, whose weights are staged, and a word counts the
blocks in use: a block below the count is computed, a block at or past it is cleared. The module runs the body at any
tables whose experts exist, and launches the call. -/

@[expose] public section

set_option maxRecDepth 16384

noncomputable section

namespace Cert.Kernel4Ideal.Experts

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body -/

/-- The table of experts. -/
abbrev tabE : Memref sig .tc .smem S160 .i32 := Memref.whole main_arg1
/-- The table of one word, the count of blocks in use. -/
abbrev tabN : Memref sig .tc .smem S1 .i32 := Memref.whole main_arg2

/-- The count as the body reads it. -/
abbrev count (T : S1.Idx → Elt F .i32) : Elt F .i32 :=
  View.readAt (Elt F) tabN.view (Rect.unit (s := S1) ![0] S1.size inb_S1_S1_0).toLoadRect T (Shape.Idx.first (numel1_S1.symm ▸ Nat.one_pos))

/-- A block is cleared exactly where it is not computed. -/
theorem cleared_iff (i : grid0.Coords) (v : BitVec 32) : k0_cond2 i v = 1#1 ↔ ¬ k0_cond1 i v = 1#1 := by
  unfold k0_cond1 k0_cond2
  have e : BitVec.sle v (BitVec.ofNat 32 (i 0).val) = !BitVec.slt (BitVec.ofNat 32 (i 0).val) v := BitVec.sle_eq_not_slt
  cases h : BitVec.slt (BitVec.ofNat 32 (i 0).val) v <;>
    simp [Scalar.cmpi, Scalar.extui, IntOp.cmpi, e, h]

abbrev rX : Rect S256x2048 := Rect.unit (s := S256x2048) ![0, 0] S256x2048.size inb_S256x2048_S256x2048_0_0
abbrev rG : Rect S1x2048x512 := Rect.unit (s := S1x2048x512) ![0, 0, 0] S1x2048x512.size inb_S1x2048x512_S1x2048x512_0_0_0
abbrev rD : Rect S1x512x2048 := Rect.unit (s := S1x512x2048) ![0, 0, 0] S1x512x2048.size inb_S1x512x2048_S1x512x2048_0_0_0

/-- What is stored at a grid point: the block computed, or zeros. -/
def stored (i : grid0.Coords) (v : Elt F .i32) (x0 : Vec F S256x2048 .bf16) (x1 x2 : Vec F S1x2048x512 .bf16) (x3 : Vec F S1x512x2048 .bf16) :
    Vec F S256x2048 .bf16 :=
  if k0_cond1 i v = 1#1 then k0_pay1 (View.ld x0 rX) (View.ld x1 rG) (View.ld x2 rG) (View.ld x3 rD) else k0_pay2

/-- What the output's buffer holds after the body. -/
def out (i : grid0.Coords) (v : Elt F .i32) (x0 : Vec F S256x2048 .bf16) (x1 x2 : Vec F S1x2048x512 .bf16) (x3 : Vec F S1x512x2048 .bf16) :
    Vec F S256x2048 .bf16 := View.canon [⟨rX, stored i v x0 x1 x2 x3⟩]

/-- The store covers the buffer. -/
theorem covers (p : Vec F S256x2048 .bf16) (y : S256x2048.Idx) : ∃ pc ∈ ([⟨rX, p⟩] : List (View.Piece (Elt F) S256x2048 .bf16)), y ∈ pc.1.set :=
  View.cover_of_tiled [⟨rX, p⟩] S256x2048.size (by rfl) y

set_option maxHeartbeats 4000000 in
/-- The body on whole buffers: the operands and the tables stay, the output's buffer ends at `out`. -/
theorem body_runs (c : Dev nD) (E : Set ℕ) (i : grid0.Coords) (arg3 : Memref sig .tc .vmem S256x2048 .bf16) (harg3 : arg3.IsWhole)
    (arg4 : Memref sig .tc .vmem S1x2048x512 .bf16) (harg4 : arg4.IsWhole) (arg5 : Memref sig .tc .vmem S1x2048x512 .bf16) (harg5 : arg5.IsWhole)
    (arg6 : Memref sig .tc .vmem S1x512x2048 .bf16) (harg6 : arg6.IsWhole) (arg7 : Memref sig .tc .vmem S256x2048 .bf16) (harg7 : arg7.IsWhole)
    (T0 : S160.Idx → Elt F .i32) (T1 : S1.Idx → Elt F .i32) (x0 : Vec F S256x2048 .bf16) (x1 x2 : Vec F S1x2048x512 .bf16) (x3 : Vec F S1x512x2048 .bf16)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3
        ∗ (tabE.view.loc (c : Thread nD τ) ↦{fullShare.right} T0) ∗ (tabN.view.loc (c : Thread nD τ) ↦{fullShare.right} T1)
        ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3
            ∗ (tabE.view.loc (c : Thread nD τ) ↦{fullShare.right} T0) ∗ (tabN.view.loc (c : Thread nD τ) ↦{fullShare.right} T1)
            ∗ owns (c : Thread nD τ) arg7 fullShare (out i (count T1) x0 x1 x2 x3)) -∗ K ⟨⟩))
      ⊢ wp frame (wpE (defs₀ (F := F)) Variants.none c none) E
          (cc0_moe_ffn i tabE (Memref.isWhole_whole _) tabN (Memref.isWhole_whole _) arg3 harg3 arg4 harg4 arg5 harg5 arg6 harg6 arg7 harg7) K := by
  rw [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, HT0, HT1, ⟨%d4, %f4, -, H4⟩, Hk⟩
  subst hf0 hf1 hf2 hf3
  have hT0 : tabE.IsWhole := Memref.isWhole_whole _
  have hT1 : tabN.IsWhole := Memref.isWhole_whole _
  by_cases h1 : k0_cond1 i (count T1) = 1#1
  · have h2 : ¬ k0_cond2 i (count T1) = 1#1 := fun h => (cleared_iff i _).mp h h1
    sl_exec! (disch := first | (guard_target = k0_cond1 _ _ = _; exact h1) | (guard_target = ¬(k0_cond2 _ _ = _); exact h2))
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [HT0]; · iexact HT0
    isplitl [HT1]; · iexact HT1
    iexists _; isplitr
    swap; · iexact H4
    ipureintro
    unfold out stored; rw [if_pos h1]
    exact View.read_writes_eq_canon _ _ _ (covers _)
  · have h2 : k0_cond2 i (count T1) = 1#1 := (cleared_iff i _).mpr h1
    sl_exec! (disch := first | (guard_target = ¬(k0_cond1 _ _ = _); exact h1) | (guard_target = k0_cond2 _ _ = _; exact h2))
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [HT0]; · iexact HT0
    isplitl [HT1]; · iexact HT1
    iexists _; isplitr
    swap; · iexact H4
    ipureintro
    unfold out stored; rw [if_neg h1]
    exact View.read_writes_eq_canon _ _ _ (covers _)

/-! ## The pipeline at its tables -/

variable (a : (pcfg0 (F := F)).Adm)
variable (m : (ℓ : Loc nD τ sig) → Buf (Elt F) ℓ) (ρ : Dev nD → PrngReg)

/-- The memory's tables are the contents `a`. -/
def Tables : Prop := ∀ (c : Dev nD) (j : Fin 2), m ((c : Thread nD τ).loc (pre0.ref j)) = a.1 j

/-- The pipeline at the tables. -/
abbrev cfg : Pipeline.Cfg sig Λ₀ := cfg0 (F := F) a
abbrev pipes : Fin 1 → Pipeline.Cfg sig Λ₀ := Pipeline.pin (pcfgs (F := F)) fun _ => a
/-- A point's coordinates. -/
abbrev crd (t : Fin (cfg a).N) : (cfg a).grid.Coords := (cfg a).grid.coords t
/-- The tables at their own types. -/
abbrev tE : S160.Idx → Elt F .i32 := a.1 0
abbrev tN : S1.Idx → Elt F .i32 := a.1 1

/-- A point's buffers. -/
abbrev ms0 (t : Fin (cfg a).N) : Memref sig .tc .vmem S256x2048 .bf16 := spec0_0.stage ((cfg a).slots t (0 : Fin 5))
abbrev ms1 (t : Fin (cfg a).N) : Memref sig .tc .vmem S1x2048x512 .bf16 := spec0_1.stage ((cfg a).slots t (1 : Fin 5))
abbrev ms2 (t : Fin (cfg a).N) : Memref sig .tc .vmem S1x2048x512 .bf16 := spec0_2.stage ((cfg a).slots t (2 : Fin 5))
abbrev ms3 (t : Fin (cfg a).N) : Memref sig .tc .vmem S1x512x2048 .bf16 := spec0_3.stage ((cfg a).slots t (3 : Fin 5))
abbrev ms4 (t : Fin (cfg a).N) : Memref sig .tc .vmem S256x2048 .bf16 := spec0_4.stage ((cfg a).slots t (4 : Fin 5))
abbrev hs0 (t : Fin (cfg a).N) : (ms0 a t).IsWhole := hstage0_0 (((cfg a).slots t (0 : Fin 5)).cast nbuf0_0)
abbrev hs1 (t : Fin (cfg a).N) : (ms1 a t).IsWhole := hstage0_1 (((cfg a).slots t (1 : Fin 5)).cast nbuf0_1)
abbrev hs2 (t : Fin (cfg a).N) : (ms2 a t).IsWhole := hstage0_2 (((cfg a).slots t (2 : Fin 5)).cast nbuf0_2)
abbrev hs3 (t : Fin (cfg a).N) : (ms3 a t).IsWhole := hstage0_3 (((cfg a).slots t (3 : Fin 5)).cast nbuf0_3)
abbrev hs4 (t : Fin (cfg a).N) : (ms4 a t).IsWhole := hstage0_4 (((cfg a).slots t (4 : Fin 5)).cast nbuf0_4)

/-- A window's block at a point, as launched. -/
def iblk (c : Dev nD) (w : Fin (cfg a).W) (t : Fin (cfg a).N) : (((cfg a).win w).xblock (crd a t)).Idx → Elt F ((cfg a).win w).elt :=
  (((cfg a).win w).blk t).view.read (Elt F) ((s₀ m ρ).mem (((cfg a).win w).arr.view.loc (c : Thread nD τ)))

/-- What a point leaves in the output's buffer. -/
@[irreducible] def res (c : Dev nD) (t : Fin (cfg a).N) : Vec F S256x2048 .bf16 :=
  out (crd a t) (count (tN a)) (iblk a m ρ c (0 : Fin 5) t) (iblk a m ρ c (1 : Fin 5) t) (iblk a m ρ c (2 : Fin 5) t) (iblk a m ρ c (3 : Fin 5) t)

/-- The body's shares of the tables. -/
def held (c : Dev nD) : sProp 𝕄 :=
  iprop((tabE.view.loc (c : Thread nD τ) ↦{fullShare.right} tE a) ∗ (tabN.view.loc (c : Thread nD τ) ↦{fullShare.right} tN a))

/-- The proof data: the arrays as launched, each buffer after a point, the tables throughout. -/
def dats (_ : Fin 1) (c : Dev nD) : Dat τ (Elt F) Unit ℕ (UR sig nD τ) ℕ (cfg a) c where
  A w := (s₀ m ρ).mem (((cfg a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => res a m ρ c t
  Φ _ := held a c
  q _ := fullShare
  owed _ := 0

theorem after0 (c : Dev nD) (t : Fin (cfg a).N) : (dats a m ρ 0 c).after (0 : Fin 5) t = iblk a m ρ c (0 : Fin 5) t := rfl
theorem after1 (c : Dev nD) (t : Fin (cfg a).N) : (dats a m ρ 0 c).after (1 : Fin 5) t = iblk a m ρ c (1 : Fin 5) t := rfl
theorem after2 (c : Dev nD) (t : Fin (cfg a).N) : (dats a m ρ 0 c).after (2 : Fin 5) t = iblk a m ρ c (2 : Fin 5) t := rfl
theorem after3 (c : Dev nD) (t : Fin (cfg a).N) : (dats a m ρ 0 c).after (3 : Fin 5) t = iblk a m ρ c (3 : Fin 5) t := rfl
theorem after4 (c : Dev nD) (t : Fin (cfg a).N) : (dats a m ρ 0 c).after (4 : Fin 5) t = res a m ρ c t := rfl

/-- An operand's buffer holds its block when the body runs. -/
theorem before0 (c : Dev nD) (t : Fin (cfg a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfg a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfg a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfg a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- Every point stores the output. -/
theorem busy (t : Fin (cfg a).N) : (cfg a).idle (4 : Fin 5) ((cfg a).grid.coords t) = false := by
  show (!(k0_cond1 (crd a t) (a.1.atD 1 ![0]) == 1#1) && !(k0_cond2 (crd a t) (a.1.atD 1 ![0]) == 1#1)) = false
  by_cases h : k0_cond1 (crd a t) (a.1.atD 1 ![0]) = 1#1
  · simp [h]
  · simp [(cleared_iff _ _).mpr h]

set_option maxHeartbeats 4000000 in
/-- The body at a point of the pipeline. -/
theorem point_runs (c : Dev nD) (t : Fin (cfg a).N) :
    iprop((dats a m ρ 0 c).Φ t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := F)) Variants.none c none) Set.univ
          (cc0_moe_ffn (crd a t) tabE (Memref.isWhole_whole _) tabN (Memref.isWhole_whole _) (ms0 a t) (hs0 a t) (ms1 a t) (hs1 a t) (ms2 a t) (hs2 a t)
            (ms3 a t) (hs3 a t) (ms4 a t) (hs4 a t)) fun _ =>
          iprop((dats a m ρ 0 c).Φ t.succ ∗ (dats a m ρ 0 c).owesAt () t.succ
            ∗ bigSep Finset.univ fun w : Fin (cfg a).W =>
                match (cfg a).idle w ((cfg a).grid.coords t) with
                | true =>
                  match ((cfg a).win w).flush t with
                  | false => iprop(∃ d, owns (c : Thread nD τ) (((cfg a).win w).stage ((cfg a).slots t w)) fullShare ((dats a m ρ 0 c).before w t d))
                  | true => owns (c : Thread nD τ) (((cfg a).win w).stage ((cfg a).slots t w)) fullShare ((dats a m ρ 0 c).after w t)
                | false => owns (c : Thread nD τ) (((cfg a).win w).stage ((cfg a).slots t w)) fullShare ((dats a m ρ 0 c).after w t)) := by
  rw [bigSep_W0]
  rewrite [busy a t]
  simp only [before0, before1, before2, before3, after0, after1, after2, after3, after4]
  rewrite [show (dats a m ρ 0 c).Φ t.succ = held a c from rfl, show (dats a m ρ 0 c).Φ t.castSucc = held a c from rfl,
    show (dats a m ρ 0 c).owesAt () t.succ = (dats a m ρ 0 c).owesAt () t.castSucc from rfl]
  unfold held res
  iintro ⟨⟨HT0, HT1⟩, Ho, ⟨%d0, H0⟩, ⟨%d1, H1⟩, ⟨%d2, H2⟩, ⟨%d3, H3⟩, ⟨%d4, H4⟩⟩
  iapply (body_runs c Set.univ (crd a t) (ms0 a t) (hs0 a t) (ms1 a t) (hs1 a t) (ms2 a t) (hs2 a t) (ms3 a t) (hs3 a t) (ms4 a t) (hs4 a t)
    (tE a) (tN a) (iblk a m ρ c (0 : Fin 5) t) (iblk a m ρ c (1 : Fin 5) t) (iblk a m ρ c (2 : Fin 5) t) (iblk a m ρ c (3 : Fin 5) t) _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  iintro ⟨H0, H1, H2, H3, HT0, HT1, H4⟩
  isplitl [HT0 HT1]
  · isplitl [HT0]
    · iexact HT0
    iexact HT1
  isplitl [Ho]; · iexact Ho
  isplitl [H0]; · iexact H0
  isplitl [H1]; · iexact H1
  isplitl [H2]; · iexact H2
  isplitl [H3]; · iexact H3
  iexact H4

/-- The body at every point. -/
theorem points_run (c : Dev nD) : BodyObligation (dats a m ρ 0 c) (defs₀ (F := F)) Variants.none () Set.univ := fun t => by
  rw [bigSep_W0]
  exact point_runs a m ρ c t

/-! ## The launch -/

/-- The launch's element of the rounds library. -/
def u₀ : UR sig nD τ :=
  initOf (Pipeline.cells (pipes a) ((launch0 (F := F)).cellOf_inj fun _ => a))
    (Pipeline.launchToks (pipes a) ((launch0 (F := F)).cellOf_inj fun _ => a))

theorem share_eq (c : Dev nD) (w : Fin (cfg a).W) : (dats a m ρ 0 c).share w = fullShare := by unfold Dat.share; split <;> rfl

/-- The tables one by one. -/
theorem tables_split (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- The body's shares of the tables come from the region's. -/
theorem enter (c : Dev nD) :
    iprop(BI.emp ∗ Pipeline.prefHeld pre0 c (fun _ => fullShare.right) a.1 ∗ Pipeline.scopedRest spec0 c) ⊢ (dats a m ρ 0 c).Φ 0 := by
  rw [tables_split, scopedRest0_eq, show (dats a m ρ 0 c).Φ 0 = held a c from rfl]
  unfold held
  iintro ⟨-, ⟨HT0, HT1⟩, -⟩
  isplitl [HT0]
  · iexact HT0
  iexact HT1

/-- At the end they are let go. -/
theorem leave (c : Dev nD) : (dats a m ρ 0 c).Φ (Fin.last (cfg a).N) ⊢ iprop(BI.emp ∗ Pipeline.scopedRest spec0 c) := by
  rw [scopedRest0_eq, show (dats a m ρ 0 c).Φ (Fin.last (cfg a).N) = held a c from rfl]
  unfold held
  iintro ⟨-, -⟩
  isplitr; · iempintro
  iempintro

/-- The final arrays and tables. -/
def Final : PUnit × MemSt nD τ sig (Elt F) → Prop := fun r =>
  ∀ c : Dev nD, (∀ w : Fin (cfg a).W, r.2.mem (((cfg a).win w).arr.view.loc (c : Thread nD τ)) = (dats a m ρ 0 c).arrAt w (cfg a).N)
    ∧ ∀ j, r.2.mem ((c : Thread nD τ).loc (pre0.ref j)) = a.1 j

set_option backward.isDefEq.respectTransparency.types false in
set_option maxHeartbeats 4000000 in
/-- The call runs to the final arrays, every semaphore at zero. -/
theorem runs (hT : Tables a m) : θ_run (defs (F := F)) (onTc (τ := τ) (main (F := F))) (s₀ m ρ) (fun r => Final a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre (emb₁ : Emb (UR sig nD τ) 𝕄) defs₀ Variants.none m ρ main
    (hbody := fun c => (points_run a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes a) (dats a m ρ) 0 (launch0 (F := F)).win.arr_inj c (launch0 (F := F)).arr_whole
      (share_eq a m ρ c) _ _ fun _ => rfl)
    (hpf := hT)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The result's array, the arguments as launched, and every semaphore at zero. -/
theorem run (hT : Tables a m) :
    θ_run (defs (F := F)) (onTc (τ := τ) (main (F := F))) ⟨m, fun _ => 0, ρ⟩ (fun r => (∀ c : Dev nD,
      r.2.mem ((c.tc : Thread nD τ).loc main_v0) = (dats a m ρ 0 c).arrAt (4 : Fin 5) (cfg a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).1 (0 : Fin 5)).trans ((dats a m ρ 0 c).arrAt_in (0 : Fin 5) rfl _),
    ((h.1 c).2 0).trans (hT c 0).symm, ((h.1 c).2 1).trans (hT c 1).symm,
    ((h.1 c).1 (1 : Fin 5)).trans ((dats a m ρ 0 c).arrAt_in (1 : Fin 5) rfl _), ((h.1 c).1 (2 : Fin 5)).trans ((dats a m ρ 0 c).arrAt_in (2 : Fin 5) rfl _),
    ((h.1 c).1 (3 : Fin 5)).trans ((dats a m ρ 0 c).arrAt_in (3 : Fin 5) rfl _)⟩, h.2⟩) (runs a m ρ hT)

/-! ## The tables of a memory whose experts exist -/

/-- The memory's tables. -/
def pf : pre0.Contents (Elt F) := fun j => m (((0 : Dev nD) : Thread nD τ).loc (pre0.ref j))

/-- Each block's expert exists. -/
def Exist : Prop := ∀ i : grid0.Coords, (((pf m).at 0 (Rect.unit (s := S160) (k0_off1 i) S1.size (k0_off1_inb i)) numel1_S1 : BitVec 32)).toNat < 32

/-- Then every block of weights is inside its array. -/
theorem admissible (h : Exist m) : ok0 (F := F) (pf m) := by
  refine ⟨fun i => ⟨fun x => ?_, .inr (Affine.block_words_dvd (s := S32x2048x512) (p := EltTy.packing .bf16) (by decide) (by decide))⟩,
    fun i => ⟨fun x => ?_, .inr (Affine.block_words_dvd (s := S32x2048x512) (p := EltTy.packing .bf16) (by decide) (by decide))⟩,
    fun i => ⟨fun x => ?_, .inr (Affine.block_words_dvd (s := S32x512x2048) (p := EltTy.packing .bf16) (by decide) (by decide))⟩⟩
  all_goals
    have := h i
    fin_cases x
    · exact (Nat.mul_one _).trans_le this
    · show (0 + 1) * _ ≤ _
      decide
    · show (0 + 1) * _ ≤ _
      decide

/-- The memory's tables as admissible contents. -/
def adm (h : Exist m) : (pcfg0 (F := F)).Adm := ⟨pf m, admissible m h⟩

theorem tables (h : Exist m) : Tables (adm m h) m := by
  intro c j
  obtain rfl : c = 0 := Subsingleton.elim _ _
  rfl

end Cert.Kernel4Ideal.Experts

end
-- ==== Proof.Named.lean ====
module

public import proofs.«01_k».proof.Defs
public import proofs.«01_k».proof.Proof.ExpertsRun
public import proofs.«01_k».proof.Proof.ExpertsRunBits
public import proofs.«01_k».proof.Proof.Gen.Pre_experts_named
public import Idealize.ShloMosaic.Lib.Claim
public import Idealize.ShloMosaic.Lib.Pointwise
public import Idealize.ShloMosaic.Lib.ReduceAll

/-! # Every expert the table names exists

The precondition bounds every word of the table, read as a signed integer, by 0 and 32. -/

@[expose] public section

set_option maxRecDepth 16384

noncomputable section

namespace Cert.Pre_experts_named

open Idealize.ShloMosaic

/-- A word between 0 and 32 as a signed integer is below 32 as a natural number. -/
theorem small (w : BitVec 32) (h0 : IntOp.cmpi .sge w 0#32 = 1#1) (h1 : IntOp.cmpi .slt w 32#32 = 1#1) : w.toNat < 32 := by
  have b0 : BitVec.sle 0#32 w = true := by
    cases e : BitVec.sle 0#32 w
    · simp [IntOp.cmpi, e] at h0
    · rfl
  have b1 : BitVec.slt w 32#32 = true := by
    cases e : BitVec.slt w 32#32
    · simp [IntOp.cmpi, e] at h1
    · rfl
  have z : BitVec.toInt 0#32 = 0 := by decide
  have t : BitVec.toInt 32#32 = 32 := by decide
  rw [BitVec.sle_iff_toInt_le, z] at b0
  rw [BitVec.slt_iff_toInt_lt, t] at b1
  have hw := w.isLt
  rw [BitVec.toInt_eq_toNat_cond] at b0 b1
  split at b0 <;> omega

/-- Under the precondition every word of the table is below 32. -/
theorem named {F : FTy → Type} [FloatOps F] (x : FVec F S40960x2048 .bf16) (e : IVec S160 32) (n : IVec S1 32) (g u : FVec F S32x2048x512 .bf16)
    (d : FVec F S32x512x2048 .bf16) (h : fn (F := F) x e n g u d = fun _ => 1#1) (i : S160.Idx) : (e i).toNat < 32 := by
  have h1 := congrFun h ix0
  have g1 := Host.reduce_andi_all _ _ _ _ _ h1 i
  obtain ⟨a, b⟩ := IntOp.andi_eq_one.1 g1
  exact small _ a b

end Cert.Pre_experts_named

namespace Cert.Kernel4.Experts

open Cert.Kernel4 Cert.Kernel4.Gen Idealize.ShloMosaic Idealize.ShloMosaic.TcCoe

/-- Each block's expert exists under the precondition. -/
theorem exist (m : (ℓ : Loc nD τ sig) → Buf (Elt Bits) ℓ) (h : Cert.Pre_Kernel4 m) : Exist m := fun i =>
  Cert.Pre_experts_named.named _ _ _ _ _ _ (h 0) _

end Cert.Kernel4.Experts

namespace Cert.Kernel4Ideal.Experts

open Cert.Kernel4Ideal Cert.Kernel4Ideal.Gen Idealize.ShloMosaic Idealize.ShloMosaic.TcCoe

/-- Each block's expert exists under the precondition. -/
theorem exist (m : (ℓ : Loc nD τ sig) → Buf (Elt Ideal) ℓ) (h : Cert.Pre_Kernel4Ideal m) : Exist m := fun i =>
  Cert.Pre_experts_named.named _ _ _ _ _ _ (h 0) _

end Cert.Kernel4Ideal.Experts

end
-- ==== Proof.ExpertsOut.lean ====
module

public import proofs.«01_k».proof.Proof.ExpertsRun
public import Idealize.ShloMosaic.Lib.Pipeline.ValueKit
public import Idealize.ShloMosaic.Lib.Pointwise
public import Idealize.ShloMosaic.Lib.Claim

/-! # The experts' call: the kernel's array

A block in use holds its rows' gated projections through its own expert; the blocks past the count hold zeros. -/

@[expose] public section

set_option maxRecDepth 16384

noncomputable section

namespace Cert.Kernel4Ideal.Experts

open Cert.Kernel4Ideal Cert.Kernel4Ideal.Gen Idealize.ShloMosaic Idealize.ShloMosaic.TcCoe Idealize.SL.Sem

/-- A hidden element: the gate's projection by its own sigmoid, times the other projection. -/
def hidden (x g u : Fin 2048 → EReal) : EReal :=
  (∑ k, x k * g k) * Ideal.logistic (∑ k, x k * g k) * (∑ k, x k * u k)

/-- An element of a row through one expert. -/
def through (x : Fin 2048 → EReal) (g u : Fin 2048 → Fin 512 → EReal) (d : Fin 512 → EReal) : EReal :=
  ∑ f : Fin 512, hidden x (fun k => g k f) (fun k => u k f) * d f

/-- The computed block. -/
theorem pay1_at (x : FVec Ideal S256x2048 .bf16) (g u : FVec Ideal S1x2048x512 .bf16) (d : FVec Ideal S1x512x2048 .bf16) (r : Fin 256) (n : Fin 2048) :
    k0_pay1 (F := Ideal) x g u d (ix2 r n)
      = through (fun k => x (ix2 r k)) (fun k f => g (ix3 0 k f)) (fun k f => u (ix3 0 k f)) (fun f => d (ix3 0 f n)) := by
  pointwise [k0_pay1, through, hidden]

/-- The cleared block. -/
theorem pay2_at (y : S256x2048.Idx) : k0_pay2 (F := Ideal) y = (0 : EReal) := by
  have h : (Ideal.ofBits .bf16 0x0000#16) = 0 := by simp [Ideal.ofBits, Ideal.ieee]
  exact h

/-- What a point leaves, at an element. -/
theorem out_at (i : grid0.Coords) (v : BitVec 32) (x : Vec Ideal S256x2048 .bf16) (g u : Vec Ideal S1x2048x512 .bf16) (d : Vec Ideal S1x512x2048 .bf16)
    (r : Fin 256) (n : Fin 2048) :
    out (F := Ideal) i v x g u d (ix2 r n)
      = if k0_cond1 i v = 1#1 then through (fun k => x (ix2 r k)) (fun k f => g (ix3 0 k f)) (fun k f => u (ix3 0 k f)) (fun f => d (ix3 0 f n)) else (0 : EReal) := by
  unfold out stored
  have e : (![0, 0] : Fin 2 → Nat) = fun _ => 0 := by funext a; fin_cases a <;> rfl
  have e' : (![0, 0, 0] : Fin 3 → Nat) = fun _ => 0 := by funext a; fin_cases a <;> rfl
  rw [View.canon_unit_zero e]
  split
  · rw [View.ld_unit_zero e, View.ld_unit_zero e', View.ld_unit_zero e', View.ld_unit_zero e']
    exact pay1_at _ _ _ _ r n
  · exact pay2_at _

variable (a : (pcfg0 (F := Ideal)).Adm) (m : (ℓ : Loc nD τ sig) → Buf (Elt Ideal) ℓ) (ρ : Dev nD → PrngReg) (c : Dev nD)

/-- The rows as launched. -/
abbrev X : FVec Ideal S40960x2048 .bf16 := m ((c.tc : Thread nD τ).loc main_arg0)
/-- The table of experts. -/
abbrev E : IVec S160 32 := m ((c.tc : Thread nD τ).loc main_arg1)
/-- The count of blocks in use. -/
abbrev K : IVec S1 32 := m ((c.tc : Thread nD τ).loc main_arg2)
/-- The gates' weights. -/
abbrev G : FVec Ideal S32x2048x512 .bf16 := m ((c.tc : Thread nD τ).loc main_arg3)
/-- The other projections' weights. -/
abbrev U : FVec Ideal S32x2048x512 .bf16 := m ((c.tc : Thread nD τ).loc main_arg4)
/-- The output projections' weights. -/
abbrev D : FVec Ideal S32x512x2048 .bf16 := m ((c.tc : Thread nD τ).loc main_arg5)

/-- Tables of zeros. -/
def zeros : pre0.Contents (Elt Ideal) := fun
  | 0 => fun _ => (0#32 : BitVec 32)
  | 1 => fun _ => (0#32 : BitVec 32)
  | ⟨_ + 2, h⟩ => absurd h (Nat.not_lt.2 (Nat.le_add_left _ _))

/-- The output's blocks cover the array: they are the same at every table. -/
theorem covered : ((cfg a).win (4 : Fin 5)).Covers := by
  have h : ((cfg ⟨zeros, by decide +kernel⟩).win (4 : Fin 5)).Covers := by decide +kernel
  exact h

/-- A coordinate as a word. -/
theorem coord (i : grid0.Coords) : (BitVec.ofNat 32 (i 0).val).toNat = (i 0).val := by
  have h : (i 0).val < 160 := (i 0).isLt
  rw [BitVec.toNat_ofNat]; omega

/-- There are 160 points. -/
theorem point_lt (t : Fin (cfg a).N) : t.val < 160 := t.isLt

/-- A point's coordinate is its number. -/
theorem crd_eq (t : Fin (cfg a).N) : (crd a t 0).val = t.val := by
  have : ∀ t : Fin grid0.N, (grid0.coords t 0).val = t.val := by decide +kernel
  exact this t

/-- The rows' blocks. -/
theorem idx0 (t : Fin (cfg a).N) : ((cfg a).win (0 : Fin 5)).index t = ![t.val, 0] := by
  have h : cc0_transform_0 (crd a t) = ![t.val, 0] := by
    unfold cc0_transform_0
    dsimp only
    rw [coord, crd_eq]
    rfl
  exact h

/-- The output's blocks. -/
theorem idx4 (t : Fin (cfg a).N) : ((cfg a).win (4 : Fin 5)).index t = ![t.val, 0] := by
  have h : cc0_transform_4 (crd a t) = ![t.val, 0] := by
    unfold cc0_transform_4
    dsimp only
    rw [coord, crd_eq]
    rfl
  exact h

/-- The word of the table a point reads. -/
theorem word (t : Fin (cfg a).N) (h : ∀ x, ![(Scalar.indexCast (BitVec.ofNat 32 (crd a t 0).val) : Index).toNat] x + S1.size x ≤ S160.size x) :
    (a.1.at 0 (Rect.unit (s := S160) ![(Scalar.indexCast (BitVec.ofNat 32 (crd a t 0).val) : Index).toNat] S1.size h) numel1_S1 : BitVec 32)
      = tE a (ix1 ⟨t.val, point_lt a t⟩) := by
  refine congrArg (tE a) (funext fun (x : Fin 1) => Fin.ext ?_)
  obtain rfl : x = 0 := Subsingleton.elim _ _
  have e : (Scalar.indexCast (BitVec.ofNat 32 (crd a t 0).val) : Index).toNat = t.val := (coord (crd a t)).trans (crd_eq a t)
  refine Eq.trans ?_ e
  rfl

/-- The block of an expert's weights. -/
theorem idx1 (t : Fin (cfg a).N) : ((cfg a).win (1 : Fin 5)).index t = ![(tE a (ix1 ⟨t.val, point_lt a t⟩)).toNat, 0, 0] := by
  have h : cc0_transform_1 k0_off1_inb numel1_S1 a.1 (crd a t) = ![(tE a (ix1 ⟨t.val, point_lt a t⟩)).toNat, 0, 0] := by
    rw [← word a t (k0_off1_inb (crd a t))]
    rfl
  exact h

/-- The block of its other weights. -/
theorem idx2 (t : Fin (cfg a).N) : ((cfg a).win (2 : Fin 5)).index t = ![(tE a (ix1 ⟨t.val, point_lt a t⟩)).toNat, 0, 0] := by
  have h : cc0_transform_2 k0_off1_inb numel1_S1 a.1 (crd a t) = ![(tE a (ix1 ⟨t.val, point_lt a t⟩)).toNat, 0, 0] := by
    rw [← word a t (k0_off1_inb (crd a t))]
    rfl
  exact h

/-- The block of its output weights. -/
theorem idx3 (t : Fin (cfg a).N) : ((cfg a).win (3 : Fin 5)).index t = ![(tE a (ix1 ⟨t.val, point_lt a t⟩)).toNat, 0, 0] := by
  have h : cc0_transform_3 k0_off1_inb numel1_S1 a.1 (crd a t) = ![(tE a (ix1 ⟨t.val, point_lt a t⟩)).toNat, 0, 0] := by
    rw [← word a t (k0_off1_inb (crd a t))]
    rfl
  exact h

/-- A point's rows. -/
theorem x_at (t : Fin (cfg a).N) (r : Fin 256) (n : Fin 2048) :
    iblk a m ρ c (0 : Fin 5) t (ix2 r n) = X m c (ix2 ⟨256 * t.val + r.val, by have := point_lt a t; omega⟩ n) := by
  blk_ext [iblk, idx0 a t]

/-- The expert a word names. -/
def pick (w : BitVec 32) : Fin 32 := ⟨min w.toNat 31, by omega⟩

/-- A word below 32 names itself. -/
theorem pick_val (w : BitVec 32) (h : w.toNat < 32) : (pick w).val = w.toNat := Nat.min_eq_left (by omega)

variable (hT : Tables a m) (hE : ∀ i : S160.Idx, (E m c i).toNat < 32)

include hT in
/-- The table is the argument's. -/
theorem tE_eq : tE a = E m c := (hT c 0).symm

include hT in
/-- The count is the argument's. -/
theorem count_eq : count (tN a) = K m c (ix1 0) := by
  have h : tN a = K m c := (hT c 1).symm
  rw [h]
  refine congrArg (K m c) (funext fun (x : Fin 1) => ?_)
  obtain rfl : x = 0 := Subsingleton.elim _ _
  exact Subsingleton.elim (α := Fin 1) _ _

include hT hE in
/-- A point's gate weight. -/
theorem g_at (t : Fin (cfg a).N) (k : Fin 2048) (f : Fin 512) :
    iblk a m ρ c (1 : Fin 5) t (ix3 0 k f) = G m c (ix3 (pick (E m c (ix1 ⟨t.val, point_lt a t⟩))) k f) := by
  have e := pick_val _ (hE (ix1 ⟨t.val, point_lt a t⟩))
  have i := idx1 a t
  rw [tE_eq a m c hT, ← e] at i
  blk_ext [iblk, i]

include hT hE in
/-- A point's other weight. -/
theorem u_at (t : Fin (cfg a).N) (k : Fin 2048) (f : Fin 512) :
    iblk a m ρ c (2 : Fin 5) t (ix3 0 k f) = U m c (ix3 (pick (E m c (ix1 ⟨t.val, point_lt a t⟩))) k f) := by
  have e := pick_val _ (hE (ix1 ⟨t.val, point_lt a t⟩))
  have i := idx2 a t
  rw [tE_eq a m c hT, ← e] at i
  blk_ext [iblk, i]

include hT hE in
/-- A point's output weight. -/
theorem d_at (t : Fin (cfg a).N) (f : Fin 512) (n : Fin 2048) :
    iblk a m ρ c (3 : Fin 5) t (ix3 0 f n) = D m c (ix3 (pick (E m c (ix1 ⟨t.val, point_lt a t⟩))) f n) := by
  have e := pick_val _ (hE (ix1 ⟨t.val, point_lt a t⟩))
  have i := idx3 a t
  rw [tE_eq a m c hT, ← e] at i
  blk_ext [iblk, i]

/-- An element of block `b`'s row `x`, through the expert the table names, or zero past the count. -/
def element (b : Fin 160) (x : Fin 2048 → EReal) (n : Fin 2048) : EReal :=
  if IntOp.cmpi .slt (BitVec.ofNat 32 b.val) (K m c (ix1 0)) = 1#1 then
    through x (fun k f => G m c (ix3 (pick (E m c (ix1 b))) k f)) (fun k f => U m c (ix3 (pick (E m c (ix1 b))) k f))
      (fun f => D m c (ix3 (pick (E m c (ix1 b))) f n))
  else 0

/-- The block of a row. -/
def block (s : Fin 40960) : Fin 160 := ⟨s.val / 256, by omega⟩

/-- The array. -/
def array : FVec Ideal S40960x2048 .bf16 := fun i => element m c (block (i 0)) (fun k => X m c (ix2 (i 0) k)) (i 1)

/-- The array at an index, from the values of its coordinates. -/
theorem array_of (i : S40960x2048.Idx) (s : Fin 40960) (n : Fin 2048) (b : Fin 160) (h0 : (i 0).val = s.val) (h1 : (i 1).val = n.val)
    (hb : s.val / 256 = b.val) : element m c b (fun k => X m c (ix2 s k)) n = array m c i := by
  have ei : i = ix2 s n := by
    funext a
    fin_cases a
    · exact Fin.ext h0
    · exact Fin.ext h1
  subst ei
  have eb : b = block s := Fin.ext hb.symm
  subst eb
  rfl

/-- The body's test is the comparison of the block's number and the count. -/
theorem cond_iff (i : grid0.Coords) (v : BitVec 32) : k0_cond1 i v = 1#1 ↔ IntOp.cmpi .slt (BitVec.ofNat 32 (i 0).val) v = 1#1 := by
  unfold k0_cond1
  cases h : BitVec.slt (BitVec.ofNat 32 (i 0).val) v <;> simp [Scalar.cmpi, Scalar.extui, IntOp.cmpi, h]

include hT hE in
/-- What a point leaves, at an element. -/
theorem res_at (t : Fin (cfg a).N) (r : Fin 256) (n : Fin 2048) :
    res a m ρ c t (ix2 r n)
      = element m c ⟨t.val, point_lt a t⟩ (fun k => X m c (ix2 ⟨256 * t.val + r.val, by have := point_lt a t; omega⟩ k)) n := by
  unfold res
  refine (out_at (crd a t) (count (tN a)) _ _ _ _ r n).trans ?_
  simp only [x_at a m ρ c, g_at a m ρ c hT hE, u_at a m ρ c hT hE, d_at a m ρ c hT hE]
  unfold element
  simp only [cond_iff, count_eq a m c hT]
  have e : BitVec.ofNat 32 (crd a t 0).val = BitVec.ofNat 32 t.val := congrArg _ (crd_eq a t)
  exact if_congr (by rw [e]) rfl rfl

include hT hE in
/-- The kernel's array. -/
theorem final : (dats a m ρ 0 c).arrAt (4 : Fin 5) (cfg a).N = array m c := by
  refine (dats a m ρ 0 c).arrAt_eq_of_covers (4 : Fin 5) _ (covered a) fun t hf y => ?_
  blk_simp
  rw [after4]
  have hy0 : (y 0).val < 256 := (y 0).isLt
  have hy1 : (y 1).val < 2048 := (y 1).isLt
  have ey : y = ix2 (⟨(y 0).val, hy0⟩ : Fin 256) (⟨(y 1).val, hy1⟩ : Fin 2048) := by funext a; fin_cases a <;> rfl
  refine (congrArg _ ey).trans ((res_at a m ρ c hT hE t _ _).trans ?_)
  have ht := point_lt a t
  refine array_of m c _ _ _ _ ?_ ?_ ?_
  · blk_simp [idx4 a t]; simp; omega
  · blk_simp [idx4 a t]
  · simp; omega

end Cert.Kernel4Ideal.Experts

end
-- ==== Proof.ExpertsRef.lean ====
module

public import proofs.«01_k».proof.Proof.ExpertsOut
public import proofs.«01_k».proof.Proof.Gen.Reference4Ideal.Run
public import Idealize.ShloMosaic.Lib.Pointwise
public import Idealize.ShloMosaic.Lib.Claim

/-! # The experts' reference and its array

The reference gathers each block's three weights, multiplies block by block, and selects zeros past the count. -/

@[expose] public section

set_option maxRecDepth 16384

noncomputable section

namespace Cert.Reference4Ideal.Experts

open Cert.Reference4Ideal Cert.Reference4Ideal.Gen Idealize.ShloMosaic Idealize.ShloMosaic.TcCoe Idealize.SL.Sem
open Cert.Kernel4Ideal.Experts (through pick block element array)

/-- The table as the gathers read it: a negative word counts from the end. -/
def table (e : IVec S160 32) : IVec S160x1 32 :=
  broadcastInDim S160x1 ![0] bcast_S160_S160x1_0 (select (cmpi .slt e (broadcastInDim S160 ![] bcast_S_S160 (constantI S_ 32 0#32)))
    (addi e (broadcastInDim S160 ![] bcast_S_S160 (constantI S_ 32 32#32))) e)

/-- A word below 32 is not negative. -/
theorem not_neg (w : BitVec 32) (h : w.toNat < 32) : IntOp.cmpi .slt w 0#32 = 0#1 := by
  have e : BitVec.slt w 0#32 = false := by
    rw [Bool.eq_false_iff]
    intro h'
    rw [BitVec.slt_iff_toInt_lt, BitVec.toInt_eq_toNat_cond] at h'
    have z : BitVec.toInt 0#32 = 0 := by decide
    rw [z] at h'
    split at h' <;> omega
  simp [IntOp.cmpi, e]

/-- A word of the table that names an expert is read as it is. -/
theorem table_at (e : IVec S160 32) (b : Fin 160) (h : (e (ix1 b)).toNat < 32) : table e (ix2 b 0) = e (ix1 b) := by
  have n := not_neg _ h
  pointwise [table]
  rw [n]
  rfl

/-- A word below 32 as the gather clamps it. -/
theorem clamp (w : BitVec 32) (h : w.toNat < 32) : min w.toInt.toNat 31 = (pick w).val := by
  have e : w.toInt = w.toNat := by rw [BitVec.toInt_eq_toNat_cond]; split <;> omega
  rw [e]
  rfl

/-- A gathered weight. -/
theorem gather_at (x : FVec Ideal S32x2048x512 .f32) (i : IVec S160x1 32) (b : Fin 160) (k : Fin 2048) (f : Fin 512) (h : (i (ix2 b 0)).toNat < 32) :
    Host.gather gather_S32x2048x512_S160x1_S160x2048x512_12_0_n_n_0_1_12048512 x i (ix3 b k f) = x (ix3 (pick (i (ix2 b 0))) k f) := by
  unfold Host.gather
  refine congrArg x (funext fun a => Fin.ext ?_)
  fin_cases a
  · have e : GatherDims.siIdx gather_S32x2048x512_S160x1_S160x2048x512_12_0_n_n_0_1_12048512 (ix3 b k f) ⟨0, by decide⟩ = ix2 b 0 := by
      funext a; fin_cases a <;> rfl
    refine Eq.trans ?_ (clamp _ h)
    rw [← e]
    rfl
  · exact (Nat.zero_add _)
  · exact (Nat.zero_add _)

/-- A gathered output weight. -/
theorem gather_out_at (x : FVec Ideal S32x512x2048 .f32) (i : IVec S160x1 32) (b : Fin 160) (f : Fin 512) (n : Fin 2048) (h : (i (ix2 b 0)).toNat < 32) :
    Host.gather gather_S32x512x2048_S160x1_S160x512x2048_12_0_n_n_0_1_15122048 x i (ix3 b f n) = x (ix3 (pick (i (ix2 b 0))) f n) := by
  unfold Host.gather
  refine congrArg x (funext fun a => Fin.ext ?_)
  fin_cases a
  · have e : GatherDims.siIdx gather_S32x512x2048_S160x1_S160x512x2048_12_0_n_n_0_1_15122048 (ix3 b f n) ⟨0, by decide⟩ = ix2 b 0 := by
      funext a; fin_cases a <;> rfl
    refine Eq.trans ?_ (clamp _ h)
    rw [← e]
    rfl
  · exact (Nat.zero_add _)
  · exact (Nat.zero_add _)

/-- A block's product by a first weight. -/
def first (x : FVec Ideal S160x256x2048 .f32) (w : FVec Ideal S160x2048x512 .f32) : FVec Ideal S160x256x512 .f32 :=
  Host.dotGeneral dot_S160x256x2048_S160x2048x512_S160x256x512_2_1_1_2_0_0 none x w

/-- An element of it. -/
theorem first_at (x : FVec Ideal S160x256x2048 .f32) (w : FVec Ideal S160x2048x512 .f32) (b : Fin 160) (r : Fin 256) (f : Fin 512) :
    first x w (ix3 b r f) = ∑ k : Fin 2048, x (ix3 b r k) * w (ix3 b k f) := by
  pointwise [first]

/-- The hidden activations from the two products. -/
def mid (p q : FVec Ideal S160x256x512 .f32) : FVec Ideal S160x256x512 .f32 :=
  mulf (mulf p (Host.divf (broadcastInDim S160x256x512 ![] bcast_S_S160x256x512 (constant S_ .f32 0x3F800000#32)) (addf (broadcastInDim S160x256x512 ![] bcast_S_S160x256x512 (constant S_ .f32 0x3F800000#32)) (Host.exp (Host.negf p))))) q

/-- A hidden element. -/
theorem mid_at (p q : FVec Ideal S160x256x512 .f32) (b : Fin 160) (r : Fin 256) (f : Fin 512) :
    mid p q (ix3 b r f) = p (ix3 b r f) * Ideal.logistic (p (ix3 b r f)) * q (ix3 b r f) := by
  unfold Ideal.logistic
  pointwise [mid]

/-- A block's product by the output weight. -/
def second (y : FVec Ideal S160x256x512 .f32) (w : FVec Ideal S160x512x2048 .f32) : FVec Ideal S160x256x2048 .f32 :=
  Host.dotGeneral dot_S160x256x512_S160x512x2048_S160x256x2048_2_1_1_2_0_0 none y w

/-- An element of it. -/
theorem second_at (y : FVec Ideal S160x256x512 .f32) (w : FVec Ideal S160x512x2048 .f32) (b : Fin 160) (r : Fin 256) (n : Fin 2048) :
    second y w (ix3 b r n) = ∑ f : Fin 512, y (ix3 b r f) * w (ix3 b f n) := by
  pointwise [second]

/-- The rows by block. -/
theorem split_at (x : FVec Ideal S40960x2048 .f32) (b : Fin 160) (r : Fin 256) (k : Fin 2048) :
    shapeCast S160x256x2048 x shapeCasts_S40960x2048_S160x256x2048 (ix3 b r k) = x (ix2 ⟨b.val * 256 + r.val, by omega⟩ k) := by
  pointwise

/-- The blocks' rows in order. -/
theorem join_at (y : FVec Ideal S160x256x2048 .f32) (b : Fin 160) (r : Fin 256) (k : Fin 2048) :
    shapeCast S40960x2048 y shapeCasts_S160x256x2048_S40960x2048 (ix2 ⟨b.val * 256 + r.val, by omega⟩ k) = y (ix3 b r k) := by
  pointwise

/-- The blocks in use, zeros elsewhere. -/
def kept (n : IVec S1 32) (y : FVec Ideal S160x256x2048 .f32) : FVec Ideal S160x256x2048 .f32 :=
  select (broadcastInDim S160x256x2048 ![0, 1, 2] bcast_S160x1x1_S160x256x2048_0_1_2 (broadcastInDim S160x1x1 ![0] bcast_S160_S160x1x1_0 (cmpi .slt (iotaInDim S160 32 0) (broadcastInDim S160 ![] bcast_S_S160 (shapeCast _ n shapeCasts_S1_S_)))))
    y (broadcastInDim S160x256x2048 ![] bcast_S_S160x256x2048 (id (constant S_ .f32 0x00000000#32)))

/-- An element of them. -/
theorem kept_at (n : IVec S1 32) (y : FVec Ideal S160x256x2048 .f32) (b : Fin 160) (r : Fin 256) (k : Fin 2048) :
    kept n y (ix3 b r k) = if IntOp.cmpi .slt (BitVec.ofNat 32 b.val) (n (ix1 0)) = 1#1 then y (ix3 b r k) else 0 := by
  pointwise [kept]
  unfold Scalar.select
  exact if_congr Iff.rfl rfl Ideal.ofBits_zero_f32

variable (x : FVec Ideal S40960x2048 .bf16) (e : IVec S160 32) (n : IVec S1 32) (g u : FVec Ideal S32x2048x512 .bf16) (d : FVec Ideal S32x512x2048 .bf16)

/-- The rows by block. -/
def rows : FVec Ideal S160x256x2048 .f32 := shapeCast S160x256x2048 (extf .f32 x bitsLt_bf16_f32 : FVec Ideal S40960x2048 .f32) shapeCasts_S40960x2048_S160x256x2048

/-- An element of the rows by block. -/
theorem rows_at (b : Fin 160) (r : Fin 256) (k : Fin 2048) : rows x (ix3 b r k) = x (ix2 ⟨b.val * 256 + r.val, by omega⟩ k) :=
  split_at _ b r k

/-- The blocks' weights. -/
def weights (w : FVec Ideal S32x2048x512 .bf16) : FVec Ideal S160x2048x512 .f32 :=
  Host.gather gather_S32x2048x512_S160x1_S160x2048x512_12_0_n_n_0_1_12048512 (extf .f32 w bitsLt_bf16_f32 : FVec Ideal S32x2048x512 .f32) (table e)

/-- The blocks' output weights. -/
def outputs : FVec Ideal S160x512x2048 .f32 :=
  Host.gather gather_S32x512x2048_S160x1_S160x512x2048_12_0_n_n_0_1_15122048 (extf .f32 d bitsLt_bf16_f32 : FVec Ideal S32x512x2048 .f32) (table e)

/-- The reference's output. -/
def whole : FVec Ideal S40960x2048 .bf16 :=
  truncf .bf16 (shapeCast S40960x2048 (kept n (second (mid (first (rows x) (weights e g)) (first (rows x) (weights e u))) (outputs e d)))
    shapeCasts_S160x256x2048_S40960x2048 : FVec Ideal S40960x2048 .f32) bitsLt_bf16_f32

/-- An element of a block's weight is its expert's. -/
theorem weights_at (w : FVec Ideal S32x2048x512 .bf16) (b : Fin 160) (k : Fin 2048) (f : Fin 512) (h : (e (ix1 b)).toNat < 32) :
    weights e w (ix3 b k f) = w (ix3 (pick (e (ix1 b))) k f) := by
  have t := table_at e b h
  refine (gather_at _ _ b k f (by rw [t]; exact h)).trans ?_
  rw [t]
  rfl

/-- An element of a block's output weight is its expert's. -/
theorem outputs_at (b : Fin 160) (f : Fin 512) (k : Fin 2048) (h : (e (ix1 b)).toNat < 32) :
    outputs e d (ix3 b f k) = d (ix3 (pick (e (ix1 b))) f k) := by
  have t := table_at e b h
  refine (gather_out_at _ _ b f k (by rw [t]; exact h)).trans ?_
  rw [t]
  rfl

/-- An element of the reference's output. -/
theorem whole_at (b : Fin 160) (r : Fin 256) (k : Fin 2048) (h : (e (ix1 b)).toNat < 32) :
    whole x e n g u d (ix2 ⟨b.val * 256 + r.val, by omega⟩ k)
      = if IntOp.cmpi .slt (BitVec.ofNat 32 b.val) (n (ix1 0)) = 1#1 then
          through (fun k => x (ix2 ⟨b.val * 256 + r.val, by omega⟩ k)) (fun k f => g (ix3 (pick (e (ix1 b))) k f))
            (fun k f => u (ix3 (pick (e (ix1 b))) k f)) (fun f => d (ix3 (pick (e (ix1 b))) f k))
        else 0 := by
  refine (join_at _ b r k).trans ((kept_at n _ b r k).trans (if_congr Iff.rfl ?_ rfl))
  rw [second_at]
  unfold through Cert.Kernel4Ideal.Experts.hidden
  simp only [mid_at, first_at, rows_at, weights_at e _ b _ _ h, outputs_at e d b _ _ h]

open Cert.Kernel4Ideal.Experts (X E K G U D array_of)

/-- The two arrays are equal, from equal arguments whose table names experts that exist. -/
theorem arrays_eq (m : (ℓ : Loc Cert.Kernel4Ideal.nD Cert.Kernel4Ideal.τ Cert.Kernel4Ideal.sig) → Buf (Elt Ideal) ℓ)
    (m' : (ℓ : Loc nD τ sig) → Buf (Elt Ideal) ℓ) (c : Dev nD) (hE : ∀ i : S160.Idx, (E m c i).toNat < 32)
    (h0 : m' ((c.tc : Thread nD τ).loc main_arg0) = X m c) (h1 : m' ((c.tc : Thread nD τ).loc main_arg1) = E m c)
    (h2 : m' ((c.tc : Thread nD τ).loc main_arg2) = K m c) (h3 : m' ((c.tc : Thread nD τ).loc main_arg3) = G m c)
    (h4 : m' ((c.tc : Thread nD τ).loc main_arg4) = U m c) (h5 : m' ((c.tc : Thread nD τ).loc main_arg5) = D m c) :
    whole (m' ((c.tc : Thread nD τ).loc main_arg0)) (m' ((c.tc : Thread nD τ).loc main_arg1)) (m' ((c.tc : Thread nD τ).loc main_arg2))
      (m' ((c.tc : Thread nD τ).loc main_arg3)) (m' ((c.tc : Thread nD τ).loc main_arg4)) (m' ((c.tc : Thread nD τ).loc main_arg5)) = array m c := by
  rw [h0, h1, h2, h3, h4, h5]
  funext i
  have hi0 : (i 0).val < 40960 := (i 0).isLt
  have hi1 : (i 1).val < 2048 := (i 1).isLt
  have hb : (i 0).val / 256 < 160 := by omega
  have hr : (i 0).val % 256 < 256 := by omega
  have ei : i = ix2 (⟨(⟨(i 0).val / 256, hb⟩ : Fin 160).val * 256 + (⟨(i 0).val % 256, hr⟩ : Fin 256).val, by dsimp only; omega⟩ : Fin 40960) (⟨(i 1).val, hi1⟩ : Fin 2048) := by
    funext a
    fin_cases a
    · exact Fin.ext (by show (i 0).val = (i 0).val / 256 * 256 + (i 0).val % 256; omega)
    · rfl
  refine (congrArg _ ei).trans ((whole_at _ _ _ _ _ _ ⟨(i 0).val / 256, hb⟩ ⟨(i 0).val % 256, hr⟩ ⟨(i 1).val, hi1⟩ (hE _)).trans ?_)
  refine array_of m c i _ _ _ ?_ rfl ?_
  · show (i 0).val = (i 0).val / 256 * 256 + (i 0).val % 256; omega
  · show ((i 0).val / 256 * 256 + (i 0).val % 256) / 256 = (i 0).val / 256; omega

end Cert.Reference4Ideal.Experts

end
-- ==== Proof.MemoryOut.lean ====
module

public import proofs.«01_k».proof.Proof.Gen.Kernel5Ideal.Value
public import Idealize.ShloMosaic.Lib.Pipeline.ValueKit
public import Idealize.ShloMosaic.Lib.Pointwise
public import Idealize.ShloMosaic.Lib.Claim

/-! # The attention into the memory: the kernel's array

Each grid point normalises 256 rows and projects them to the four heads' queries; for each head it normalises queries and
keys, weights the head's values by the softmax of the scores, and adds their product with the head's rows of the output
weight to the residual. -/

@[expose] public section

set_option maxRecDepth 16384

noncomputable section

namespace Cert.Kernel5Ideal.Memory

open Cert.Kernel5Ideal Cert.Kernel5Ideal.Gen Idealize.ShloMosaic Idealize.ShloMosaic.TcCoe Idealize.SL.Sem

/-- A row over the root of its mean square, with the norm's small constant, times its gains; `w` is the width's word. -/
def normed {n : ℕ} (w : BitVec 32) (o g : Fin n → EReal) (k : Fin n) : EReal :=
  o k * Ideal.rsqrt (Ideal.div (∑ k, o k * o k) (Ideal.ofBits .f32 w) + Ideal.ofBits .f32 0x358637BD#32) * g k

/-- The scale of the scores, one over the root of the heads' width. -/
def factor : EReal := ((Real.sqrt 128)⁻¹ : ℝ)

/-- The kernel's named constant is the scale. -/
theorem scale_eq : Named.named (F := Ideal) κ "scale" (φ := .f32) 0x3DB504F3#32 = factor :=
  IdealRules.named_const.ideal_named_scalar _ _ _ _ rfl

/-- The weight of key `m` against the largest of the scores. -/
def weight (l : Fin 256 → EReal) (m : Fin 256) : EReal := Ideal.exp (l m - Finset.univ.fold max ⊥ l)

/-- The weighted sum of a column of the values over the sum of the weights. -/
def ratio (l v : Fin 256 → EReal) : EReal := Ideal.div (∑ m, weight l m * v m) (∑ m, weight l m)

/-- The scores of one query: normalised and scaled, times the normalised keys. -/
def scores (q qg : Fin 128 → EReal) (k : Fin 256 → Fin 128 → EReal) (kg : Fin 128 → EReal) (m : Fin 256) : EReal :=
  ∑ d, normed 0x43000000#32 q qg d * factor * normed 0x43000000#32 (k m) kg d

/-- The projected row. -/
def query (x g : Fin 2048 → EReal) (w : Fin 2048 → Fin 512 → EReal) (j : Fin 512) : EReal :=
  ∑ k, normed 0x45000000#32 x g k * w k j

/-- Position `d` of head `h`. -/
def at_ (h : Fin 4) (d : Fin 128) : Fin 512 := ⟨h.val * 128 + d.val, by omega⟩

/-- The columns of the memory's keys. -/
def keyCol (j : Fin 512) : Fin 1024 := ⟨j.val, by omega⟩

/-- The columns of the memory's values. -/
def valCol (j : Fin 512) : Fin 1024 := ⟨512 + j.val, by omega⟩

/-- A head's result times a column of its rows of the output weight. -/
def part (q : Fin 512 → EReal) (qg : Fin 128 → EReal) (kv : Fin 256 → Fin 1024 → EReal) (kg : Fin 128 → EReal) (w : Fin 512 → EReal)
    (h : Fin 4) : EReal :=
  ∑ d, ratio (scores (fun d => q (at_ h d)) qg (fun m d => kv m (keyCol (at_ h d))) kg) (fun m => kv m (valCol (at_ h d))) * w (at_ h d)

/-- The four heads' products added to the residual in turn. -/
def mix (x : EReal) (q : Fin 512 → EReal) (qg : Fin 128 → EReal) (kv : Fin 256 → Fin 1024 → EReal) (kg : Fin 128 → EReal)
    (w : Fin 512 → EReal) : EReal :=
  x + part q qg kv kg w 0 + part q qg kv kg w 1 + part q qg kv kg w 2 + part q qg kv kg w 3

/-! ## The steps of one head -/

/-- The rows' sums of squares. -/
def squares (x : FVec Ideal S256x128 .f32) : FVec Ideal S256 .f32 :=
  multiReduction .add [1] S256 (mulf x x) 0x00000000#32 reduces_S256x128_S256 (.inl rfl) rfl

/-- The normalised rows of a head. -/
def nrm (x : FVec Ideal S256x128 .f32) (g : FVec Ideal S1x128 .f32) : FVec Ideal S256x128 .f32 :=
  mulf (mulf x (broadcastTo S256x128 (rsqrt (addf (divf (shapeCast S256x1 (squares x) shapeCasts_S256_S256x1) (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128) broadcasts_S1x128_S256x128)

/-- The queries scaled. -/
def scaled (x : FVec Ideal S256x128 .f32) : FVec Ideal S256x128 .f32 :=
  mulf x (broadcast S256x128 (Named.named κ "scale" 0x3DB504F3#32))

/-- The products of queries and keys. -/
def dots (q k : FVec Ideal S256x128 .f32) : FVec Ideal S256x256 .f32 :=
  matmul dot_S256x128_S256x128_S256x256_1_1_0_0_n_n none (truncf .bf16 q bitsLt_bf16_f32) (truncf .bf16 k bitsLt_bf16_f32) (constant S256x256 .f32 0x00000000#32)

/-- The largest score of each row. -/
def largest (l : FVec Ideal S256x256 .f32) : FVec Ideal S256 .f32 :=
  multiReduction .maximumf [1] S256 l 0xFF800000#32 reduces_S256x256_S256 (.inl rfl) rfl

/-- The weights. -/
def soft (l : FVec Ideal S256x256 .f32) : FVec Ideal S256x256 .f32 :=
  exp (subf l (broadcastTo S256x256 (shapeCast S256x1 (largest l) shapeCasts_S256_S256x1) broadcasts_S256x1_S256x256))

/-- The rows' sums of weights. -/
def total (p : FVec Ideal S256x256 .f32) : FVec Ideal S256 .f32 :=
  multiReduction .add [1] S256 p 0x00000000#32 reduces_S256x256_S256 (.inl rfl) rfl

/-- The weighted values over the sums of weights. -/
def taken (p : FVec Ideal S256x256 .f32) (v : FVec Ideal S256x128 .f32) : FVec Ideal S256x128 .f32 :=
  divf (matmul dot_S256x256_S256x128_S256x128_1_0_0_1_n_n none (truncf .bf16 p bitsLt_bf16_f32) (truncf .bf16 v bitsLt_bf16_f32) (constant S256x128 .f32 0x00000000#32))
    (broadcastTo S256x128 (shapeCast S256x1 (total p) shapeCasts_S256_S256x1) broadcasts_S256x1_S256x128)

/-- A head's product added to the running rows. -/
def added (a : FVec Ideal S256x2048 .f32) (o : FVec Ideal S256x128 .f32) (w : FVec Ideal S128x2048 .bf16) : FVec Ideal S256x2048 .f32 :=
  addf a (matmul dot_S256x128_S128x2048_S256x2048_1_0_0_1_n_n none (truncf .bf16 o bitsLt_bf16_f32) w (constant S256x2048 .f32 0x00000000#32))

/-- One head. -/
def head (a : FVec Ideal S256x2048 .f32) (q : FVec Ideal S256x128 .f32) (qg : FVec Ideal S1x128 .f32) (k : FVec Ideal S256x128 .f32)
    (kg : FVec Ideal S1x128 .f32) (v : FVec Ideal S256x128 .f32) (w : FVec Ideal S128x2048 .bf16) : FVec Ideal S256x2048 .f32 :=
  added a (taken (soft (dots (scaled (nrm q qg)) (nrm k kg))) v) w

theorem squares_at (x : FVec Ideal S256x128 .f32) (r : Fin 256) : squares x (ix1 r) = ∑ k, x (ix2 r k) * x (ix2 r k) := by
  pointwise [squares]

theorem nrm_at (x : FVec Ideal S256x128 .f32) (g : FVec Ideal S1x128 .f32) (r : Fin 256) (d : Fin 128) :
    nrm x g (ix2 r d) = normed 0x43000000#32 (fun d => x (ix2 r d)) (fun d => g (ix2 0 d)) d := by
  unfold normed
  rw [← squares_at]
  unfold nrm
  generalize squares x = q
  pointwise

theorem dots_at (q k : FVec Ideal S256x128 .f32) (r m : Fin 256) : dots (scaled q) k (ix2 r m) = ∑ d, q (ix2 r d) * factor * k (ix2 m d) := by
  rw [← scale_eq]
  pointwise [dots, scaled]

/-- The word of −∞. -/
theorem negInf : Ideal.ofBits .f32 0xFF800000#32 = ⊥ := by
  simp [Ideal.ofBits, Ideal.ieee]

theorem largest_at (l : FVec Ideal S256x256 .f32) (r : Fin 256) : largest l (ix1 r) = Finset.univ.fold max ⊥ fun m => l (ix2 r m) := by
  rw [← negInf]
  pointwise [largest]

theorem soft_at (l : FVec Ideal S256x256 .f32) (r m : Fin 256) : soft l (ix2 r m) = weight (fun m => l (ix2 r m)) m := by
  unfold weight
  rw [← largest_at]
  unfold soft
  generalize largest l = q
  pointwise

theorem total_at (p : FVec Ideal S256x256 .f32) (r : Fin 256) : total p (ix1 r) = ∑ m, p (ix2 r m) := by
  pointwise [total]

theorem taken_at (p : FVec Ideal S256x256 .f32) (v : FVec Ideal S256x128 .f32) (r : Fin 256) (d : Fin 128) :
    taken p v (ix2 r d) = Ideal.div (∑ m, p (ix2 r m) * v (ix2 m d)) (∑ m, p (ix2 r m)) := by
  rw [← total_at]
  unfold taken
  generalize total p = q
  pointwise

theorem added_at (a : FVec Ideal S256x2048 .f32) (o : FVec Ideal S256x128 .f32) (w : FVec Ideal S128x2048 .bf16) (r : Fin 256) (n : Fin 2048) :
    added a o w (ix2 r n) = a (ix2 r n) + ∑ d, o (ix2 r d) * w (ix2 d n) := by
  pointwise [added]

/-- An element of the running rows after one head. -/
theorem head_at (a : FVec Ideal S256x2048 .f32) (q : FVec Ideal S256x128 .f32) (qg : FVec Ideal S1x128 .f32) (k : FVec Ideal S256x128 .f32)
    (kg : FVec Ideal S1x128 .f32) (v : FVec Ideal S256x128 .f32) (w : FVec Ideal S128x2048 .bf16) (r : Fin 256) (n : Fin 2048) :
    head a q qg k kg v w (ix2 r n) = a (ix2 r n)
      + ∑ d, ratio (scores (fun d => q (ix2 r d)) (fun d => qg (ix2 0 d)) (fun m d => k (ix2 m d)) (fun d => kg (ix2 0 d))) (fun m => v (ix2 m d)) * w (ix2 d n) := by
  unfold head ratio scores
  simp only [added_at, taken_at, soft_at, dots_at, nrm_at]

/-- The projected rows. -/
theorem pay2_at (x : FVec Ideal S256x2048 .f32) (g : FVec Ideal S1x2048 .f32) (w : FVec Ideal S2048x512 .bf16) (r : Fin 256) (j : Fin 512) :
    k0_pay2 (F := Ideal) x g w (ix2 r j) = query (fun k => x (ix2 r k)) (fun k => g (ix2 0 k)) (fun k j => w (ix2 k j)) j := by
  pointwise [k0_pay2, query, normed]

/-- Head `h` of the projected rows. -/
theorem slice_at (x : FVec Ideal S256x512 .f32) (h : Fin 4) (hs : S256x512.Slices ![0, h.val * 128] S256x128) (r : Fin 256) (d : Fin 128) :
    extractStridedSlice S256x128 ![0, h.val * 128] x hs (ix2 r d) = x (ix2 r (at_ h d)) := by
  refine congrArg x (funext fun a => Fin.ext ?_)
  fin_cases a <;> simp [at_]

/-- The 128 columns of the memory from `o` on. -/
def cols (x : FVec Ideal S256x1024 .f32) (o : ℕ) (h : ∀ a, ![0, o] a + S256x128.size a ≤ S256x1024.size a) : FVec Ideal S256x128 .f32 :=
  View.ld (Val := Elt Ideal) (e' := .f32) x (Rect.unit (s := S256x1024) ![0, o] S256x128.size h)

/-- The 128 rows of the output weight from `o` on. -/
def rows (x : FVec Ideal S512x2048 .bf16) (o : ℕ) (h : ∀ a, ![o, 0] a + S128x2048.size a ≤ S512x2048.size a) : FVec Ideal S128x2048 .bf16 :=
  View.ld (Val := Elt Ideal) (e' := .bf16) x (Rect.unit (s := S512x2048) ![o, 0] S128x2048.size h)

theorem keys_at (x : FVec Ideal S256x1024 .f32) (j : Fin 4) (h) (m : Fin 256) (d : Fin 128) :
    cols x (j.val * 128) h (ix2 m d) = x (ix2 m (keyCol (at_ j d))) := by
  unfold cols
  refine View.ld_unit_apply_of _ _ _ _ _ (ix2 m (keyCol (at_ j d))) fun a => ?_
  fin_cases a <;> simp [at_, keyCol]

theorem vals_at (x : FVec Ideal S256x1024 .f32) (j : Fin 4) (h) (m : Fin 256) (d : Fin 128) :
    cols x (512 + j.val * 128) h (ix2 m d) = x (ix2 m (valCol (at_ j d))) := by
  unfold cols
  refine View.ld_unit_apply_of _ _ _ _ _ (ix2 m (valCol (at_ j d))) fun a => ?_
  fin_cases a <;> simp [at_, valCol, add_assoc]

theorem rows_at (x : FVec Ideal S512x2048 .bf16) (j : Fin 4) (h) (d : Fin 128) (n : Fin 2048) :
    rows x (j.val * 128) h (ix2 d n) = x (ix2 (at_ j d) n) := by
  unfold rows
  refine View.ld_unit_apply_of _ _ _ _ _ (ix2 (at_ j d) n) fun a => ?_
  fin_cases a <;> simp [at_]

/-- Head `j` of the body, added to the running rows. -/
def turn (a : FVec Ideal S256x2048 .f32) (q : FVec Ideal S256x512 .f32) (qg : FVec Ideal S1x128 .f32) (kv : FVec Ideal S256x1024 .f32)
    (kg : FVec Ideal S1x128 .f32) (w : FVec Ideal S512x2048 .bf16) (j : Fin 4) (hs : S256x512.Slices ![0, j.val * 128] S256x128)
    (hk : ∀ a, ![0, j.val * 128] a + S256x128.size a ≤ S256x1024.size a) (hv : ∀ a, ![0, 512 + j.val * 128] a + S256x128.size a ≤ S256x1024.size a)
    (hw : ∀ a, ![j.val * 128, 0] a + S128x2048.size a ≤ S512x2048.size a) : FVec Ideal S256x2048 .f32 :=
  head a (extractStridedSlice S256x128 ![0, j.val * 128] q hs) qg (cols kv (j.val * 128) hk) kg (cols kv (512 + j.val * 128) hv) (rows w (j.val * 128) hw)

theorem turn_at (a : FVec Ideal S256x2048 .f32) (q : FVec Ideal S256x512 .f32) (qg : FVec Ideal S1x128 .f32) (kv : FVec Ideal S256x1024 .f32)
    (kg : FVec Ideal S1x128 .f32) (w : FVec Ideal S512x2048 .bf16) (j : Fin 4) (hs hk hv hw) (r : Fin 256) (n : Fin 2048) :
    turn a q qg kv kg w j hs hk hv hw (ix2 r n)
      = a (ix2 r n) + part (fun i => q (ix2 r i)) (fun d => qg (ix2 0 d)) (fun m i => kv (ix2 m i)) (fun d => kg (ix2 0 d)) (fun i => w (ix2 i n)) j := by
  unfold turn part
  rw [head_at]
  simp only [slice_at, keys_at, vals_at, rows_at]

section
variable (x0 a : FVec Ideal S256x2048 .f32) (x1 : FVec Ideal S1x2048 .f32) (x2 : FVec Ideal S2048x512 .bf16) (q : FVec Ideal S256x512 .f32)
  (qg kg : FVec Ideal S1x128 .f32) (k v : FVec Ideal S256x128 .f32) (w : FVec Ideal S128x2048 .bf16)

/-- The first head, as the body states it. -/
theorem first : k0_pay5 x0 (k0_pay3 x0 x1 x2 qg) k (k0_pay4 kg) v w
    = head x0 (extractStridedSlice S256x128 ![0, 0] (k0_pay2 x0 x1 x2) slices_S256x512_o0_0_S256x128) qg k kg v w := rfl

/-- The second head, as the body states it. -/
theorem second : k0_pay9 a (k0_pay6 q) (k0_pay7 qg) (k0_pay8 q) k kg v w
    = head a (extractStridedSlice S256x128 ![0, 128] q slices_S256x512_o0_128_S256x128) qg k kg v w := rfl

/-- The third head, as the body states it. -/
theorem third : k0_pay13 a (k0_pay11 (k0_pay10 q) qg k kg) (k0_pay12 (k0_pay10 q) qg k kg v) w
    = head a (extractStridedSlice S256x128 ![0, 256] q slices_S256x512_o0_256_S256x128) qg k kg v w := rfl

/-- The fourth head, as the body states it. -/
theorem fourth : k0_pay1 a (k0_pay14 q qg) (k0_pay15 k kg) v w
    = head a (extractStridedSlice S256x128 ![0, 384] q slices_S256x512_o0_384_S256x128) qg k kg v w := rfl

end

/-- The body's output is the four heads in turn. -/
theorem out_eq (x0 : FVec Ideal S256x2048 .f32) (x1 : FVec Ideal S1x2048 .f32) (x2 : FVec Ideal S2048x512 .bf16) (x3 : FVec Ideal S1x128 .f32)
    (x4 : FVec Ideal S256x1024 .f32) (x5 : FVec Ideal S1x128 .f32) (x6 : FVec Ideal S512x2048 .bf16) :
    out0_7 (F := Ideal) x0 x1 x2 x3 x4 x5 x6
      = turn (turn (turn (turn x0
          (k0_pay2 x0 x1 x2) x3 x4 x5 x6 0 slices_S256x512_o0_0_S256x128 inb_S256x1024_S256x128_0_0 inb_S256x1024_S256x128_0_512 inb_S512x2048_S128x2048_0_0)
          (k0_pay2 x0 x1 x2) x3 x4 x5 x6 1 slices_S256x512_o0_128_S256x128 inb_S256x1024_S256x128_0_128 inb_S256x1024_S256x128_0_640 inb_S512x2048_S128x2048_128_0)
          (k0_pay2 x0 x1 x2) x3 x4 x5 x6 2 slices_S256x512_o0_256_S256x128 inb_S256x1024_S256x128_0_256 inb_S256x1024_S256x128_0_768 inb_S512x2048_S128x2048_256_0)
          (k0_pay2 x0 x1 x2) x3 x4 x5 x6 3 slices_S256x512_o0_384_S256x128 inb_S256x1024_S256x128_0_384 inb_S256x1024_S256x128_0_896 inb_S512x2048_S128x2048_384_0 := by
  have e : (![0, 0] : Fin 2 → ℕ) = fun _ => 0 := by funext a; fin_cases a <;> rfl
  have h16 : k0_pay16 (F := Ideal) x0 x1 x2 x3 x4 x5 x6 = k0_pay2 x0 x1 x2 := by
    unfold k0_pay16
    rw [View.ld_unit_zero e, View.ld_unit_zero e, View.ld_unit_zero e]
  have h17 : k0_pay17 (F := Ideal) x0 x1 x2 x3 x4 x5 x6 = k0_pay10 (F := Ideal) (k0_pay2 x0 x1 x2) := by
    unfold k0_pay17
    simp only [h16]
  frame_out
  rw [h16, h17, first, second, third, fourth]
  rfl

/-- A block's element from the blocks. -/
theorem out_at (x0 : FVec Ideal S256x2048 .f32) (x1 : FVec Ideal S1x2048 .f32) (x2 : FVec Ideal S2048x512 .bf16) (x3 : FVec Ideal S1x128 .f32)
    (x4 : FVec Ideal S256x1024 .f32) (x5 : FVec Ideal S1x128 .f32) (x6 : FVec Ideal S512x2048 .bf16) (r : Fin 256) (n : Fin 2048) :
    out0_7 (F := Ideal) x0 x1 x2 x3 x4 x5 x6 (ix2 r n)
      = mix (x0 (ix2 r n)) (query (fun k => x0 (ix2 r k)) (fun k => x1 (ix2 0 k)) (fun k j => x2 (ix2 k j))) (fun d => x3 (ix2 0 d))
        (fun m i => x4 (ix2 m i)) (fun d => x5 (ix2 0 d)) (fun i => x6 (ix2 i n)) := by
  rw [out_eq]
  unfold mix
  simp only [turn_at, pay2_at]

variable (m : (ℓ : Loc nD τ sig) → Buf (Elt Ideal) ℓ) (c : Dev nD)

/-- The blocks of a grid point. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] := by decide +kernel

/-- The residual rows as launched. -/
abbrev X : FVec Ideal S16384x2048 .f32 := m ((c.tc : Thread nD τ).loc main_arg0)
/-- The rows' gains. -/
abbrev G : FVec Ideal S2048 .f32 := m ((c.tc : Thread nD τ).loc main_arg1)
/-- The queries' weight. -/
abbrev Q : FVec Ideal S2048x512 .bf16 := m ((c.tc : Thread nD τ).loc main_arg2)
/-- The queries' gains. -/
abbrev QG : FVec Ideal S128 .f32 := m ((c.tc : Thread nD τ).loc main_arg3)
/-- The memory's keys and values. -/
abbrev KV : FVec Ideal S256x1024 .f32 := m ((c.tc : Thread nD τ).loc main_arg4)
/-- The keys' gains. -/
abbrev KG : FVec Ideal S128 .f32 := m ((c.tc : Thread nD τ).loc main_arg5)
/-- The output weight. -/
abbrev O : FVec Ideal S512x2048 .bf16 := m ((c.tc : Thread nD τ).loc main_arg6)

/-- There are 64 grid points. -/
theorem point_lt (t : Fin grid0.N) : t.val < 64 := t.isLt

/-- A point's residual rows. -/
theorem x_at (t : Fin grid0.N) (r : Fin 256) (n : Fin 2048) :
    iblk m c 0 t (ix2 r n) = X m c (ix2 ⟨256 * t.val + r.val, by have := point_lt t; omega⟩ n) := by
  blk_ext [iblk, V_main_arg0, idx t]

/-- A point's gains of the rows. -/
theorem g_at (t : Fin grid0.N) (k : Fin 2048) : iblk m c 1 t (ix2 0 k) = G m c (ix1 k) := by
  blk_ext! [iblk, V, idx t]

/-- A point's weight of the queries. -/
theorem q_at (t : Fin grid0.N) (k : Fin 2048) (n : Fin 512) : iblk m c 2 t (ix2 k n) = Q m c (ix2 k n) := by
  blk_ext [iblk, V_main_arg2, idx t]

/-- A point's gains of the queries. -/
theorem qg_at (t : Fin grid0.N) (d : Fin 128) : iblk m c 3 t (ix2 0 d) = QG m c (ix1 d) := by
  blk_ext! [iblk, V, idx t]

/-- A point's keys and values. -/
theorem kv_at (t : Fin grid0.N) (k : Fin 256) (n : Fin 1024) : iblk m c 4 t (ix2 k n) = KV m c (ix2 k n) := by
  blk_ext [iblk, V_main_arg4, idx t]

/-- A point's gains of the keys. -/
theorem kg_at (t : Fin grid0.N) (d : Fin 128) : iblk m c 5 t (ix2 0 d) = KG m c (ix1 d) := by
  blk_ext! [iblk, V, idx t]

/-- A point's output weight. -/
theorem o_at (t : Fin grid0.N) (k : Fin 512) (n : Fin 2048) : iblk m c 6 t (ix2 k n) = O m c (ix2 k n) := by
  blk_ext [iblk, V_main_arg6, idx t]

/-- The array. -/
def array : FVec Ideal S16384x2048 .f32 := fun i =>
  mix (X m c i) (query (fun k => X m c (ix2 (i 0) k)) (fun k => G m c (ix1 k)) (fun k j => Q m c (ix2 k j))) (fun d => QG m c (ix1 d))
    (fun k j => KV m c (ix2 k j)) (fun d => KG m c (ix1 d)) (fun k => O m c (ix2 k (i 1)))

/-- The array at an index, from the values of its coordinates. -/
theorem array_of (i : S16384x2048.Idx) (s : Fin 16384) (n : Fin 2048) (h0 : (i 0).val = s.val) (h1 : (i 1).val = n.val) :
    mix (X m c (ix2 s n)) (query (fun k => X m c (ix2 s k)) (fun k => G m c (ix1 k)) (fun k j => Q m c (ix2 k j))) (fun d => QG m c (ix1 d))
      (fun k j => KV m c (ix2 k j)) (fun d => KG m c (ix1 d)) (fun k => O m c (ix2 k n)) = array m c i := by
  have ei : i = ix2 s n := by
    funext a
    fin_cases a
    · exact Fin.ext h0
    · exact Fin.ext h1
  subst ei
  rfl

/-- The kernel's array. -/
theorem final : (dats m 0 c).arrAt 7 cfg0.N = array m c := by
  refine (dats m 0 c).arrAt_eq_of_covers 7 _ (by decide +kernel) fun t hf y => ?_
  blk_simp
  rw [after0_7]
  have hy0 : (y 0).val < 256 := (y 0).isLt
  have hy1 : (y 1).val < 2048 := (y 1).isLt
  have ey : y = ix2 (⟨(y 0).val, hy0⟩ : Fin 256) (⟨(y 1).val, hy1⟩ : Fin 2048) := by funext a; fin_cases a <;> rfl
  refine (congrArg _ ey).trans ((out_at _ _ _ _ _ _ _ _ _).trans ?_)
  simp only [x_at, g_at, q_at, qg_at, kv_at, kg_at, o_at]
  refine array_of m c _ _ _ ?_ ?_
  · blk_simp [idx t]; simp; omega
  · blk_simp [idx t]

end Cert.Kernel5Ideal.Memory
end
-- ==== Proof.MemoryReal.lean ====
module

public import proofs.«01_k».proof.Pre_finite_gains
public import proofs.«01_k».proof.Proof.Agree
public import proofs.«01_k».proof.Proof.MemoryOut

/-! # The attention into the memory: its scores are real

A row over the root of its mean square is real whatever the row holds: a row with an infinite entry is divided by
infinity. With real gains every score is then real, so the weights' sum is a positive real, and the quotient of the two
sums is the sum of the values at the quotients. -/

@[expose] public section

set_option maxRecDepth 16384

noncomputable section

namespace Cert.Pre_finite_gains

open Idealize.ShloMosaic

/-- The precondition's shape relations hold. -/
instance facts : Facts where
  bcast_S_S128 := by decide
  reducesTo_S128_S_d0 := by decide
  h_S_ := by decide

/-- Under the precondition every gain of the queries and of the keys is a real number. -/
theorem finite (x : FVec Ideal S16384x2048 .f32) (g : FVec Ideal S2048 .f32) (w : FVec Ideal S2048x512 .bf16) (qg : FVec Ideal S128 .f32)
    (kv : FVec Ideal S256x1024 .f32) (kg : FVec Ideal S128 .f32) (o : FVec Ideal S512x2048 .bf16)
    (h : fn (F := Ideal) x g w qg kv kg o = fun _ => 1#1) (i : S128.Idx) : (qg i ≠ ⊤ ∧ qg i ≠ ⊥) ∧ (kg i ≠ ⊤ ∧ kg i ≠ ⊥) := by
  have e := congrFun h ix0
  obtain ⟨h1, h2⟩ := IntOp.andi_eq_one.1 e
  exact ⟨Pre_finite_scores.real_of_lt _ (Host.reduce_andi_all _ _ _ _ _ h1 i), Pre_finite_scores.real_of_lt _ (Host.reduce_andi_all _ _ _ _ _ h2 i)⟩

end Cert.Pre_finite_gains

namespace Cert.Memory

open Idealize.ShloMosaic Cert.Softmax
open Cert.Kernel5Ideal.Memory (normed factor weight ratio scores)

/-- The word of the width. -/
theorem widthBits : Ideal.ofBits .f32 0x43000000#32 = ((128 : ℝ) : EReal) := by
  simp [Ideal.ofBits, Ideal.ieee]
  rw [← EReal.coe_mul]
  norm_num

/-- The norm's small constant is a positive real. -/
theorem epsBits : ∃ e : ℝ, 0 < e ∧ Ideal.ofBits .f32 0x358637BD#32 = (e : EReal) := by
  refine ⟨8796093 * (1 / 8796093022208), by norm_num, ?_⟩
  simp [Ideal.ofBits, Ideal.ieee]
  norm_num

/-- The scores' scale is a positive real. -/
theorem factorBits : ∃ e : ℝ, 0 < e ∧ factor = (e : EReal) := by
  exact ⟨(Real.sqrt 128)⁻¹, by positivity, rfl⟩

/-- A square is not negative. -/
theorem square_nonneg (x : EReal) : 0 ≤ x * x := by
  induction x with
  | bot => simp
  | top => simp
  | coe r => rw [← EReal.coe_mul]; exact_mod_cast mul_self_nonneg r

/-- A normalised row is real whatever the row, if its gains are. -/
theorem normed_real (o g : Fin 128 → EReal) (d : Fin 128) (hg : g d ≠ ⊤ ∧ g d ≠ ⊥) :
    normed 0x43000000#32 o g d ≠ ⊤ ∧ normed 0x43000000#32 o g d ≠ ⊥ := by
  suffices h : ∃ r : ℝ, normed 0x43000000#32 o g d = (r : EReal) by
    obtain ⟨r, hr⟩ := h; rw [hr]; exact ⟨EReal.coe_ne_top r, EReal.coe_ne_bot r⟩
  obtain ⟨e, he, hb⟩ := epsBits
  unfold normed
  rw [hb, widthBits, Ideal.div_coe (by norm_num : (128 : ℝ) ≠ 0)]
  have hle : o d * o d ≤ ∑ k, o k * o k := Finset.single_le_sum (f := fun k => o k * o k) (fun k _ => square_nonneg (o k)) (Finset.mem_univ d)
  have h0 : 0 ≤ ∑ k, o k * o k := le_trans (square_nonneg (o d)) hle
  lift g d to ℝ using ⟨hg.1, hg.2⟩ with γ
  generalize (∑ k, o k * o k) = s at hle h0
  generalize o d = a at hle
  induction s with
  | bot => exact absurd h0 (by simp)
  | top =>
    refine ⟨0, ?_⟩
    rw [EReal.top_mul_coe_of_pos (by norm_num), EReal.top_add_coe, Ideal.rsqrt_top]
    simp
  | coe s =>
    have hs : 0 ≤ s := by exact_mod_cast h0
    have hp : 0 < s * (1 / 128) + e := by positivity
    rw [← EReal.coe_mul, ← EReal.coe_add, Ideal.rsqrt_coe, if_neg (not_lt.mpr hp.le), if_neg hp.ne']
    induction a with
    | bot => exact absurd hle (by simp)
    | top => exact absurd hle (by simp)
    | coe a => exact ⟨a * (Real.sqrt (s * (1 / 128) + e))⁻¹ * γ, by simp only [EReal.coe_mul]⟩

/-- A score, with the scale outside the sum. -/
theorem scores_eq (q qg : Fin 128 → EReal) (k : Fin 256 → Fin 128 → EReal) (kg : Fin 128 → EReal) (m : Fin 256) :
    (∑ d, normed 0x43000000#32 q qg d * normed 0x43000000#32 (k m) kg d) * factor = scores q qg k kg m := by
  obtain ⟨e, he, hf⟩ := factorBits
  unfold scores
  rw [hf, mul_comm, mul_sum _ (by exact_mod_cast he.le) (EReal.coe_ne_top e)]
  exact Finset.sum_congr rfl fun d _ => by ac_rfl

/-- With real gains every score is real. -/
theorem scores_real (q qg : Fin 128 → EReal) (k : Fin 256 → Fin 128 → EReal) (kg : Fin 128 → EReal) (hq : ∀ d, qg d ≠ ⊤ ∧ qg d ≠ ⊥)
    (hk : ∀ d, kg d ≠ ⊤ ∧ kg d ≠ ⊥) (m : Fin 256) : scores q qg k kg m ≠ ⊤ ∧ scores q qg k kg m ≠ ⊥ := by
  obtain ⟨e, -, hf⟩ := factorBits
  obtain ⟨r, hr⟩ := Cert.Proof.sum_real Finset.univ (normed 0x43000000#32 q qg) (normed 0x43000000#32 (k m) kg)
    (fun d => normed_real q qg d (hq d)) (fun d => normed_real (k m) kg d (hk d))
  rw [← scores_eq, hr, hf, ← EReal.coe_mul]
  exact ⟨EReal.coe_ne_top _, EReal.coe_ne_bot _⟩

/-- With real scores the quotient of the two sums is the sum of the values at the quotients. -/
theorem ratio_eq (l v : Fin 256 → EReal) (h : ∀ m, l m ≠ ⊤ ∧ l m ≠ ⊥) :
    ratio l v = ∑ m, v m * Ideal.div (weight l m) (∑ m, weight l m) := by
  have hi : ∀ m : Fin 256, (⟨m.val % 256, Nat.mod_lt _ (by decide)⟩ : Fin 256) = m := fun m => Fin.ext (Nat.mod_eq_of_lt m.isLt)
  let s : ℕ → EReal := fun n => l ⟨n % 256, Nat.mod_lt _ (by decide)⟩
  let u : ℕ → EReal := fun n => v ⟨n % 256, Nat.mod_lt _ (by decide)⟩
  have hs : ∀ m : Fin 256, s m.val = l m := fun m => congrArg l (hi m)
  have hu : ∀ m : Fin 256, u m.val = v m := fun m => congrArg v (hi m)
  have ht : top s 256 = Finset.univ.fold max ⊥ l := by
    rw [top, ← Cert.ReferenceIdeal.Attn.sup_fin 256 s]
    simp only [hs]
  have hw : ∀ m : Fin 256, wt s 256 m.val = weight l m := fun m => by rw [wt, ht, hs, weight]
  have hd : den s 256 = ∑ m, weight l m := by
    rw [den, Finset.sum_range]
    simp only [hw]
  have hn : num s u 256 = ∑ m, weight l m * v m := by
    rw [num, Finset.sum_range]
    simp only [hw, hu]
  have := num_div_den s u 256 ⟨0, by decide, (h _).2⟩ fun k _ => (h _).1
  rw [hn, hd, Finset.sum_range] at this
  simp only [hw, hu] at this
  exact this

end Cert.Memory
end
-- ==== Proof.MemoryRef.lean ====
module

public import proofs.«01_k».proof.Proof.Gen.Reference5Ideal.Run
public import proofs.«01_k».proof.Proof.MemoryReal
public import proofs.«01_k».proof.Proof.NormRef

/-! # The attention into the memory: the reference

All heads at once: the projected rows and the memory split into heads, the two normalised, the scores, their softmax, the
weighted values, and one product with the output weight; its sum over the 512 columns is the kernel's four sums. -/

@[expose] public section

set_option maxRecDepth 16384

noncomputable section

namespace Cert.Reference5Ideal.Memory

open Cert.Reference5Ideal Cert.Reference5Ideal.Gen Idealize.ShloMosaic Idealize.ShloMosaic.TcCoe Idealize.SL.Sem
open Cert.Kernel5Ideal.Memory (normed factor weight ratio scores query at_ keyCol valCol part mix)
open Cert.ReferenceIdeal.Attn (negInf max_last add_last max_const)

/-- The projected rows. -/
def queries (x : FVec Ideal S16384x2048 .f32) (g : FVec Ideal S2048 .f32) (w : FVec Ideal S2048x512 .bf16) : FVec Ideal S16384x512 .f32 :=
  Host.dotGeneral dot_S16384x2048_S2048x512_S16384x512_1_0_0_1_n_n none
    (Cert.Reference2Ideal.Proj.normed x g (Cert.Reference2Ideal.Proj.squares x)) (extf .f32 w bitsLt_bf16_f32)

theorem queries_at (x : FVec Ideal S16384x2048 .f32) (g : FVec Ideal S2048 .f32) (w : FVec Ideal S2048x512 .bf16) (s : Fin 16384) (j : Fin 512) :
    queries x g w (ix2 s j) = query (fun k => x (ix2 s k)) (fun k => g (ix1 k)) (fun k j => w (ix2 k j)) j := by
  have h : ∀ y : FVec Ideal S16384x2048 .f32, Host.dotGeneral (F := Ideal) dot_S16384x2048_S2048x512_S16384x512_1_0_0_1_n_n none y (extf .f32 w bitsLt_bf16_f32) (ix2 s j)
      = ∑ k : Fin 2048, y (ix2 s k) * w (ix2 k j) := fun y => by pointwise
  unfold queries query normed
  rw [h]
  simp only [Cert.Reference2Ideal.Proj.normed_at]
  rfl

/-- The heads read out of the projected rows. -/
def split (q : FVec Ideal S16384x512 .f32) : FVec Ideal S16384x4x128 .f32 := shapeCast S16384x4x128 q shapeCasts_S16384x512_S16384x4x128

theorem split_at (q : FVec Ideal S16384x512 .f32) (s : Fin 16384) (h : Fin 4) (d : Fin 128) : split q (ix3 s h d) = q (ix2 s (at_ h d)) := by
  pointwise [split, at_]

/-- The keys' heads read out of the memory. -/
def keys (kv : FVec Ideal S256x1024 .f32) : FVec Ideal S256x4x128 .f32 :=
  shapeCast S256x4x128 (extractStridedSlice S256x512 ![0, 0] kv slices_S256x1024_S256x512_0_0) shapeCasts_S256x512_S256x4x128

theorem keys_at (kv : FVec Ideal S256x1024 .f32) (m : Fin 256) (h : Fin 4) (d : Fin 128) : keys kv (ix3 m h d) = kv (ix2 m (keyCol (at_ h d))) := by
  pointwise [keys, at_, keyCol]

/-- The values' heads read out of the memory. -/
def vals (kv : FVec Ideal S256x1024 .f32) : FVec Ideal S256x4x128 .f32 :=
  shapeCast S256x4x128 (extractStridedSlice S256x512 ![0, 512] kv slices_S256x1024_S256x512_0_512) shapeCasts_S256x512_S256x4x128

theorem vals_at (kv : FVec Ideal S256x1024 .f32) (m : Fin 256) (h : Fin 4) (d : Fin 128) : vals kv (ix3 m h d) = kv (ix2 m (valCol (at_ h d))) := by
  pointwise [vals, at_, valCol]

/-- The heads' sums of squares of the queries. -/
def squaresQ (o : FVec Ideal S16384x4x128 .f32) : FVec Ideal S16384x4 .f32 :=
  Host.reduceAdd (mulf o o) (constant S_ .f32 0x00000000#32) reducesTo_S16384x4x128_S16384x4_d2 h_S_

/-- The normalised queries, from their sums of squares. -/
def normedQ (o : FVec Ideal S16384x4x128 .f32) (g : FVec Ideal S128 .f32) (q : FVec Ideal S16384x4 .f32) : FVec Ideal S16384x4x128 .f32 :=
  mulf (mulf o (broadcastInDim S16384x4x128 ![0, 1, 2] bcast_S16384x4x1_S16384x4x128_0_1_2 (Host.rsqrt (addf (Host.divf (broadcastInDim S16384x4x1 ![0, 1] bcast_S16384x4_S16384x4x1_0_1 q) (broadcastInDim S16384x4x1 ![] bcast_S_S16384x4x1 (constant S_ .f32 0x43000000#32))) (broadcastInDim S16384x4x1 ![] bcast_S_S16384x4x1 (constant S_ .f32 0x358637BD#32)))))) (broadcastInDim S16384x4x128 ![0, 1, 2] bcast_S1x1x128_S16384x4x128_0_1_2 (broadcastInDim S1x1x128 ![2] bcast_S128_S1x1x128_2 g))

theorem normedQ_at (o : FVec Ideal S16384x4x128 .f32) (g : FVec Ideal S128 .f32) (s : Fin 16384) (h : Fin 4) (d : Fin 128) :
    normedQ o g (squaresQ o) (ix3 s h d) = normed 0x43000000#32 (fun d => o (ix3 s h d)) (fun d => g (ix1 d)) d := by
  have e : squaresQ o (ix2 s h) = ∑ k : Fin 128, o (ix3 s h k) * o (ix3 s h k) := by
    unfold squaresQ
    rw [add_last 16384 4 128, Ideal.ofBits_zero_f32, zero_add]
    rfl
  unfold normed
  rw [← e]
  generalize squaresQ o = q
  pointwise [normedQ]

/-- The heads' sums of squares of the keys. -/
def squaresK (o : FVec Ideal S256x4x128 .f32) : FVec Ideal S256x4 .f32 :=
  Host.reduceAdd (mulf o o) (constant S_ .f32 0x00000000#32) reducesTo_S256x4x128_S256x4_d2 h_S_

/-- The normalised keys, from their sums of squares. -/
def normedK (o : FVec Ideal S256x4x128 .f32) (g : FVec Ideal S128 .f32) (q : FVec Ideal S256x4 .f32) : FVec Ideal S256x4x128 .f32 :=
  mulf (mulf o (broadcastInDim S256x4x128 ![0, 1, 2] bcast_S256x4x1_S256x4x128_0_1_2 (Host.rsqrt (addf (Host.divf (broadcastInDim S256x4x1 ![0, 1] bcast_S256x4_S256x4x1_0_1 q) (broadcastInDim S256x4x1 ![] bcast_S_S256x4x1 (constant S_ .f32 0x43000000#32))) (broadcastInDim S256x4x1 ![] bcast_S_S256x4x1 (constant S_ .f32 0x358637BD#32)))))) (broadcastInDim S256x4x128 ![0, 1, 2] bcast_S1x1x128_S256x4x128_0_1_2 (broadcastInDim S1x1x128 ![2] bcast_S128_S1x1x128_2 g))

theorem normedK_at (o : FVec Ideal S256x4x128 .f32) (g : FVec Ideal S128 .f32) (s : Fin 256) (h : Fin 4) (d : Fin 128) :
    normedK o g (squaresK o) (ix3 s h d) = normed 0x43000000#32 (fun d => o (ix3 s h d)) (fun d => g (ix1 d)) d := by
  have e : squaresK o (ix2 s h) = ∑ k : Fin 128, o (ix3 s h k) * o (ix3 s h k) := by
    unfold squaresK
    rw [add_last 256 4 128, Ideal.ofBits_zero_f32, zero_add]
    rfl
  unfold normed
  rw [← e]
  generalize squaresK o = q
  pointwise [normedK]

/-- The root that the reference takes is the scale. -/
theorem root_eq : Host.rsqrt (constant (F := Ideal) S_ .f32 0x43000000#32) = fun _ => factor := by
  funext i
  change Ideal.rsqrt (Ideal.ofBits .f32 0x43000000#32) = _
  rw [Cert.Memory.widthBits, Ideal.rsqrt_coe, if_neg (by norm_num), if_neg (by norm_num)]
  rfl

/-- The scaled scores. -/
def logits (q : FVec Ideal S16384x4x128 .f32) (k : FVec Ideal S256x4x128 .f32) : FVec Ideal S4x16384x256 .f32 :=
  mulf (Host.dotGeneral dot_S16384x4x128_S256x4x128_S4x16384x256_2_2_0_0_1_1 none q k) (broadcastInDim S4x16384x256 ![] bcast_S_S4x16384x256 (Host.rsqrt (constant S_ .f32 0x43000000#32)))

theorem logits_at (q : FVec Ideal S16384x4x128 .f32) (k : FVec Ideal S256x4x128 .f32) (h : Fin 4) (s : Fin 16384) (m : Fin 256) :
    logits q k (ix3 h s m) = (∑ d : Fin 128, q (ix3 s h d) * k (ix3 m h d)) * factor := by
  unfold logits
  rw [root_eq]
  generalize factor = f
  pointwise

/-- The largest of each row's scores. -/
def largest (x : FVec Ideal S4x16384x256 .f32) : FVec Ideal S4x16384 .f32 :=
  maximumf (broadcastInDim S4x16384 ![] bcast_S_S4x16384 (constant S_ .f32 0xFF800000#32))
    (Host.reduce FloatOps.maximumf x (constant S_ .f32 0xFF800000#32) reducesTo_S4x16384x256_S4x16384_d2 h_S_)

theorem largest_at (x : FVec Ideal S4x16384x256 .f32) (h : Fin 4) (s : Fin 16384) :
    largest x (ix2 h s) = Finset.univ.fold max ⊥ fun m : Fin 256 => x (ix3 h s m) := by
  unfold largest
  rw [max_const 4 16384, max_last 4 16384 256, negInf, max_eq_right bot_le]

/-- The weights of each row's scores. -/
def weights (x : FVec Ideal S4x16384x256 .f32) (l : FVec Ideal S4x16384 .f32) : FVec Ideal S4x16384x256 .f32 :=
  Host.exp (subf x (broadcastInDim S4x16384x256 ![0, 1, 2] bcast_S4x16384x1_S4x16384x256_0_1_2 (broadcastInDim S4x16384x1 ![0, 1] bcast_S4x16384_S4x16384x1_0_1 l)))

theorem weights_at (x : FVec Ideal S4x16384x256 .f32) (h : Fin 4) (s : Fin 16384) (m : Fin 256) :
    weights x (largest x) (ix3 h s m) = weight (fun m => x (ix3 h s m)) m := by
  unfold weight
  rw [← largest_at]
  generalize largest x = l
  pointwise [weights]

/-- The sum of each row. -/
def total (x : FVec Ideal S4x16384x256 .f32) : FVec Ideal S4x16384 .f32 :=
  Host.reduceAdd x (constant S_ .f32 0x00000000#32) reducesTo_S4x16384x256_S4x16384_d2 h_S_

theorem total_at (x : FVec Ideal S4x16384x256 .f32) (h : Fin 4) (s : Fin 16384) : total x (ix2 h s) = ∑ m : Fin 256, x (ix3 h s m) := by
  unfold total
  rw [add_last 4 16384 256, Ideal.ofBits_zero_f32, zero_add]

/-- Each row over its sum. -/
def probs (x : FVec Ideal S4x16384x256 .f32) (t : FVec Ideal S4x16384 .f32) : FVec Ideal S4x16384x256 .f32 :=
  Host.divf x (broadcastInDim S4x16384x256 ![0, 1, 2] bcast_S4x16384x1_S4x16384x256_0_1_2 (broadcastInDim S4x16384x1 ![0, 1] bcast_S4x16384_S4x16384x1_0_1 t))

theorem probs_at (x : FVec Ideal S4x16384x256 .f32) (t : FVec Ideal S4x16384 .f32) (h : Fin 4) (s : Fin 16384) (m : Fin 256) :
    probs x t (ix3 h s m) = Ideal.div (x (ix3 h s m)) (t (ix2 h s)) := by
  pointwise [probs]

/-- The weighted values, the heads side by side. -/
def mixed (v : FVec Ideal S256x4x128 .f32) (p : FVec Ideal S4x16384x256 .f32) : FVec Ideal S16384x512 .f32 :=
  shapeCast S16384x512 (transpose S16384x4x128 [2, 0, 1] (Host.dotGeneral (F := Ideal) dot_S256x4x128_S4x16384x256_S4x128x16384_0_2_2_1_1_0 none v p) transposes_S4x128x16384_S16384x4x128_2_0_1) shapeCasts_S16384x4x128_S16384x512

theorem mixed_at (v : FVec Ideal S256x4x128 .f32) (p : FVec Ideal S4x16384x256 .f32) (s : Fin 16384) (h : Fin 4) (d : Fin 128) :
    mixed v p (ix2 s (at_ h d)) = ∑ m : Fin 256, v (ix3 m h d) * p (ix3 h s m) := by
  pointwise [mixed, at_]

/-- The residual and the whole product. -/
def out (x : FVec Ideal S16384x2048 .f32) (y : FVec Ideal S16384x512 .f32) (w : FVec Ideal S512x2048 .bf16) : FVec Ideal S16384x2048 .f32 :=
  addf x (Host.dotGeneral dot_S16384x512_S512x2048_S16384x2048_1_0_0_1_n_n none y (extf .f32 w bitsLt_bf16_f32))

theorem out_at (x : FVec Ideal S16384x2048 .f32) (y : FVec Ideal S16384x512 .f32) (w : FVec Ideal S512x2048 .bf16) (s : Fin 16384) (n : Fin 2048) :
    out x y w (ix2 s n) = x (ix2 s n) + ∑ k : Fin 512, y (ix2 s k) * w (ix2 k n) := by
  pointwise [out]

/-- A sum over the 512 columns is the four heads' sums. -/
theorem sum_heads (f : Fin 512 → EReal) : ∑ k, f k = ∑ h : Fin 4, ∑ d : Fin 128, f (at_ h d) :=
  Fin.sum_univ_tiles 4 128 rfl f

variable (x : FVec Ideal S16384x2048 .f32) (g : FVec Ideal S2048 .f32) (w : FVec Ideal S2048x512 .bf16) (qg : FVec Ideal S128 .f32)
  (kv : FVec Ideal S256x1024 .f32) (kg : FVec Ideal S128 .f32) (o : FVec Ideal S512x2048 .bf16)

/-- The reference's scores. -/
def scored : FVec Ideal S4x16384x256 .f32 :=
  logits (normedQ (split (queries x g w)) qg (squaresQ (split (queries x g w)))) (normedK (keys kv) kg (squaresK (keys kv)))

/-- The reference's weights. -/
def weighed : FVec Ideal S4x16384x256 .f32 := weights (scored x g w qg kv kg) (largest (scored x g w qg kv kg))

/-- The reference's output. -/
def whole : FVec Ideal S16384x2048 .f32 :=
  out x (mixed (vals kv) (probs (weighed x g w qg kv kg) (total (weighed x g w qg kv kg)))) o

theorem scored_at (h : Fin 4) (s : Fin 16384) (m : Fin 256) :
    scored x g w qg kv kg (ix3 h s m) = scores (fun d => query (fun k => x (ix2 s k)) (fun k => g (ix1 k)) (fun k j => w (ix2 k j)) (at_ h d)) (fun d => qg (ix1 d))
      (fun m d => kv (ix2 m (keyCol (at_ h d)))) (fun d => kg (ix1 d)) m := by
  rw [← Cert.Memory.scores_eq]
  unfold scored
  rw [logits_at]
  simp only [normedQ_at, normedK_at, split_at, keys_at, queries_at]

theorem weighed_at (h : Fin 4) (s : Fin 16384) (m : Fin 256) :
    weighed x g w qg kv kg (ix3 h s m) = weight (scores (fun d => query (fun k => x (ix2 s k)) (fun k => g (ix1 k)) (fun k j => w (ix2 k j)) (at_ h d)) (fun d => qg (ix1 d))
      (fun m d => kv (ix2 m (keyCol (at_ h d)))) (fun d => kg (ix1 d))) m := by
  unfold weighed
  rw [weights_at]
  simp only [scored_at]

/-- An element of the reference's output is the kernel's, if the gains of queries and keys are real. -/
theorem whole_at (hf : ∀ i : S128.Idx, (qg i ≠ ⊤ ∧ qg i ≠ ⊥) ∧ (kg i ≠ ⊤ ∧ kg i ≠ ⊥)) (s : Fin 16384) (n : Fin 2048) :
    whole x g w qg kv kg o (ix2 s n)
      = mix (x (ix2 s n)) (query (fun k => x (ix2 s k)) (fun k => g (ix1 k)) (fun k j => w (ix2 k j))) (fun d => qg (ix1 d))
        (fun m i => kv (ix2 m i)) (fun d => kg (ix1 d)) (fun i => o (ix2 i n)) := by
  unfold whole mix
  rw [out_at, sum_heads, Fin.sum_univ_four]
  have hp : ∀ h : Fin 4, ∑ d : Fin 128, mixed (vals kv) (probs (weighed x g w qg kv kg) (total (weighed x g w qg kv kg))) (ix2 s (at_ h d)) * o (ix2 (at_ h d) n)
      = part (query (fun k => x (ix2 s k)) (fun k => g (ix1 k)) (fun k j => w (ix2 k j))) (fun d => qg (ix1 d))
        (fun m i => kv (ix2 m i)) (fun d => kg (ix1 d)) (fun i => o (ix2 i n)) h := fun h => by
    unfold part
    refine Finset.sum_congr rfl fun d _ => congrArg (· * o (ix2 (at_ h d) n)) ?_
    rw [Cert.Memory.ratio_eq _ _ (Cert.Memory.scores_real _ _ _ _ (fun d => (hf (ix1 d)).1) (fun d => (hf (ix1 d)).2)), mixed_at]
    simp only [probs_at, total_at, weighed_at, vals_at]
  simp only [hp, add_assoc]

open Cert.Kernel5Ideal.Memory (X G Q QG KV KG O array)

/-- The two arrays are equal, from equal arguments, if the gains of queries and keys are real. -/
theorem arrays_eq (m : (ℓ : Loc Cert.Kernel5Ideal.nD Cert.Kernel5Ideal.τ Cert.Kernel5Ideal.sig) → Buf (Elt Ideal) ℓ)
    (m' : (ℓ : Loc nD τ sig) → Buf (Elt Ideal) ℓ) (c : Dev nD)
    (hf : ∀ i : S128.Idx, (QG m c i ≠ ⊤ ∧ QG m c i ≠ ⊥) ∧ (KG m c i ≠ ⊤ ∧ KG m c i ≠ ⊥))
    (h0 : m' ((c.tc : Thread nD τ).loc main_arg0) = X m c) (h1 : m' ((c.tc : Thread nD τ).loc main_arg1) = G m c)
    (h2 : m' ((c.tc : Thread nD τ).loc main_arg2) = Q m c) (h3 : m' ((c.tc : Thread nD τ).loc main_arg3) = QG m c)
    (h4 : m' ((c.tc : Thread nD τ).loc main_arg4) = KV m c) (h5 : m' ((c.tc : Thread nD τ).loc main_arg5) = KG m c)
    (h6 : m' ((c.tc : Thread nD τ).loc main_arg6) = O m c) :
    Cert.Reference5Ideal.Value.res_out0 m' c = array m c := by
  have e : Cert.Reference5Ideal.Value.res_out0 m' c
      = whole (m' ((c.tc : Thread nD τ).loc main_arg0)) (m' ((c.tc : Thread nD τ).loc main_arg1)) (m' ((c.tc : Thread nD τ).loc main_arg2))
        (m' ((c.tc : Thread nD τ).loc main_arg3)) (m' ((c.tc : Thread nD τ).loc main_arg4)) (m' ((c.tc : Thread nD τ).loc main_arg5))
        (m' ((c.tc : Thread nD τ).loc main_arg6)) := rfl
  rw [e, h0, h1, h2, h3, h4, h5, h6]
  funext i
  have ei : i = ix2 (i 0) (i 1) := by funext a; fin_cases a <;> rfl
  refine (congrArg _ ei).trans ((whole_at _ _ _ _ _ _ _ hf (i 0) (i 1)).trans ?_)
  exact Cert.Kernel5Ideal.Memory.array_of m c i (i 0) (i 1) rfl rfl

end Cert.Reference5Ideal.Memory
end
-- ==== Proof.LatentOut.lean ====
module

public import proofs.«01_k».proof.Proof.Gen.Kernel6Ideal.Value
public import Idealize.ShloMosaic.Lib.Pipeline.ValueKit
public import Idealize.ShloMosaic.Lib.Pointwise
public import Idealize.ShloMosaic.Lib.Claim
public import proofs.«01_k».proof.Proof.MemoryOut

/-! # The latent projections: the body of a grid point

Each grid point normalises 256 rows' two latents and projects them to the four heads' queries, keys and values; it
normalises each head's parts, rotates the positional parts, and joins the two parts of each query and key. -/

@[expose] public section

set_option maxRecDepth 16384

noncomputable section

namespace Cert.Kernel6Ideal.Latent

open Cert.Kernel6Ideal Cert.Kernel6Ideal.Gen Idealize.ShloMosaic Idealize.ShloMosaic.TcCoe Idealize.SL.Sem
open Cert.Kernel5Ideal.Memory (normed)

/-- The scale of the queries, one over the root of the heads' width. -/
def factor : EReal := ((Real.sqrt 192)⁻¹ : ℝ)

/-- The kernel's named constant is the scale. -/
theorem scale_eq : Named.named (F := Ideal) κ "scale" (φ := .f32) 0x3D93CD3A#32 = factor :=
  IdealRules.named_const.ideal_named_scalar _ _ _ _ rfl

/-- Lane `d` of head `h` among the positional parts. -/
def lane (h : Fin 4) (d : Fin 64) : Fin 256 := ⟨h.val * 64 + d.val, by omega⟩

/-- A row of one head rotated by its angles: the first half's turns against the second's. -/
def turn (x c s : Fin 64 → EReal) (d : Fin 64) : EReal :=
  if h : d.val < 32 then x d * c d + (0 - x ⟨d.val + 32, by omega⟩) * s d else x d * c d + x ⟨d.val - 32, by omega⟩ * s d

/-- The word of 1/64 times a value is the value over 64. -/
theorem over64 (x : EReal) : x * Ideal.ofBits .f32 0x3C800000#32 = Ideal.div x (Ideal.ofBits .f32 0x42800000#32) := by
  have h1 : Ideal.ofBits .f32 0x3C800000#32 = ((1 / 64 : ℝ) : EReal) := by
    simp [Ideal.ofBits, Ideal.ieee]; rw [← EReal.coe_mul]; norm_num
  have h2 : Ideal.ofBits .f32 0x42800000#32 = ((64 : ℝ) : EReal) := by
    simp [Ideal.ofBits, Ideal.ieee]; rw [← EReal.coe_mul]; norm_num
  rw [h1, h2, Ideal.div_coe (by norm_num)]

/-! ## The parts without position -/

/-- The rows' sums of squares. -/
def squares (x : FVec Ideal S256x128 .f32) : FVec Ideal S256 .f32 :=
  multiReduction .add [1] S256 (mulf x x) 0x00000000#32 reduces_S256x128_S256 (.inl rfl) rfl

/-- The normalised rows of a head. -/
def nrm (x : FVec Ideal S256x128 .f32) (g : FVec Ideal S1x128 .f32) : FVec Ideal S256x128 .f32 :=
  mulf (mulf x (broadcastTo S256x128 (rsqrt (addf (divf (shapeCast S256x1 (squares x) shapeCasts_S256_S256x1) (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128) broadcasts_S1x128_S256x128)

theorem squares_at (x : FVec Ideal S256x128 .f32) (r : Fin 256) : squares x (ix1 r) = ∑ k, x (ix2 r k) * x (ix2 r k) := by
  pointwise [squares]

theorem nrm_at (x : FVec Ideal S256x128 .f32) (g : FVec Ideal S1x128 .f32) (r : Fin 256) (d : Fin 128) :
    nrm x g (ix2 r d) = normed 0x43000000#32 (fun d => x (ix2 r d)) (fun d => g (ix2 0 d)) d := by
  unfold normed
  rw [← squares_at]
  unfold nrm
  generalize squares x = q
  pointwise

/-- The projected queries. -/
theorem pay4_at (x : FVec Ideal S256x512 .f32) (g : FVec Ideal S1x512 .f32) (w : FVec Ideal S512x768 .bf16) (r : Fin 256) (j : Fin 768) :
    k0_pay4 (F := Ideal) x g w (ix2 r j) = ∑ k, normed 0x44000000#32 (fun k => x (ix2 r k)) (fun k => g (ix2 0 k)) k * w (ix2 k j) := by
  pointwise [k0_pay4, normed]

/-- The projected keys and values. -/
theorem pay6_at (x : FVec Ideal S256x256 .f32) (g : FVec Ideal S1x256 .f32) (w : FVec Ideal S256x1024 .bf16) (r : Fin 256) (j : Fin 1024) :
    k0_pay6 (F := Ideal) (k0_pay5 x g) w (ix2 r j) = ∑ k, normed 0x43800000#32 (fun k => x (ix2 r k)) (fun k => g (ix2 0 k)) k * w (ix2 k j) := by
  pointwise [k0_pay6, k0_pay5, normed]

/-! ## The queries' positional parts -/

/-- The lanes of head `h`. -/
def mask (h : Fin 4) : IVec S256x256 1 :=
  andi (cmpi .sge (iota .tc S256x256 32 [1] iota_S256x256_d1_w32) (broadcast S256x256 (BitVec.ofNat 32 (h.val * 64))))
    (cmpi .slt (iota .tc S256x256 32 [1] iota_S256x256_d1_w32) (broadcast S256x256 (BitVec.ofNat 32 (h.val * 64 + 64))))

theorem mask_lanes : ∀ (h : Fin 4) (l : Fin 256), mask h (ix2 0 l) = if l.val / 64 = h.val then 1#1 else 0#1 := by
  decide +kernel

theorem mask_at (h : Fin 4) (r l : Fin 256) : mask h (ix2 r l) = if l.val / 64 = h.val then 1#1 else 0#1 :=
  (show mask h (ix2 r l) = mask h (ix2 0 l) from rfl).trans (mask_lanes h l)

/-- The rows' sums over the lanes of head `h`. -/
def sums (h : Fin 4) (y : FVec Ideal S256x256 .f32) : FVec Ideal S256 .f32 :=
  multiReduction .add [1] S256 (select (mask h) y (broadcast S256x256 (Scalar.ofBits .f32 0x00000000#32))) 0x00000000#32 reduces_S256x256_S256 (.inl rfl) rfl

/-- The inverse roots of head `h`, over all lanes. -/
def root (h : Fin 4) (y : FVec Ideal S256x256 .f32) : FVec Ideal S256x256 .f32 :=
  broadcastTo S256x256 (shapeCast S256x1 (rsqrt (addf (mulf (shapeCast S256x1 (sums h y) shapeCasts_S256_S256x1) (broadcast S256x1 (Scalar.ofBits .f32 0x3C800000#32))) (broadcast S256x1 (Scalar.ofBits .f32 0x358637BD#32)))) shapeCasts_S256x1_S256x1) broadcasts_S256x1_S256x256

/-- Each lane's inverse root. -/
def roots (y : FVec Ideal S256x256 .f32) : FVec Ideal S256x256 .f32 :=
  select (mask 3) (root 3 y) (select (mask 2) (root 2 y) (select (mask 1) (root 1 y) (select (mask 0) (root 0 y) (broadcast S256x256 (Scalar.ofBits .f32 0x00000000#32)))))

/-- The normalised positional parts. -/
def parts (x : FVec Ideal S256x256 .f32) (g : FVec Ideal S1x256 .f32) : FVec Ideal S256x256 .f32 :=
  mulf (mulf x (roots (mulf x x))) (broadcastTo S256x256 (shapeCast S1x256 g shapeCasts_S1x256_S1x256) broadcasts_S1x256_S256x256)

/-- The normalised parts, as the body states them. -/
theorem parts_eq (q : FVec Ideal S256x768 .f32) (g : FVec Ideal S1x256 .f32) :
    k0_pay12 (F := Ideal) (k0_pay7 q) (iota .tc S256x256 32 [1] iota_S256x256_d1_w32) (k0_pay8 q) (k0_pay9 q) k0_pay10 k0_pay11 g = parts (k0_pay7 q) g := rfl

theorem sums_at (h : Fin 4) (y : FVec Ideal S256x256 .f32) (r : Fin 256) : sums h y (ix1 r) = ∑ d, y (ix2 r (lane h d)) := by
  have e : sums h y (ix1 r) = ∑ l : Fin 256, Scalar.select (mask h (ix2 r l)) (y (ix2 r l)) 0 := by
    unfold sums
    generalize mask h = k
    pointwise
  rw [e, Fin.sum_univ_tiles 4 64 rfl]
  simp only [mask_at]
  rw [Finset.sum_eq_single h]
  · refine Finset.sum_congr rfl fun d _ => ?_
    rw [if_pos (show (h.val * 64 + d.val) / 64 = h.val by omega)]
    rfl
  · intro k _ hk
    refine Finset.sum_eq_zero fun d _ => ?_
    rw [if_neg (show ¬ (k.val * 64 + d.val) / 64 = h.val by have := Fin.val_ne_of_ne hk; omega)]
    rfl
  · simp

theorem root_at (h : Fin 4) (y : FVec Ideal S256x256 .f32) (r l : Fin 256) :
    root h y (ix2 r l) = Ideal.rsqrt (Ideal.div (∑ d, y (ix2 r (lane h d))) (Ideal.ofBits .f32 0x42800000#32) + Ideal.ofBits .f32 0x358637BD#32) := by
  rw [← sums_at, ← over64]
  unfold root
  generalize sums h y = q
  pointwise

theorem roots_at (h : Fin 4) (y : FVec Ideal S256x256 .f32) (r : Fin 256) (d : Fin 64) : roots y (ix2 r (lane h d)) = root h y (ix2 r (lane h d)) := by
  have hd : (lane h d).val / 64 = h.val := by simp only [lane]; omega
  have e : roots y (ix2 r (lane h d)) = Scalar.select (mask 3 (ix2 r (lane h d))) (root 3 y (ix2 r (lane h d))) (Scalar.select (mask 2 (ix2 r (lane h d))) (root 2 y (ix2 r (lane h d)))
      (Scalar.select (mask 1 (ix2 r (lane h d))) (root 1 y (ix2 r (lane h d))) (Scalar.select (mask 0 (ix2 r (lane h d))) (root 0 y (ix2 r (lane h d))) (Ideal.ofBits .f32 0#32)))) := rfl
  rw [e]
  simp only [mask_at, hd]
  fin_cases h <;> rfl

theorem parts_at (x : FVec Ideal S256x256 .f32) (g : FVec Ideal S1x256 .f32) (h : Fin 4) (r : Fin 256) (d : Fin 64) :
    parts x g (ix2 r (lane h d)) = normed 0x42800000#32 (fun d => x (ix2 r (lane h d))) (fun d => g (ix2 0 (lane h d))) d := by
  have e : parts x g (ix2 r (lane h d)) = x (ix2 r (lane h d)) * roots (mulf x x) (ix2 r (lane h d)) * g (ix2 0 (lane h d)) := by
    unfold parts
    generalize roots (mulf x x) = q
    pointwise
  rw [e, roots_at, root_at]
  rfl

/-- The lanes of the first halves, of 256. -/
def low : IVec S256x256 1 :=
  cmpi .slt (select (andi (xori (cmpi .slt k0_pay14 (broadcast S256x256 0#32)) (broadcastTo S256x256 (broadcast S256x256 (Scalar.cmpi .slt (Scalar.select (Scalar.cmpi .eq 64#32 0#32) 1#32 64#32) 0#32)) broadcasts_S256x256_S256x256)) k0_pay15)
    (addi k0_pay14 (broadcast S256x256 (Scalar.select (Scalar.cmpi .eq 64#32 0#32) 1#32 64#32))) k0_pay14) (broadcast S256x256 32#32)

theorem low_lanes : ∀ (h : Fin 4) (d : Fin 64), low (ix2 0 (lane h d)) = if d.val < 32 then 1#1 else 0#1 := by
  decide +kernel

theorem low_at (r : Fin 256) (h : Fin 4) (d : Fin 64) : low (ix2 r (lane h d)) = if d.val < 32 then 1#1 else 0#1 :=
  (show low (ix2 r (lane h d)) = low (ix2 0 (lane h d)) from rfl).trans (low_lanes h d)

/-- The rotated parts, scaled. -/
def turned (k : IVec S256x256 1) (y c s : FVec Ideal S256x256 .f32) : FVec Ideal S256x256 .f32 :=
  mulf (addf (mulf y c) (mulf (select k (subf (broadcast S256x256 (Scalar.ofBits .f32 0x00000000#32)) (dynamicRotate 1 224#32 none y rotates_S256x256_d1)) (dynamicRotate 1 32#32 none y rotates_S256x256_d1)) s))
    (broadcast S256x256 (Named.named κ "scale" 0x3D93CD3A#32))

/-- The rotated parts, as the body states them. -/
theorem turned_eq (y c s : FVec Ideal S256x256 .f32) :
    k0_pay16 (F := Ideal) s y (mulf y c) (Scalar.select (Scalar.cmpi .eq 64#32 0#32) 1#32 64#32) k0_pay14 k0_pay15 0#32 = turned low y c s := rfl

theorem turned_at (y c s : FVec Ideal S256x256 .f32) (r : Fin 256) (h : Fin 4) (d : Fin 64) :
    turned low y c s (ix2 r (lane h d))
      = turn (fun d => y (ix2 r (lane h d))) (fun d => c (ix2 r (lane h d))) (fun d => s (ix2 r (lane h d))) d * factor := by
  have e : ∀ l : Fin 256, turned low y c s (ix2 r l) = (y (ix2 r l) * c (ix2 r l)
      + Scalar.select (low (ix2 r l)) (0 - y (ix2 r ⟨(l.val + 256 - 224) % 256, by omega⟩)) (y (ix2 r ⟨(l.val + 256 - 32) % 256, by omega⟩)) * s (ix2 r l)) * factor := by
    intro l
    rw [← scale_eq]
    generalize low = k
    pointwise [turned]
  rw [e, low_at]
  unfold turn
  by_cases hd : d.val < 32
  · rw [if_pos hd, dif_pos hd]
    have el : (⟨((lane h d).val + 256 - 224) % 256, by omega⟩ : Fin 256) = lane h ⟨d.val + 32, by omega⟩ := by
      apply Fin.ext; simp only [lane]; omega
    rw [el]
    rfl
  · rw [if_neg hd, dif_neg hd]
    have el : (⟨((lane h d).val + 256 - 32) % 256, by omega⟩ : Fin 256) = lane h ⟨d.val - 32, by omega⟩ := by
      apply Fin.ext; simp only [lane]; omega
    rw [el]
    rfl

/-! ## The keys' positional part -/

/-- The lanes of the first halves, of 128. -/
def low128 : IVec S256x128 1 :=
  cmpi .slt (select (andi (xori (cmpi .slt k0_pay19 (broadcast S256x128 0#32)) (broadcastTo S256x128 (broadcast S256x128 (Scalar.cmpi .slt (Scalar.select (Scalar.cmpi .eq 64#32 0#32) 1#32 64#32) 0#32)) broadcasts_S256x128_S256x128)) (cmpi .ne k0_pay19 (broadcast S256x128 0#32)))
    (addi k0_pay19 (broadcast S256x128 (Scalar.select (Scalar.cmpi .eq 64#32 0#32) 1#32 64#32))) k0_pay19) (broadcast S256x128 32#32)

theorem low128_lanes : ∀ l : Fin 128, low128 (ix2 0 l) = if l.val % 64 < 32 then 1#1 else 0#1 := by
  decide +kernel

theorem low128_at (r : Fin 256) (l : Fin 128) : low128 (ix2 r l) = if l.val % 64 < 32 then 1#1 else 0#1 :=
  (show low128 (ix2 r l) = low128 (ix2 0 l) from rfl).trans (low128_lanes l)

/-- The key's part over the root of its mean square, times its gains: its 128 lanes' squares over 64. -/
def keyed (x g : Fin 128 → EReal) (l : Fin 128) : EReal :=
  x l * Ideal.rsqrt (Ideal.div (∑ k, x k * x k) (Ideal.ofBits .f32 0x42800000#32) + Ideal.ofBits .f32 0x358637BD#32) * g l

/-- The rotated key of 128 lanes. -/
def keyTurn (x c s : Fin 128 → EReal) (l : Fin 128) : EReal :=
  if l.val % 64 < 32 then x l * c l + (0 - x ⟨(l.val + 128 - 96) % 128, by omega⟩) * s l else x l * c l + x ⟨(l.val + 128 - 32) % 128, by omega⟩ * s l

theorem pay17_at (x : FVec Ideal S256x128 .f32) (g : FVec Ideal S1x128 .f32) (r : Fin 256) (l : Fin 128) :
    k0_pay17 (F := Ideal) x g (ix2 r l) = keyed (fun l => x (ix2 r l)) (fun l => g (ix2 0 l)) l := by
  unfold keyed
  rw [← squares_at, ← over64]
  have e : k0_pay17 (F := Ideal) x g = mulf (mulf x (broadcastTo S256x128 (rsqrt (addf (mulf (shapeCast S256x1 (squares x) shapeCasts_S256_S256x1) (broadcast S256x1 (Scalar.ofBits .f32 0x3C800000#32))) (broadcast S256x1 (Scalar.ofBits .f32 0x358637BD#32)))) broadcasts_S256x1_S256x128))
    (broadcastTo S256x128 (shapeCast S1x128 g shapeCasts_S1x128_S1x128) broadcasts_S1x128_S256x128) := rfl
  rw [e]
  generalize squares x = q
  pointwise

/-- The rotated keys. -/
def keys (k : IVec S256x128 1) (y : FVec Ideal S256x128 .f32) (c s : FVec Ideal S256x256 .f32) : FVec Ideal S256x128 .bf16 :=
  truncf .bf16 (addf (mulf y (extractStridedSlice S256x128 ![0, 0] c slices_S256x256_o0_0_S256x128)) (mulf (select k (subf (broadcast S256x128 (Scalar.ofBits .f32 0x00000000#32)) (dynamicRotate 1 96#32 none y rotates_S256x128_d1)) (dynamicRotate 1 32#32 none y rotates_S256x128_d1)) (extractStridedSlice S256x128 ![0, 0] s slices_S256x256_o0_0_S256x128))) bitsLt_bf16_f32

/-- The rotated keys, as the body states them. -/
theorem keys_eq (x : FVec Ideal S256x128 .f32) (g : FVec Ideal S1x128 .f32) (c s : FVec Ideal S256x256 .f32) :
    k0_pay20 (F := Ideal) s (k0_pay17 x g) (k0_pay18 c x g) (Scalar.select (Scalar.cmpi .eq 64#32 0#32) 1#32 64#32) k0_pay19 0#32 = keys low128 (k0_pay17 x g) c s := rfl

/-- The first 128 of 256 lanes. -/
def half (l : Fin 128) : Fin 256 := ⟨l.val, by omega⟩

theorem keys_at (y : FVec Ideal S256x128 .f32) (c s : FVec Ideal S256x256 .f32) (r : Fin 256) (l : Fin 128) :
    keys low128 y c s (ix2 r l) = keyTurn (fun l => y (ix2 r l)) (fun l => c (ix2 r (half l))) (fun l => s (ix2 r (half l))) l := by
  have e : keys low128 y c s (ix2 r l) = y (ix2 r l) * c (ix2 r (half l))
      + Scalar.select (low128 (ix2 r l)) (0 - y (ix2 r ⟨(l.val + 128 - 96) % 128, by omega⟩)) (y (ix2 r ⟨(l.val + 128 - 32) % 128, by omega⟩)) * s (ix2 r (half l)) := by
    generalize low128 = k
    unfold half
    pointwise [keys]
  rw [e, low128_at]
  unfold keyTurn
  by_cases hd : l.val % 64 < 32
  · rw [if_pos hd, if_pos hd]
    rfl
  · rw [if_neg hd, if_neg hd]
    rfl

/-! ## The stored pieces -/

/-- One head's query: its part without position, scaled, then its rotated part and zeros. -/
def queryPiece (n p : FVec Ideal S256x128 .f32) : FVec Ideal S1x256x256 .bf16 :=
  shapeCast S1x256x256 (truncf .bf16 (concatenate S256x256 1 [⟨S256x128, mulf n (broadcast S256x128 (Named.named κ "scale" 0x3D93CD3A#32))⟩,
    ⟨S256x128, select (cmpi .slt (iota .tc S256x128 32 [1] iota_S256x128_d1_w32) (broadcast S256x128 64#32)) p (broadcast S256x128 (Scalar.ofBits .f32 0x00000000#32))⟩] concatenates_S256x128_S256x128_S256x256_d1) bitsLt_bf16_f32) shapeCasts_S256x256_S1x256x256

/-- One head's key: its part without position, then the rotated part all heads share. -/
def keyPiece (n : FVec Ideal S256x128 .f32) (p : FVec Ideal S256x128 .bf16) : FVec Ideal S1x256x256 .bf16 :=
  shapeCast S1x256x256 (concatenate S256x256 1 [⟨S256x128, truncf .bf16 n bitsLt_bf16_f32⟩, ⟨S256x128, p⟩] concatenates_S256x128_S256x128_S256x256_d1) shapeCasts_S256x256_S1x256x256

theorem queryPiece_at (n p : FVec Ideal S256x128 .f32) (z : Fin 1) (r j : Fin 256) :
    queryPiece n p (ix3 z r j) = if h : j.val < 128 then n (ix2 r ⟨j.val, h⟩) * factor
      else if j.val < 192 then p (ix2 r ⟨j.val - 128, by omega⟩) else 0 := by
  have hm : ∀ l : Fin 128, cmpi .slt (iota .tc S256x128 32 [1] iota_S256x128_d1_w32) (broadcast S256x128 64#32) (ix2 0 l) = if l.val < 64 then 1#1 else 0#1 := by
    decide +kernel
  have hm' : ∀ l : Fin 128, cmpi .slt (iota .tc S256x128 32 [1] iota_S256x128_d1_w32) (broadcast S256x128 64#32) (ix2 r l) = if l.val < 64 then 1#1 else 0#1 :=
    fun l => (show _ = cmpi .slt (iota .tc S256x128 32 [1] iota_S256x128_d1_w32) (broadcast S256x128 64#32) (ix2 0 l) from rfl).trans (hm l)
  rw [← scale_eq]
  unfold queryPiece
  generalize cmpi .slt (iota .tc S256x128 32 [1] iota_S256x128_d1_w32) (broadcast S256x128 64#32) = k at hm'
  pointwise
  by_cases hj : j.val < 128
  · rw [dif_pos hj, dif_pos hj]
  · rw [dif_neg hj, dif_neg hj, hm']
    by_cases hj' : j.val < 192
    · rw [if_pos (show j.val - 128 < 64 by omega), if_pos hj']
      rfl
    · rw [if_neg (show ¬ j.val - 128 < 64 by omega), if_neg hj']
      rfl

theorem keyPiece_at (n : FVec Ideal S256x128 .f32) (p : FVec Ideal S256x128 .bf16) (z : Fin 1) (r j : Fin 256) :
    keyPiece n p (ix3 z r j) = if h : j.val < 128 then n (ix2 r ⟨j.val, h⟩) else p (ix2 r ⟨j.val - 128, by omega⟩) := by
  pointwise [keyPiece]

section
variable (q : FVec Ideal S256x768 .f32) (kv : FVec Ideal S256x1024 .f32) (p : FVec Ideal S256x256 .f32) (k : FVec Ideal S256x128 .bf16) (g : FVec Ideal S1x128 .f32)

theorem query0 : k0_pay23 (F := Ideal) (k0_pay21 q g) (k0_pay22 p) = queryPiece (nrm (extractStridedSlice S256x128 ![0, 0] q slices_S256x768_o0_0_S256x128) g) (extractStridedSlice S256x128 ![0, 0] p slices_S256x256_o0_0_S256x128) := rfl
theorem query1 : k0_pay29 (F := Ideal) p (iota .tc S256x128 32 [1] iota_S256x128_d1_w32) (k0_pay26 q) (k0_pay27 g) (k0_pay28 q) (Scalar.ofBits .f32 0x358637BD#32)
    = queryPiece (nrm (extractStridedSlice S256x128 ![0, 128] q slices_S256x768_o0_128_S256x128) g) (dynamicRotate 1 64#32 none (extractStridedSlice S256x128 ![0, 0] p slices_S256x256_o0_0_S256x128) rotates_S256x128_d1) := rfl
theorem query2 : k0_pay33 (F := Ideal) q p (iota .tc S256x128 32 [1] iota_S256x128_d1_w32) g = queryPiece (nrm (extractStridedSlice S256x128 ![0, 256] q slices_S256x768_o0_256_S256x128) g) (extractStridedSlice S256x128 ![0, 128] p slices_S256x256_o0_128_S256x128) := rfl
theorem query3 : k0_pay1 (F := Ideal) (k0_pay39 q p (iota .tc S256x128 32 [1] iota_S256x128_d1_w32) g)
    = queryPiece (nrm (extractStridedSlice S256x128 ![0, 384] q slices_S256x768_o0_384_S256x128) g) (dynamicRotate 1 64#32 none (extractStridedSlice S256x128 ![0, 128] p slices_S256x256_o0_128_S256x128) rotates_S256x128_d1) := rfl
theorem key0 : k0_pay24 (F := Ideal) kv k g = keyPiece (nrm (extractStridedSlice S256x128 ![0, 0] kv slices_S256x1024_o0_0_S256x128) g) k := rfl
theorem key1 : k0_pay30 (F := Ideal) kv k g = keyPiece (nrm (extractStridedSlice S256x128 ![0, 128] kv slices_S256x1024_o0_128_S256x128) g) k := rfl
theorem key2 : k0_pay37 (F := Ideal) k (k0_pay34 kv) (k0_pay35 g) (k0_pay36 kv) = keyPiece (nrm (extractStridedSlice S256x128 ![0, 256] kv slices_S256x1024_o0_256_S256x128) g) k := rfl
theorem key3 : k0_pay2 (F := Ideal) kv k g = keyPiece (nrm (extractStridedSlice S256x128 ![0, 384] kv slices_S256x1024_o0_384_S256x128) g) k := rfl

end

/-- Column `d` of head `h`'s query without position. -/
def plainQ (h : Fin 4) (d : Fin 128) : Fin 768 := ⟨h.val * 128 + d.val, by omega⟩
/-- Column `d` of head `h`'s positional query. -/
def turnedQ (h : Fin 4) (d : Fin 64) : Fin 768 := ⟨512 + h.val * 64 + d.val, by omega⟩
/-- Column `d` of head `h`'s key without position. -/
def plainK (h : Fin 4) (d : Fin 128) : Fin 1024 := ⟨h.val * 128 + d.val, by omega⟩
/-- Column `d` of head `h`'s value. -/
def valCol (h : Fin 4) (d : Fin 128) : Fin 1024 := ⟨512 + h.val * 128 + d.val, by omega⟩

/-- Lane `j` of head `h`'s query, from its projected row. -/
def queryOf (q : Fin 768 → EReal) (ng : Fin 128 → EReal) (rg c s : Fin 64 → EReal) (h : Fin 4) (j : Fin 256) : EReal :=
  if hj : j.val < 128 then normed 0x43000000#32 (fun d => q (plainQ h d)) ng ⟨j.val, hj⟩ * factor
  else if hj' : j.val < 192 then turn (normed 0x42800000#32 (fun d => q (turnedQ h d)) rg) c s ⟨j.val - 128, by omega⟩ * factor else 0

/-- Lane `j` of head `h`'s key, from its projected row and the shared part. -/
def keyOf (kv : Fin 1024 → EReal) (ng : Fin 128 → EReal) (p : Fin 128 → EReal) (h : Fin 4) (j : Fin 256) : EReal :=
  if hj : j.val < 128 then normed 0x43000000#32 (fun d => kv (plainK h d)) ng ⟨j.val, hj⟩ else p ⟨j.val - 128, by omega⟩

/-- A slice of the projected queries. -/
theorem sliceQ (q : FVec Ideal S256x768 .f32) (h : Fin 4) (hs : S256x768.Slices ![0, h.val * 128] S256x128) (r : Fin 256) (d : Fin 128) :
    extractStridedSlice S256x128 ![0, h.val * 128] q hs (ix2 r d) = q (ix2 r (plainQ h d)) := by
  refine congrArg q (funext fun a => Fin.ext ?_)
  fin_cases a <;> simp [plainQ]

/-- A slice of the projected keys. -/
theorem sliceK (q : FVec Ideal S256x1024 .f32) (h : Fin 4) (hs : S256x1024.Slices ![0, h.val * 128] S256x128) (r : Fin 256) (d : Fin 128) :
    extractStridedSlice S256x128 ![0, h.val * 128] q hs (ix2 r d) = q (ix2 r (plainK h d)) := by
  refine congrArg q (funext fun a => Fin.ext ?_)
  fin_cases a <;> simp [plainK]

/-- A slice of the projected values. -/
theorem sliceV (q : FVec Ideal S256x1024 .f32) (h : Fin 4) (hs : S256x1024.Slices ![0, 512 + h.val * 128] S256x128) (r : Fin 256) (d : Fin 128) :
    extractStridedSlice S256x128 ![0, 512 + h.val * 128] q hs (ix2 r d) = q (ix2 r (valCol h d)) := by
  refine congrArg q (funext fun a => Fin.ext ?_)
  fin_cases a <;> simp [valCol, add_assoc]

/-- The slice of the positional queries. -/
theorem pay7_at (q : FVec Ideal S256x768 .f32) (r : Fin 256) (h : Fin 4) (d : Fin 64) : k0_pay7 (F := Ideal) q (ix2 r (lane h d)) = q (ix2 r (turnedQ h d)) := by
  refine congrArg q (funext fun a => Fin.ext ?_)
  fin_cases a <;> simp [turnedQ, lane, add_assoc]

/-- The first lanes of a head's two lanes' groups. -/
theorem part0 (p : FVec Ideal S256x256 .f32) (r : Fin 256) (d : Fin 64) :
    extractStridedSlice S256x128 ![0, 0] p slices_S256x256_o0_0_S256x128 (ix2 r ⟨d.val, by omega⟩) = p (ix2 r (lane 0 d)) := by
  refine congrArg p (funext fun a => Fin.ext ?_)
  fin_cases a <;> simp [lane]

theorem part1 (p : FVec Ideal S256x256 .f32) (r : Fin 256) (d : Fin 64) :
    dynamicRotate 1 64#32 none (extractStridedSlice S256x128 ![0, 0] p slices_S256x256_o0_0_S256x128) rotates_S256x128_d1 (ix2 r ⟨d.val, by omega⟩) = p (ix2 r (lane 1 d)) := by
  pointwise
  refine congrArg p (funext fun a => Fin.ext ?_)
  fin_cases a
  · rfl
  · simp [lane]; omega

theorem part2 (p : FVec Ideal S256x256 .f32) (r : Fin 256) (d : Fin 64) :
    extractStridedSlice S256x128 ![0, 128] p slices_S256x256_o0_128_S256x128 (ix2 r ⟨d.val, by omega⟩) = p (ix2 r (lane 2 d)) := by
  refine congrArg p (funext fun a => Fin.ext ?_)
  fin_cases a <;> simp [lane]

theorem part3 (p : FVec Ideal S256x256 .f32) (r : Fin 256) (d : Fin 64) :
    dynamicRotate 1 64#32 none (extractStridedSlice S256x128 ![0, 128] p slices_S256x256_o0_128_S256x128) rotates_S256x128_d1 (ix2 r ⟨d.val, by omega⟩) = p (ix2 r (lane 3 d)) := by
  pointwise
  refine congrArg p (funext fun a => Fin.ext ?_)
  fin_cases a
  · rfl
  · simp [lane]; omega

section
variable (x0 : FVec Ideal S256x896 .f32) (x1 x2 : FVec Ideal S256x256 .f32) (x3 : FVec Ideal S1x512 .f32) (x4 : FVec Ideal S1x256 .f32)
  (x5 : FVec Ideal S512x768 .bf16) (x6 : FVec Ideal S256x1024 .bf16) (x7 : FVec Ideal S1x128 .f32) (x8 : FVec Ideal S1x256 .f32) (x9 x10 : FVec Ideal S1x128 .f32)

/-- The latent of the queries. -/
def latQ (k : Fin 512) : Fin 896 := ⟨k.val, by omega⟩
/-- The latent of the keys and values. -/
def latK (k : Fin 256) : Fin 896 := ⟨512 + k.val, by omega⟩
/-- The keys' positional part and the padding. -/
def latR (k : Fin 128) : Fin 896 := ⟨768 + k.val, by omega⟩

/-- The projected queries of a row. -/
def rowQ (x : Fin 896 → EReal) (g : Fin 512 → EReal) (w : Fin 512 → Fin 768 → EReal) (j : Fin 768) : EReal :=
  ∑ k, normed 0x44000000#32 (fun k => x (latQ k)) g k * w k j

/-- The projected keys and values of a row. -/
def rowK (x : Fin 896 → EReal) (g : Fin 256 → EReal) (w : Fin 256 → Fin 1024 → EReal) (j : Fin 1024) : EReal :=
  ∑ k, normed 0x43800000#32 (fun k => x (latK k)) g k * w k j

theorem zero2 : (![0, 0] : Fin 2 → ℕ) = fun _ => 0 := by funext a; fin_cases a <;> rfl

/-- The latent of the queries, of a block. -/
def cutQ : FVec Ideal S256x512 .f32 := View.ld (Val := Elt Ideal) (e' := .f32) x0 r0_1

theorem cutQ_at (r : Fin 256) (k : Fin 512) : cutQ x0 (ix2 r k) = x0 (ix2 r (latQ k)) := by
  unfold cutQ
  refine View.ld_unit_apply_of _ _ _ _ _ (ix2 r (latQ k)) fun a => ?_
  fin_cases a <;> simp [latQ]

/-- The latent of the keys and values, of a block. -/
def cutK : FVec Ideal S256x256 .f32 := View.ld (Val := Elt Ideal) (e' := .f32) x0 r0_4

theorem cutK_at (r k : Fin 256) : cutK x0 (ix2 r k) = x0 (ix2 r (latK k)) := by
  unfold cutK
  refine View.ld_unit_apply_of _ _ _ _ _ (ix2 r (latK k)) fun a => ?_
  fin_cases a <;> simp [latK]

/-- The keys' positional part and the padding, of a block. -/
def cutR : FVec Ideal S256x128 .f32 := View.ld (Val := Elt Ideal) (e' := .f32) x0 r0_7

theorem cutR_at (r : Fin 256) (k : Fin 128) : cutR x0 (ix2 r k) = x0 (ix2 r (latR k)) := by
  unfold cutR
  refine View.ld_unit_apply_of _ _ _ _ _ (ix2 r (latR k)) fun a => ?_
  fin_cases a <;> simp [latR]

theorem pay40_at (r : Fin 256) (j : Fin 768) : k0_pay40 (F := Ideal) x0 x1 x2 x3 x4 x5 x6 x7 x8 x9 x10 (ix2 r j)
    = rowQ (fun k => x0 (ix2 r k)) (fun k => x3 (ix2 0 k)) (fun k j => x5 (ix2 k j)) j := by
  have e : k0_pay40 (F := Ideal) x0 x1 x2 x3 x4 x5 x6 x7 x8 x9 x10 = k0_pay4 (cutQ x0) x3 x5 := by
    unfold k0_pay40
    rw [View.ld_unit_zero zero2, View.ld_unit_zero zero2]
    rfl
  rw [e, pay4_at]
  simp only [cutQ_at]
  rfl

theorem pay42_at (r : Fin 256) (j : Fin 1024) : k0_pay42 (F := Ideal) x0 x1 x2 x3 x4 x5 x6 x7 x8 x9 x10 (ix2 r j)
    = rowK (fun k => x0 (ix2 r k)) (fun k => x4 (ix2 0 k)) (fun k j => x6 (ix2 k j)) j := by
  have e : k0_pay42 (F := Ideal) x0 x1 x2 x3 x4 x5 x6 x7 x8 x9 x10 = k0_pay6 (k0_pay5 (cutK x0) x4) x6 := by
    unfold k0_pay42
    rw [View.ld_unit_zero zero2, View.ld_unit_zero zero2]
    rfl
  rw [e, pay6_at]
  simp only [cutK_at]
  rfl

theorem pay48_at (r : Fin 256) (h : Fin 4) (d : Fin 64) : k0_pay48 (F := Ideal) x0 x1 x2 x3 x4 x5 x6 x7 x8 x9 x10 (ix2 r (lane h d))
    = turn (normed 0x42800000#32 (fun d => rowQ (fun k => x0 (ix2 r k)) (fun k => x3 (ix2 0 k)) (fun k j => x5 (ix2 k j)) (turnedQ h d)) (fun d => x8 (ix2 0 (lane h d))))
      (fun d => x1 (ix2 r (lane h d))) (fun d => x2 (ix2 r (lane h d))) d * factor := by
  have e : k0_pay48 (F := Ideal) x0 x1 x2 x3 x4 x5 x6 x7 x8 x9 x10
      = turned low (parts (k0_pay7 (k0_pay40 (F := Ideal) x0 x1 x2 x3 x4 x5 x6 x7 x8 x9 x10)) x8) x1 x2 := by
    unfold k0_pay48
    rw [View.ld_unit_zero zero2, View.ld_unit_zero zero2, View.ld_unit_zero zero2]
    unfold k0_pay43 k0_pay41 k0_pay44 k0_pay45 k0_pay46 k0_pay47
    rw [← turned_eq, ← parts_eq]
    rfl
  rw [e, turned_at]
  simp only [parts_at, pay7_at, pay40_at]

theorem pay50_at (r : Fin 256) (l : Fin 128) : k0_pay50 (F := Ideal) x0 x1 x2 x3 x4 x5 x6 x7 x8 x9 x10 (ix2 r l)
    = keyTurn (keyed (fun l => x0 (ix2 r (latR l))) (fun l => x10 (ix2 0 l))) (fun l => x1 (ix2 r (half l))) (fun l => x2 (ix2 r (half l))) l := by
  have e : k0_pay50 (F := Ideal) x0 x1 x2 x3 x4 x5 x6 x7 x8 x9 x10 = keys low128 (k0_pay17 (cutR x0) x10) x1 x2 := by
    unfold k0_pay50
    rw [View.ld_unit_zero zero2, View.ld_unit_zero zero2, View.ld_unit_zero zero2, ← keys_eq]
    rfl
  rw [e, keys_at]
  simp only [pay17_at, cutR_at]

/-- A function of a block's three coordinates, at a head's rectangle. -/
theorem emb_at {n : ℕ} (f : Fin 4 → Fin 256 → Fin n → EReal) (h : Fin 4) (inb : ∀ a, ![h.val, 0, 0] a + (![1, 256, n] : Fin 3 → ℕ) a ≤ (⟨3, ![4, 256, n]⟩ : Shape).size a)
    (x : Shape.Idx ⟨3, ![1, 256, n]⟩) :
    (fun y : Shape.Idx ⟨3, ![4, 256, n]⟩ => f (y 0) (y 1) (y 2)) ((Rect.unit (s := ⟨3, ![4, 256, n]⟩) ![h.val, 0, 0] ![1, 256, n] inb).emb x) = f h (x 1) (x 2) := by
  have hx : (x 0).val = 0 := by have : (x 0).val < 1 := (x 0).isLt; omega
  have e0 : ((Rect.unit (s := ⟨3, ![4, 256, n]⟩) ![h.val, 0, 0] ![1, 256, n] inb).emb x) 0 = h :=
    Fin.ext (show h.val + 1 * (x 0).val = h.val by omega)
  have e1 : ((Rect.unit (s := ⟨3, ![4, 256, n]⟩) ![h.val, 0, 0] ![1, 256, n] inb).emb x) 1 = x 1 :=
    Fin.ext (show 0 + 1 * (x 1).val = (x 1).val by omega)
  have e2 : ((Rect.unit (s := ⟨3, ![4, 256, n]⟩) ![h.val, 0, 0] ![1, 256, n] inb).emb x) 2 = x 2 :=
    Fin.ext (show 0 + 1 * (x 2).val = (x 2).val by omega)
  show f _ _ _ = _
  rw [e0, e1, e2]

/-- An index of one head's piece. -/
theorem piece_idx {n : ℕ} (x : Shape.Idx ⟨3, ![1, 256, n]⟩) : x = ix3 (x 0) (x 1) (x 2) := by
  funext a; fin_cases a <;> rfl

/-- One head's stored queries. -/
theorem query_at (h : Fin 4) (q : FVec Ideal S256x768 .f32) (p : FVec Ideal S256x256 .f32) (y : FVec Ideal S256x128 .f32) (hs : S256x768.Slices ![0, h.val * 128] S256x128)
    (rg c s : Fin 256 → Fin 64 → EReal)
    (hy : ∀ (r : Fin 256) (d : Fin 64), y (ix2 r ⟨d.val, by omega⟩) = p (ix2 r (lane h d)))
    (hp : ∀ (r : Fin 256) (d : Fin 64), p (ix2 r (lane h d)) = turn (normed 0x42800000#32 (fun d => q (ix2 r (turnedQ h d))) (rg r)) (c r) (s r) d * factor)
    (z : Fin 1) (r j : Fin 256) :
    queryPiece (nrm (extractStridedSlice S256x128 ![0, h.val * 128] q hs) x7) y (ix3 z r j)
      = queryOf (fun j => q (ix2 r j)) (fun d => x7 (ix2 0 d)) (rg r) (c r) (s r) h j := by
  rw [queryPiece_at]
  unfold queryOf
  by_cases hj : j.val < 128
  · rw [dif_pos hj, dif_pos hj, nrm_at]
    simp only [sliceQ]
  · rw [dif_neg hj, dif_neg hj]
    by_cases hj' : j.val < 192
    · rw [if_pos hj', dif_pos hj']
      exact (hy _ ⟨j.val - 128, by omega⟩).trans (hp _ _)
    · rw [if_neg hj', dif_neg hj']

/-- One head's stored keys. -/
theorem key_at (h : Fin 4) (q : FVec Ideal S256x1024 .f32) (p : FVec Ideal S256x128 .bf16) (hs : S256x1024.Slices ![0, h.val * 128] S256x128)
    (z : Fin 1) (r j : Fin 256) :
    keyPiece (nrm (extractStridedSlice S256x128 ![0, h.val * 128] q hs) x9) p (ix3 z r j)
      = keyOf (fun j => q (ix2 r j)) (fun d => x9 (ix2 0 d)) (fun l => p (ix2 r l)) h j := by
  rw [keyPiece_at]
  unfold keyOf
  by_cases hj : j.val < 128
  · rw [dif_pos hj, dif_pos hj, nrm_at]
    simp only [sliceK]
  · rw [dif_neg hj, dif_neg hj]

theorem out11_at (h : Fin 4) (r j : Fin 256) : out0_11 (F := Ideal) x0 x1 x2 x3 x4 x5 x6 x7 x8 x9 x10 (ix3 h r j)
    = queryOf (rowQ (fun k => x0 (ix2 r k)) (fun k => x3 (ix2 0 k)) (fun k j => x5 (ix2 k j))) (fun d => x7 (ix2 0 d)) (fun d => x8 (ix2 0 (lane h d)))
      (fun d => x1 (ix2 r (lane h d))) (fun d => x2 (ix2 r (lane h d))) h j := by
  unfold out0_11
  rw [View.ld_unit_zero zero2]
  have hq : ∀ (r : Fin 256) (j : Fin 768), k0_pay40 (F := Ideal) x0 x1 x2 x3 x4 x5 x6 x7 x8 x9 x10 (ix2 r j) = _ := pay40_at x0 x1 x2 x3 x4 x5 x6 x7 x8 x9 x10
  have hp : ∀ (r : Fin 256) (h : Fin 4) (d : Fin 64), k0_pay48 (F := Ideal) x0 x1 x2 x3 x4 x5 x6 x7 x8 x9 x10 (ix2 r (lane h d)) = _ := pay48_at x0 x1 x2 x3 x4 x5 x6 x7 x8 x9 x10
  have h49 : k0_pay49 (F := Ideal) x0 x1 x2 x3 x4 x5 x6 x7 x8 x9 x10 = iota .tc S256x128 32 [1] iota_S256x128_d1_w32 := rfl
  have e : queryOf (rowQ (fun k => x0 (ix2 r k)) (fun k => x3 (ix2 0 k)) (fun k j => x5 (ix2 k j))) (fun d => x7 (ix2 0 d)) (fun d => x8 (ix2 0 (lane h d)))
      (fun d => x1 (ix2 r (lane h d))) (fun d => x2 (ix2 r (lane h d))) h j
      = queryOf (fun j => k0_pay40 (F := Ideal) x0 x1 x2 x3 x4 x5 x6 x7 x8 x9 x10 (ix2 r j)) (fun d => x7 (ix2 0 d)) (fun d => x8 (ix2 0 (lane h d)))
      (fun d => x1 (ix2 r (lane h d))) (fun d => x2 (ix2 r (lane h d))) h j := by
    simp only [hq]
  simp only [← hq] at hp
  rw [e, h49, query0, query1, query2, query3]
  generalize k0_pay40 (F := Ideal) x0 x1 x2 x3 x4 x5 x6 x7 x8 x9 x10 = q at hp ⊢
  generalize k0_pay48 (F := Ideal) x0 x1 x2 x3 x4 x5 x6 x7 x8 x9 x10 = p at hp ⊢
  refine View.canon_apply_of_pieces (Val := Elt Ideal) (fun y : S4x256x256.Idx => (fun (h : Fin 4) (r j : Fin 256) => queryOf (fun j => q (ix2 r j)) (fun d => x7 (ix2 0 d)) (fun d => x8 (ix2 0 (lane h d)))
      (fun d => x1 (ix2 r (lane h d))) (fun d => x2 (ix2 r (lane h d))) h j) (y 0) (y 1) (y 2)) _ ?_ (ix3 h r j) (cover0_11 _ _ _ _ _)
  intro pc hpc
  let f : Fin 4 → Fin 256 → Fin 256 → EReal := fun h r j => queryOf (fun j => q (ix2 r j)) (fun d => x7 (ix2 0 d)) (fun d => x8 (ix2 0 (lane h d))) (fun d => x1 (ix2 r (lane h d))) (fun d => x2 (ix2 r (lane h d))) h j
  rcases List.mem_cons.mp hpc with rfl | hpc
  · intro x
    exact (congrArg _ (piece_idx x)).trans ((query_at x7 3 q p _ slices_S256x768_o0_384_S256x128 (fun _ d => x8 (ix2 0 (lane 3 d))) (fun r d => x1 (ix2 r (lane 3 d))) (fun r d => x2 (ix2 r (lane 3 d))) (part3 p) (fun r d => hp r 3 d) (x 0) (x 1) (x 2)).trans (emb_at f 3 inb_S4x256x256_S1x256x256_3_0_0 x).symm)
  rcases List.mem_cons.mp hpc with rfl | hpc
  · intro x
    exact (congrArg _ (piece_idx x)).trans ((query_at x7 2 q p _ slices_S256x768_o0_256_S256x128 (fun _ d => x8 (ix2 0 (lane 2 d))) (fun r d => x1 (ix2 r (lane 2 d))) (fun r d => x2 (ix2 r (lane 2 d))) (part2 p) (fun r d => hp r 2 d) (x 0) (x 1) (x 2)).trans (emb_at f 2 inb_S4x256x256_S1x256x256_2_0_0 x).symm)
  rcases List.mem_cons.mp hpc with rfl | hpc
  · intro x
    exact (congrArg _ (piece_idx x)).trans ((query_at x7 1 q p _ slices_S256x768_o0_128_S256x128 (fun _ d => x8 (ix2 0 (lane 1 d))) (fun r d => x1 (ix2 r (lane 1 d))) (fun r d => x2 (ix2 r (lane 1 d))) (part1 p) (fun r d => hp r 1 d) (x 0) (x 1) (x 2)).trans (emb_at f 1 inb_S4x256x256_S1x256x256_1_0_0 x).symm)
  rcases List.mem_cons.mp hpc with rfl | hpc
  · intro x
    exact (congrArg _ (piece_idx x)).trans ((query_at x7 0 q p _ slices_S256x768_o0_0_S256x128 (fun _ d => x8 (ix2 0 (lane 0 d))) (fun r d => x1 (ix2 r (lane 0 d))) (fun r d => x2 (ix2 r (lane 0 d))) (part0 p) (fun r d => hp r 0 d) (x 0) (x 1) (x 2)).trans (emb_at f 0 inb_S4x256x256_S1x256x256_0_0_0 x).symm)
  nomatch hpc

theorem out12_at (h : Fin 4) (r j : Fin 256) : out0_12 (F := Ideal) x0 x1 x2 x3 x4 x5 x6 x7 x8 x9 x10 (ix3 h r j)
    = keyOf (rowK (fun k => x0 (ix2 r k)) (fun k => x4 (ix2 0 k)) (fun k j => x6 (ix2 k j))) (fun d => x9 (ix2 0 d))
      (keyTurn (keyed (fun l => x0 (ix2 r (latR l))) (fun l => x10 (ix2 0 l))) (fun l => x1 (ix2 r (half l))) (fun l => x2 (ix2 r (half l)))) h j := by
  unfold out0_12
  rw [View.ld_unit_zero zero2]
  have hq : ∀ (r : Fin 256) (j : Fin 1024), k0_pay42 (F := Ideal) x0 x1 x2 x3 x4 x5 x6 x7 x8 x9 x10 (ix2 r j) = _ := pay42_at x0 x1 x2 x3 x4 x5 x6 x7 x8 x9 x10
  have hp : ∀ (r : Fin 256) (l : Fin 128), k0_pay50 (F := Ideal) x0 x1 x2 x3 x4 x5 x6 x7 x8 x9 x10 (ix2 r l) = _ := pay50_at x0 x1 x2 x3 x4 x5 x6 x7 x8 x9 x10
  have e : keyOf (rowK (fun k => x0 (ix2 r k)) (fun k => x4 (ix2 0 k)) (fun k j => x6 (ix2 k j))) (fun d => x9 (ix2 0 d))
      (keyTurn (keyed (fun l => x0 (ix2 r (latR l))) (fun l => x10 (ix2 0 l))) (fun l => x1 (ix2 r (half l))) (fun l => x2 (ix2 r (half l)))) h j
      = keyOf (fun j => k0_pay42 (F := Ideal) x0 x1 x2 x3 x4 x5 x6 x7 x8 x9 x10 (ix2 r j)) (fun d => x9 (ix2 0 d)) (fun l => k0_pay50 (F := Ideal) x0 x1 x2 x3 x4 x5 x6 x7 x8 x9 x10 (ix2 r l)) h j := by
    simp only [hq, hp]
  rw [e, key0, key1, key2, key3]
  generalize k0_pay42 (F := Ideal) x0 x1 x2 x3 x4 x5 x6 x7 x8 x9 x10 = q
  generalize k0_pay50 (F := Ideal) x0 x1 x2 x3 x4 x5 x6 x7 x8 x9 x10 = p
  refine View.canon_apply_of_pieces (Val := Elt Ideal) (fun y : S4x256x256.Idx => (fun (h : Fin 4) (r j : Fin 256) => keyOf (fun j => q (ix2 r j)) (fun d => x9 (ix2 0 d))
      (fun l => p (ix2 r l)) h j) (y 0) (y 1) (y 2)) _ ?_ (ix3 h r j) (cover0_12 _ _ _ _ _)
  intro pc hpc
  let f : Fin 4 → Fin 256 → Fin 256 → EReal := fun h r j => keyOf (fun j => q (ix2 r j)) (fun d => x9 (ix2 0 d)) (fun l => p (ix2 r l)) h j
  rcases List.mem_cons.mp hpc with rfl | hpc
  · exact fun x => (congrArg _ (piece_idx x)).trans ((key_at x9 3 q p slices_S256x1024_o0_384_S256x128 (x 0) (x 1) (x 2)).trans (emb_at f 3 inb_S4x256x256_S1x256x256_3_0_0 x).symm)
  rcases List.mem_cons.mp hpc with rfl | hpc
  · exact fun x => (congrArg _ (piece_idx x)).trans ((key_at x9 2 q p slices_S256x1024_o0_256_S256x128 (x 0) (x 1) (x 2)).trans (emb_at f 2 inb_S4x256x256_S1x256x256_2_0_0 x).symm)
  rcases List.mem_cons.mp hpc with rfl | hpc
  · exact fun x => (congrArg _ (piece_idx x)).trans ((key_at x9 1 q p slices_S256x1024_o0_128_S256x128 (x 0) (x 1) (x 2)).trans (emb_at f 1 inb_S4x256x256_S1x256x256_1_0_0 x).symm)
  rcases List.mem_cons.mp hpc with rfl | hpc
  · exact fun x => (congrArg _ (piece_idx x)).trans ((key_at x9 0 q p slices_S256x1024_o0_0_S256x128 (x 0) (x 1) (x 2)).trans (emb_at f 0 inb_S4x256x256_S1x256x256_0_0_0 x).symm)
  nomatch hpc

/-- One head's values. -/
def valPiece (v : FVec Ideal S256x128 .f32) : FVec Ideal S1x256x128 .bf16 :=
  shapeCast S1x256x128 (truncf .bf16 v bitsLt_bf16_f32) shapeCasts_S256x128_S1x256x128

theorem valPiece_at (v : FVec Ideal S256x128 .f32) (z : Fin 1) (r : Fin 256) (j : Fin 128) : valPiece v (ix3 z r j) = v (ix2 r j) := by
  pointwise [valPiece]

theorem val_at (h : Fin 4) (q : FVec Ideal S256x1024 .f32) (hs : S256x1024.Slices ![0, 512 + h.val * 128] S256x128) (z : Fin 1) (r : Fin 256) (j : Fin 128) :
    valPiece (extractStridedSlice S256x128 ![0, 512 + h.val * 128] q hs) (ix3 z r j) = q (ix2 r (valCol h j)) :=
  (valPiece_at _ _ _ _).trans (sliceV _ _ _ _ _)

theorem out13_at (h : Fin 4) (r : Fin 256) (j : Fin 128) : out0_13 (F := Ideal) x0 x1 x2 x3 x4 x5 x6 x7 x8 x9 x10 (ix3 h r j)
    = rowK (fun k => x0 (ix2 r k)) (fun k => x4 (ix2 0 k)) (fun k j => x6 (ix2 k j)) (valCol h j) := by
  unfold out0_13
  rw [← pay42_at x0 x1 x2 x3 x4 x5 x6 x7 x8 x9 x10]
  generalize k0_pay42 (F := Ideal) x0 x1 x2 x3 x4 x5 x6 x7 x8 x9 x10 = q
  refine View.canon_apply_of_pieces (Val := Elt Ideal) (fun y : S4x256x128.Idx => (fun (h : Fin 4) (r : Fin 256) (j : Fin 128) => q (ix2 r (valCol h j))) (y 0) (y 1) (y 2)) _ ?_ (ix3 h r j) (cover0_13 _ _ _ _ _)
  intro pc hpc
  let f : Fin 4 → Fin 256 → Fin 128 → EReal := fun h r j => q (ix2 r (valCol h j))
  rcases List.mem_cons.mp hpc with rfl | hpc
  · exact fun x => (congrArg _ (piece_idx x)).trans ((val_at 3 q slices_S256x1024_o0_896_S256x128 (x 0) (x 1) (x 2)).trans (emb_at f 3 inb_S4x256x128_S1x256x128_3_0_0 x).symm)
  rcases List.mem_cons.mp hpc with rfl | hpc
  · exact fun x => (congrArg _ (piece_idx x)).trans ((val_at 2 q slices_S256x1024_o0_768_S256x128 (x 0) (x 1) (x 2)).trans (emb_at f 2 inb_S4x256x128_S1x256x128_2_0_0 x).symm)
  rcases List.mem_cons.mp hpc with rfl | hpc
  · exact fun x => (congrArg _ (piece_idx x)).trans ((val_at 1 q slices_S256x1024_o0_640_S256x128 (x 0) (x 1) (x 2)).trans (emb_at f 1 inb_S4x256x128_S1x256x128_1_0_0 x).symm)
  rcases List.mem_cons.mp hpc with rfl | hpc
  · exact fun x => (congrArg _ (piece_idx x)).trans ((val_at 0 q slices_S256x1024_o0_512_S256x128 (x 0) (x 1) (x 2)).trans (emb_at f 0 inb_S4x256x128_S1x256x128_0_0_0 x).symm)
  nomatch hpc

end

end Cert.Kernel6Ideal.Latent
end
-- ==== Proof.LatentArray.lean ====
module

public import proofs.«01_k».proof.Proof.LatentOut

/-! # The latent projections: the kernel's arrays

The 64 grid points' blocks put together: the queries, keys and values of the four heads. -/

@[expose] public section

set_option maxRecDepth 16384

noncomputable section

namespace Cert.Kernel6Ideal.Latent

open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The blocks of a grid point. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, t.val, 0] ∧ win0_12.index t = ![0, t.val, 0] ∧ win0_13.index t = ![0, t.val, 0] := by decide +kernel

/-- The latents' rows as launched. -/
abbrev PC : FVec Ideal S16384x896 .f32 := m ((c.tc : Thread nD τ).loc main_arg0)
/-- The angles' cosines. -/
abbrev C : FVec Ideal S16384x32 .f32 := m ((c.tc : Thread nD τ).loc main_arg1)
/-- The angles' sines. -/
abbrev S : FVec Ideal S16384x32 .f32 := m ((c.tc : Thread nD τ).loc main_arg2)
/-- The gains of the queries' latent. -/
abbrev QA : FVec Ideal S512 .f32 := m ((c.tc : Thread nD τ).loc main_arg3)
/-- The gains of the keys' latent. -/
abbrev KA : FVec Ideal S256 .f32 := m ((c.tc : Thread nD τ).loc main_arg4)
/-- The queries' weight. -/
abbrev WQ : FVec Ideal S512x768 .bf16 := m ((c.tc : Thread nD τ).loc main_arg5)
/-- The keys' and values' weight. -/
abbrev WK : FVec Ideal S256x1024 .bf16 := m ((c.tc : Thread nD τ).loc main_arg6)
/-- The gains of the queries without position. -/
abbrev QN : FVec Ideal S128 .f32 := m ((c.tc : Thread nD τ).loc main_arg7)
/-- The gains of the positional queries. -/
abbrev QR : FVec Ideal S64 .f32 := m ((c.tc : Thread nD τ).loc main_arg8)
/-- The gains of the keys without position. -/
abbrev KN : FVec Ideal S128 .f32 := m ((c.tc : Thread nD τ).loc main_arg9)
/-- The gains of the positional key. -/
abbrev KR : FVec Ideal S64 .f32 := m ((c.tc : Thread nD τ).loc main_arg10)

/-- There are 64 grid points. -/
theorem point_lt (t : Fin grid0.N) : t.val < 64 := t.isLt

/-- Row `r` of point `t`. -/
def row (t : Fin grid0.N) (r : Fin 256) : Fin 16384 := ⟨256 * t.val + r.val, by have := point_lt t; omega⟩

theorem pc_at (t : Fin grid0.N) (r : Fin 256) (k : Fin 896) : iblk m c 0 t (ix2 r k) = PC m c (ix2 (row t r) k) := by
  unfold row
  blk_ext [iblk, V_main_arg0, idx t]

theorem cos_at (t : Fin grid0.N) (r l : Fin 256) : iblk m c 1 t (ix2 r l) = C m c (ix2 (row t r) ⟨l.val % 32, by omega⟩) := by
  unfold row
  blk_ext! [iblk, V, idx t]

theorem sin_at (t : Fin grid0.N) (r l : Fin 256) : iblk m c 2 t (ix2 r l) = S m c (ix2 (row t r) ⟨l.val % 32, by omega⟩) := by
  unfold row
  blk_ext! [iblk, V, idx t]

theorem qa_at (t : Fin grid0.N) (k : Fin 512) : iblk m c 3 t (ix2 0 k) = QA m c (ix1 k) := by
  blk_ext! [iblk, V, idx t]

theorem ka_at (t : Fin grid0.N) (k : Fin 256) : iblk m c 4 t (ix2 0 k) = KA m c (ix1 k) := by
  blk_ext! [iblk, V, idx t]

theorem wq_at (t : Fin grid0.N) (k : Fin 512) (n : Fin 768) : iblk m c 5 t (ix2 k n) = WQ m c (ix2 k n) := by
  blk_ext [iblk, V_main_arg5, idx t]

theorem wk_at (t : Fin grid0.N) (k : Fin 256) (n : Fin 1024) : iblk m c 6 t (ix2 k n) = WK m c (ix2 k n) := by
  blk_ext [iblk, V_main_arg6, idx t]

theorem qn_at (t : Fin grid0.N) (k : Fin 128) : iblk m c 7 t (ix2 0 k) = QN m c (ix1 k) := by
  blk_ext! [iblk, V, idx t]

theorem qr_at (t : Fin grid0.N) (l : Fin 256) : iblk m c 8 t (ix2 0 l) = QR m c (ix1 ⟨l.val % 64, by omega⟩) := by
  blk_ext! [iblk, V, idx t]

theorem kn_at (t : Fin grid0.N) (k : Fin 128) : iblk m c 9 t (ix2 0 k) = KN m c (ix1 k) := by
  blk_ext! [iblk, V, idx t]

/-- The gains of the positional key with zeros behind them. -/
def padded (g : Fin 64 → EReal) (l : Fin 128) : EReal := if h : l.val < 64 then g ⟨l.val, h⟩ else 0

theorem padded_of (g : Fin 64 → EReal) (l l' : Fin 128) (e : l'.val = l.val) : (if h : l'.val < 64 then g ⟨l'.val, h⟩ else 0) = padded g l := by
  have el : l' = l := Fin.ext e
  rw [el, padded]

theorem kr_at (t : Fin grid0.N) (l : Fin 128) : iblk m c 10 t (ix2 0 l) = padded (fun d => KR m c (ix1 d)) l := by
  blk_simp [iblk, idx t]
  entry_read
  pointwise
  refine padded_of (fun d => KR m c (ix1 d)) l _ ?_
  blk_simp [idx t]

theorem cos_lane (t : Fin grid0.N) (r : Fin 256) (h : Fin 4) (d : Fin 64) :
    iblk m c 1 t (ix2 r (lane h d)) = C m c (ix2 (row t r) ⟨d.val % 32, by omega⟩) :=
  (cos_at m c t r _).trans (congrArg (fun l => C m c (ix2 (row t r) l)) (Fin.ext (by simp only [lane]; omega)))

theorem sin_lane (t : Fin grid0.N) (r : Fin 256) (h : Fin 4) (d : Fin 64) :
    iblk m c 2 t (ix2 r (lane h d)) = S m c (ix2 (row t r) ⟨d.val % 32, by omega⟩) :=
  (sin_at m c t r _).trans (congrArg (fun l => S m c (ix2 (row t r) l)) (Fin.ext (by simp only [lane]; omega)))

theorem qr_lane (t : Fin grid0.N) (h : Fin 4) (d : Fin 64) : iblk m c 8 t (ix2 0 (lane h d)) = QR m c (ix1 d) :=
  (qr_at m c t _).trans (congrArg (fun l => QR m c (ix1 l)) (Fin.ext (by simp only [lane]; omega)))

theorem cos_half (t : Fin grid0.N) (r : Fin 256) (l : Fin 128) : iblk m c 1 t (ix2 r (half l)) = C m c (ix2 (row t r) ⟨l.val % 32, by omega⟩) :=
  cos_at m c t r _

theorem sin_half (t : Fin grid0.N) (r : Fin 256) (l : Fin 128) : iblk m c 2 t (ix2 r (half l)) = S m c (ix2 (row t r) ⟨l.val % 32, by omega⟩) :=
  sin_at m c t r _

/-- Lane `j` of head `h`'s query in row `s`. -/
def queryAt (h : Fin 4) (s : Fin 16384) (j : Fin 256) : EReal :=
  queryOf (rowQ (fun k => PC m c (ix2 s k)) (fun k => QA m c (ix1 k)) (fun k j => WQ m c (ix2 k j))) (fun d => QN m c (ix1 d)) (fun d => QR m c (ix1 d))
    (fun d => C m c (ix2 s ⟨d.val % 32, by omega⟩)) (fun d => S m c (ix2 s ⟨d.val % 32, by omega⟩)) h j

/-- Lane `j` of head `h`'s key in row `s`. -/
def keyAt (h : Fin 4) (s : Fin 16384) (j : Fin 256) : EReal :=
  keyOf (rowK (fun k => PC m c (ix2 s k)) (fun k => KA m c (ix1 k)) (fun k j => WK m c (ix2 k j))) (fun d => KN m c (ix1 d))
    (keyTurn (keyed (fun l => PC m c (ix2 s (latR l))) (padded fun d => KR m c (ix1 d)))
      (fun l => C m c (ix2 s ⟨l.val % 32, by omega⟩)) (fun l => S m c (ix2 s ⟨l.val % 32, by omega⟩))) h j

/-- Lane `j` of head `h`'s value in row `s`. -/
def valueAt (h : Fin 4) (s : Fin 16384) (j : Fin 128) : EReal :=
  rowK (fun k => PC m c (ix2 s k)) (fun k => KA m c (ix1 k)) (fun k j => WK m c (ix2 k j)) (valCol h j)

/-- The queries' array. -/
def arrayQ (i : S4x16384x256.Idx) : EReal := queryAt m c (i 0) (i 1) (i 2)
/-- The keys' array. -/
def arrayK (i : S4x16384x256.Idx) : EReal := keyAt m c (i 0) (i 1) (i 2)
/-- The values' array. -/
def arrayV (i : S4x16384x128.Idx) : EReal := valueAt m c (i 0) (i 1) (i 2)

/-- A function of three coordinates at an index given by its coordinates. -/
theorem coords {a b d : ℕ} (f : Fin a → Fin b → Fin d → EReal) (i : (⟨3, ![a, b, d]⟩ : Shape).Idx) (h : Fin a) (s : Fin b) (j : Fin d)
    (h0 : (i 0).val = h.val) (h1 : (i 1).val = s.val) (h2 : (i 2).val = j.val) : f h s j = f (i 0) (i 1) (i 2) := by
  have e0 : i 0 = h := Fin.ext h0
  have e1 : i 1 = s := Fin.ext h1
  have e2 : i 2 = j := Fin.ext h2
  rw [e0, e1, e2]

/-- The kernel's queries. -/
theorem final11 : (dats m 0 c).arrAt 11 cfg0.N = arrayQ m c := by
  refine (dats m 0 c).arrAt_eq_of_covers 11 _ (by decide +kernel) fun t hf y => ?_
  blk_simp
  rw [after0_11]
  have hy0 : (y 0).val < 4 := (y 0).isLt
  have hy1 : (y 1).val < 256 := (y 1).isLt
  have hy2 : (y 2).val < 256 := (y 2).isLt
  have ey : y = ix3 (⟨(y 0).val, hy0⟩ : Fin 4) (⟨(y 1).val, hy1⟩ : Fin 256) (⟨(y 2).val, hy2⟩ : Fin 256) := by funext a; fin_cases a <;> rfl
  refine (congrArg _ ey).trans ((out11_at _ _ _ _ _ _ _ _ _ _ _ _ _ _).trans ?_)
  simp only [pc_at, qa_at, wq_at, qn_at, qr_lane, cos_lane, sin_lane]
  refine coords (queryAt m c) _ _ (row t ⟨(y 1).val, hy1⟩) _ ?_ ?_ ?_
  · blk_simp [idx t]
  · unfold row; blk_simp [idx t]; simp; omega
  · blk_simp [idx t]

/-- The kernel's keys. -/
theorem final12 : (dats m 0 c).arrAt 12 cfg0.N = arrayK m c := by
  refine (dats m 0 c).arrAt_eq_of_covers 12 _ (by decide +kernel) fun t hf y => ?_
  blk_simp
  rw [after0_12]
  have hy0 : (y 0).val < 4 := (y 0).isLt
  have hy1 : (y 1).val < 256 := (y 1).isLt
  have hy2 : (y 2).val < 256 := (y 2).isLt
  have ey : y = ix3 (⟨(y 0).val, hy0⟩ : Fin 4) (⟨(y 1).val, hy1⟩ : Fin 256) (⟨(y 2).val, hy2⟩ : Fin 256) := by funext a; fin_cases a <;> rfl
  refine (congrArg _ ey).trans ((out12_at _ _ _ _ _ _ _ _ _ _ _ _ _ _).trans ?_)
  simp only [pc_at, ka_at, wk_at, kn_at, kr_at, cos_half, sin_half]
  refine coords (keyAt m c) _ _ (row t ⟨(y 1).val, hy1⟩) _ ?_ ?_ ?_
  · blk_simp [idx t]
  · unfold row; blk_simp [idx t]; simp; omega
  · blk_simp [idx t]

/-- The kernel's values. -/
theorem final13 : (dats m 0 c).arrAt 13 cfg0.N = arrayV m c := by
  refine (dats m 0 c).arrAt_eq_of_covers 13 _ (by decide +kernel) fun t hf y => ?_
  blk_simp
  rw [after0_13]
  have hy0 : (y 0).val < 4 := (y 0).isLt
  have hy1 : (y 1).val < 256 := (y 1).isLt
  have hy2 : (y 2).val < 128 := (y 2).isLt
  have ey : y = ix3 (⟨(y 0).val, hy0⟩ : Fin 4) (⟨(y 1).val, hy1⟩ : Fin 256) (⟨(y 2).val, hy2⟩ : Fin 128) := by funext a; fin_cases a <;> rfl
  refine (congrArg _ ey).trans ((out13_at _ _ _ _ _ _ _ _ _ _ _ _ _ _).trans ?_)
  simp only [pc_at, ka_at, wk_at]
  refine coords (valueAt m c) _ _ (row t ⟨(y 1).val, hy1⟩) _ ?_ ?_ ?_
  · blk_simp [idx t]
  · unfold row; blk_simp [idx t]; simp; omega
  · blk_simp [idx t]

end Cert.Kernel6Ideal.Latent
end
-- ==== Proof.LatentRef.lean ====
module

public import proofs.«01_k».proof.Pre_padding_zero
public import proofs.«01_k».proof.Proof.Gen.Reference6Ideal.Run
public import proofs.«01_k».proof.Proof.LatentArray
public import proofs.«01_k».proof.Proof.Attn
public import proofs.«01_k».proof.Proof.NormRef
public import Idealize.ShloMosaic.Lib.ReduceAll

/-! # The latent projections: the reference

All heads at once: the latents normalised and multiplied, the products split into heads, the heads normalised, the
positional parts turned by the angles, and the parts joined. -/

@[expose] public section

set_option maxRecDepth 16384

noncomputable section

namespace Cert.Pre_padding_zero

open Idealize.ShloMosaic

/-- The precondition's shape relations hold. -/
instance facts : Facts where
  slices_S16384x896_S16384x64_0_832 := by decide
  bcast_S_S16384x64 := by decide
  reducesTo_S16384x64_S_d0_1 := by decide
  h_S_ := by decide

/-- Under the precondition the last 64 columns are zero. -/
theorem zero (pc : FVec Ideal S16384x896 .f32) (x1 x2 : FVec Ideal S16384x32 .f32) (x3 : FVec Ideal S512 .f32) (x4 : FVec Ideal S256 .f32)
    (x5 : FVec Ideal S512x768 .bf16) (x6 : FVec Ideal S256x1024 .bf16) (x7 : FVec Ideal S128 .f32) (x8 : FVec Ideal S64 .f32)
    (x9 : FVec Ideal S128 .f32) (x10 : FVec Ideal S64 .f32) (h : fn (F := Ideal) pc x1 x2 x3 x4 x5 x6 x7 x8 x9 x10 = fun _ => 1#1)
    (s : Fin 16384) (d : Fin 64) : pc (ix2 s (⟨832 + d.val, by omega⟩ : Fin 896)) = 0 := by
  have e := Host.reduce_andi_all _ _ _ _ _ (congrFun h ix0) (ix2 s d)
  have e' : FloatOps.cmpf (F := Ideal) (φ := .f32) .oeq (extractStridedSlice S16384x64 ![0, 832] pc Facts.slices_S16384x896_S16384x64_0_832 (ix2 s d)) (FloatOps.ofBits .f32 0x00000000#32) = 1#1 := e
  have ex : extractStridedSlice S16384x64 ![0, 832] pc Facts.slices_S16384x896_S16384x64_0_832 (ix2 s d) = pc (ix2 s (⟨832 + d.val, by omega⟩ : Fin 896)) := by
    pointwise
  rw [ex, Ideal.cmpf_def, Ideal.ofBits_def, Ideal.ofBits_zero_f32] at e'
  generalize pc (ix2 s (⟨832 + d.val, by omega⟩ : Fin 896)) = a at e' ⊢
  by_contra hn
  simp [Ideal.cmp, hn] at e'

end Cert.Pre_padding_zero

namespace Cert.Latent

open Idealize.ShloMosaic
open Cert.Kernel5Ideal.Memory (normed)
open Cert.Kernel6Ideal.Latent (keyed keyTurn turn padded factor)

/-- The word of 192. -/
theorem widthBits : Ideal.ofBits .f32 0x43400000#32 = ((192 : ℝ) : EReal) := by
  simp [Ideal.ofBits, Ideal.ieee]
  rw [← EReal.coe_mul]
  norm_num

/-- Taking a product away is adding the negated factor's product. -/
theorem sub_eq (a b s : EReal) : a - b * s = a + (0 - b) * s := by
  rw [sub_eq_add_neg, zero_sub, EReal.neg_mul]

variable (x : Fin 128 → EReal) (g : Fin 64 → EReal) (c s : Fin 32 → EReal)

/-- With zeros in the upper lanes the squares' sum is the lower lanes'. -/
theorem sum_low (hx : ∀ d : Fin 64, x ⟨64 + d.val, by omega⟩ = 0) : ∑ k, x k * x k = ∑ d : Fin 64, x ⟨d.val, by omega⟩ * x ⟨d.val, by omega⟩ := by
  have e := Fin.sum_univ_add (a := 64) (b := 64) fun k : Fin (64 + 64) => x k * x k
  have z : ∑ i : Fin 64, x (Fin.natAdd 64 i) * x (Fin.natAdd 64 i) = 0 :=
    Finset.sum_eq_zero fun i _ => by rw [show x (Fin.natAdd 64 i) = 0 from hx i, zero_mul]
  rw [z, add_zero] at e
  exact e

/-- The lower lanes are the 64 lanes' normalised row. -/
theorem keyed_low (hx : ∀ d : Fin 64, x ⟨64 + d.val, by omega⟩ = 0) (d : Fin 64) (l : Fin 128) (hl : l.val = d.val) :
    keyed x (padded g) l = normed 0x42800000#32 (fun d : Fin 64 => x ⟨d.val, by omega⟩) g d := by
  have el : l = ⟨d.val, d.isLt.trans (by decide)⟩ := Fin.ext hl
  subst el
  unfold keyed normed padded
  rw [sum_low x hx, dif_pos d.isLt]

/-- The upper lanes are zero. -/
theorem keyed_high (hx : ∀ d : Fin 64, x ⟨64 + d.val, by omega⟩ = 0) (l : Fin 128) (hl : 64 ≤ l.val) : keyed x (padded g) l = 0 := by
  have e : x l = 0 := by
    have := hx ⟨l.val - 64, by omega⟩
    rwa [show (⟨64 + (l.val - 64), by omega⟩ : Fin 128) = l from Fin.ext (by simp only; omega)] at this
  unfold keyed
  rw [e, zero_mul, zero_mul]

/-- The turned key over 128 lanes is the turned key over 64 lanes, with zeros behind it. -/
theorem key_pad (hx : ∀ d : Fin 64, x ⟨64 + d.val, by omega⟩ = 0) (l : Fin 128) :
    keyTurn (keyed x (padded g)) (fun l => c ⟨l.val % 32, by omega⟩) (fun l => s ⟨l.val % 32, by omega⟩) l
      = if h : l.val < 64 then turn (normed 0x42800000#32 (fun d : Fin 64 => x ⟨d.val, by omega⟩) g)
          (fun d => c ⟨d.val % 32, by omega⟩) (fun d => s ⟨d.val % 32, by omega⟩) ⟨l.val, h⟩ else 0 := by
  have hl : l.val < 128 := l.isLt
  unfold keyTurn
  by_cases h : l.val < 64
  · rw [dif_pos h]
    unfold turn
    rw [keyed_low x g hx ⟨l.val, h⟩ l rfl]
    by_cases h' : l.val < 32
    · rw [if_pos (by omega), dif_pos h', keyed_low x g hx ⟨l.val + 32, by omega⟩ _ (by simp only; omega)]
    · rw [if_neg (by omega), dif_neg h', keyed_low x g hx ⟨l.val - 32, by omega⟩ _ (by simp only; omega)]
  · rw [dif_neg h, keyed_high x g hx l (by omega)]
    by_cases h' : l.val % 64 < 32
    · rw [if_pos h', keyed_high x g hx _ (by simp only; omega)]
      simp
    · rw [if_neg h', keyed_high x g hx _ (by simp only; omega)]
      simp

end Cert.Latent

namespace Cert.Reference6Ideal.Latent

open Cert.Reference6Ideal Cert.Reference6Ideal.Gen Idealize.ShloMosaic Idealize.ShloMosaic.TcCoe Idealize.SL.Sem
open Cert.Kernel5Ideal.Memory (normed)
open Cert.Kernel6Ideal.Latent (factor turn plainQ turnedQ plainK valCol latQ latK latR rowQ rowK queryOf keyOf)
open Cert.ReferenceIdeal.Attn (add_last)

/-- The sums of the queries' latent's squares. -/
def squaresA (x : FVec Ideal S16384x512 .f32) : FVec Ideal S16384 .f32 :=
  Host.reduceAdd (mulf x x) (constant S_ .f32 0x00000000#32) reducesTo_S16384x512_S16384_d1 h_S_

/-- The queries' latent normalised, from its sums of squares. -/
def normedA (x : FVec Ideal S16384x512 .f32) (g : FVec Ideal S512 .f32) (q : FVec Ideal S16384 .f32) : FVec Ideal S16384x512 .f32 :=
  mulf (mulf x (broadcastInDim S16384x512 ![0, 1] bcast_S16384x1_S16384x512_0_1 (Host.rsqrt (addf (Host.divf (broadcastInDim S16384x1 ![0] bcast_S16384_S16384x1_0 q) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 g))

theorem normedA_at (x : FVec Ideal S16384x512 .f32) (g : FVec Ideal S512 .f32) (s : Fin 16384) (d : Fin 512) :
    normedA x g (squaresA x) (ix2 s d) = normed 0x44000000#32 (fun d => x (ix2 s d)) (fun d => g (ix1 d)) d := by
  have e : squaresA x (ix1 s) = ∑ k : Fin 512, x (ix2 s k) * x (ix2 s k) := by
    unfold squaresA
    rw [Cert.Reference2Ideal.Proj.add_last 16384 512, Ideal.ofBits_zero_f32, zero_add]
    rfl
  unfold normed
  rw [← e]
  generalize squaresA x = q
  pointwise [normedA]

/-- The sums of the keys' latent's squares. -/
def squaresB (x : FVec Ideal S16384x256 .f32) : FVec Ideal S16384 .f32 :=
  Host.reduceAdd (mulf x x) (constant S_ .f32 0x00000000#32) reducesTo_S16384x256_S16384_d1 h_S_

/-- The keys' latent normalised, from its sums of squares. -/
def normedB (x : FVec Ideal S16384x256 .f32) (g : FVec Ideal S256 .f32) (q : FVec Ideal S16384 .f32) : FVec Ideal S16384x256 .f32 :=
  mulf (mulf x (broadcastInDim S16384x256 ![0, 1] bcast_S16384x1_S16384x256_0_1 (Host.rsqrt (addf (Host.divf (broadcastInDim S16384x1 ![0] bcast_S16384_S16384x1_0 q) (broadcastInDim S16384x1 ![] bcast_S_S16384x1 (constant S_ .f32 0x43800000#32))) (broadcastInDim S16384x1 ![] bcast_S_S16384x1 (constant S_ .f32 0x358637BD#32)))))) (broadcastInDim S16384x256 ![0, 1] bcast_S1x256_S16384x256_0_1 (broadcastInDim S1x256 ![1] bcast_S256_S1x256_1 g))

theorem normedB_at (x : FVec Ideal S16384x256 .f32) (g : FVec Ideal S256 .f32) (s : Fin 16384) (d : Fin 256) :
    normedB x g (squaresB x) (ix2 s d) = normed 0x43800000#32 (fun d => x (ix2 s d)) (fun d => g (ix1 d)) d := by
  have e : squaresB x (ix1 s) = ∑ k : Fin 256, x (ix2 s k) * x (ix2 s k) := by
    unfold squaresB
    rw [Cert.Reference2Ideal.Proj.add_last 16384 256, Ideal.ofBits_zero_f32, zero_add]
    rfl
  unfold normed
  rw [← e]
  generalize squaresB x = q
  pointwise [normedB]

/-- The sums of the positional key's squares. -/
def squaresR (x : FVec Ideal S16384x64 .f32) : FVec Ideal S16384 .f32 :=
  Host.reduceAdd (mulf x x) (constant S_ .f32 0x00000000#32) reducesTo_S16384x64_S16384_d1 h_S_

/-- The positional key normalised, from its sums of squares. -/
def normedR (x : FVec Ideal S16384x64 .f32) (g : FVec Ideal S64 .f32) (q : FVec Ideal S16384 .f32) : FVec Ideal S16384x64 .f32 :=
  mulf (mulf x (broadcastInDim S16384x64 ![0, 1] bcast_S16384x1_S16384x64_0_1 (Host.rsqrt (addf (Host.divf (broadcastInDim S16384x1 ![0] bcast_S16384_S16384x1_0 q) (broadcastInDim S16384x1 ![] bcast_S_S16384x1 (constant S_ .f32 0x42800000#32))) (broadcastInDim S16384x1 ![] bcast_S_S16384x1 (constant S_ .f32 0x358637BD#32)))))) (broadcastInDim S16384x64 ![0, 1] bcast_S1x64_S16384x64_0_1 (broadcastInDim S1x64 ![1] bcast_S64_S1x64_1 g))

theorem normedR_at (x : FVec Ideal S16384x64 .f32) (g : FVec Ideal S64 .f32) (s : Fin 16384) (d : Fin 64) :
    normedR x g (squaresR x) (ix2 s d) = normed 0x42800000#32 (fun d => x (ix2 s d)) (fun d => g (ix1 d)) d := by
  have e : squaresR x (ix1 s) = ∑ k : Fin 64, x (ix2 s k) * x (ix2 s k) := by
    unfold squaresR
    rw [Cert.Reference2Ideal.Proj.add_last 16384 64, Ideal.ofBits_zero_f32, zero_add]
    rfl
  unfold normed
  rw [← e]
  generalize squaresR x = q
  pointwise [normedR]

/-- The sums of the heads's squares. -/
def squaresN (x : FVec Ideal S16384x4x128 .f32) : FVec Ideal S16384x4 .f32 :=
  Host.reduceAdd (mulf x x) (constant S_ .f32 0x00000000#32) reducesTo_S16384x4x128_S16384x4_d2 h_S_

/-- The heads normalised, from their sums of squares. -/
def normedN (x : FVec Ideal S16384x4x128 .f32) (g : FVec Ideal S128 .f32) (q : FVec Ideal S16384x4 .f32) : FVec Ideal S16384x4x128 .f32 :=
  mulf (mulf x (broadcastInDim S16384x4x128 ![0, 1, 2] bcast_S16384x4x1_S16384x4x128_0_1_2 (Host.rsqrt (addf (Host.divf (broadcastInDim S16384x4x1 ![0, 1] bcast_S16384x4_S16384x4x1_0_1 q) (broadcastInDim S16384x4x1 ![] bcast_S_S16384x4x1 (constant S_ .f32 0x43000000#32))) (broadcastInDim S16384x4x1 ![] bcast_S_S16384x4x1 (constant S_ .f32 0x358637BD#32)))))) (broadcastInDim S16384x4x128 ![0, 1, 2] bcast_S1x1x128_S16384x4x128_0_1_2 (broadcastInDim S1x1x128 ![2] bcast_S128_S1x1x128_2 g))

theorem normedN_at (x : FVec Ideal S16384x4x128 .f32) (g : FVec Ideal S128 .f32) (s : Fin 16384) (h : Fin 4) (d : Fin 128) :
    normedN x g (squaresN x) (ix3 s h d) = normed 0x43000000#32 (fun d => x (ix3 s h d)) (fun d => g (ix1 d)) d := by
  have e : squaresN x (ix2 s h) = ∑ k : Fin 128, x (ix3 s h k) * x (ix3 s h k) := by
    unfold squaresN
    rw [add_last 16384 4 128, Ideal.ofBits_zero_f32, zero_add]
    rfl
  unfold normed
  rw [← e]
  generalize squaresN x = q
  pointwise [normedN]

/-- The sums of the positional heads's squares. -/
def squaresT (x : FVec Ideal S16384x4x64 .f32) : FVec Ideal S16384x4 .f32 :=
  Host.reduceAdd (mulf x x) (constant S_ .f32 0x00000000#32) reducesTo_S16384x4x64_S16384x4_d2 h_S_

/-- The positional heads normalised, from their sums of squares. -/
def normedT (x : FVec Ideal S16384x4x64 .f32) (g : FVec Ideal S64 .f32) (q : FVec Ideal S16384x4 .f32) : FVec Ideal S16384x4x64 .f32 :=
  mulf (mulf x (broadcastInDim S16384x4x64 ![0, 1, 2] bcast_S16384x4x1_S16384x4x64_0_1_2 (Host.rsqrt (addf (Host.divf (broadcastInDim S16384x4x1 ![0, 1] bcast_S16384x4_S16384x4x1_0_1 q) (broadcastInDim S16384x4x1 ![] bcast_S_S16384x4x1 (constant S_ .f32 0x42800000#32))) (broadcastInDim S16384x4x1 ![] bcast_S_S16384x4x1 (constant S_ .f32 0x358637BD#32)))))) (broadcastInDim S16384x4x64 ![0, 1, 2] bcast_S1x1x64_S16384x4x64_0_1_2 (broadcastInDim S1x1x64 ![2] bcast_S64_S1x1x64_2 g))

theorem normedT_at (x : FVec Ideal S16384x4x64 .f32) (g : FVec Ideal S64 .f32) (s : Fin 16384) (h : Fin 4) (d : Fin 64) :
    normedT x g (squaresT x) (ix3 s h d) = normed 0x42800000#32 (fun d => x (ix3 s h d)) (fun d => g (ix1 d)) d := by
  have e : squaresT x (ix2 s h) = ∑ k : Fin 64, x (ix3 s h k) * x (ix3 s h k) := by
    unfold squaresT
    rw [add_last 16384 4 64, Ideal.ofBits_zero_f32, zero_add]
    rfl
  unfold normed
  rw [← e]
  generalize squaresT x = q
  pointwise [normedT]

/-- The queries' latent. -/
def cutA (x : FVec Ideal S16384x896 .f32) : FVec Ideal S16384x512 .f32 :=
  extractStridedSlice S16384x512 ![0, 0] x slices_S16384x896_S16384x512_0_0

theorem cutA_at (x : FVec Ideal S16384x896 .f32) (s : Fin 16384) (k : Fin 512) : cutA x (ix2 s k) = x (ix2 s (latQ k)) := by
  pointwise [cutA, latQ, latK, latR]

/-- The keys' latent. -/
def cutB (x : FVec Ideal S16384x896 .f32) : FVec Ideal S16384x256 .f32 :=
  extractStridedSlice S16384x256 ![0, 512] x slices_S16384x896_S16384x256_0_512

theorem cutB_at (x : FVec Ideal S16384x896 .f32) (s : Fin 16384) (k : Fin 256) : cutB x (ix2 s k) = x (ix2 s (latK k)) := by
  pointwise [cutB, latQ, latK, latR]

/-- The positional key. -/
def cutR (x : FVec Ideal S16384x896 .f32) : FVec Ideal S16384x64 .f32 :=
  extractStridedSlice S16384x64 ![0, 768] x slices_S16384x896_S16384x64_0_768

theorem cutR_at (x : FVec Ideal S16384x896 .f32) (s : Fin 16384) (k : Fin 64) : cutR x (ix2 s k) = x (ix2 s (latR ⟨k.val, by omega⟩)) := by
  pointwise [cutR, latQ, latK, latR]

/-- The queries' heads. -/
def headsQ (x : FVec Ideal S16384x768 .f32) : FVec Ideal S16384x4x128 .f32 :=
  shapeCast S16384x4x128 (extractStridedSlice S16384x512 ![0, 0] x slices_S16384x768_S16384x512_0_0) shapeCasts_S16384x512_S16384x4x128

theorem headsQ_at (x : FVec Ideal S16384x768 .f32) (s : Fin 16384) (h : Fin 4) (d : Fin 128) : headsQ x (ix3 s h d) = x (ix2 s (plainQ h d)) := by
  pointwise [headsQ, plainQ]

/-- The positional queries' heads. -/
def headsT (x : FVec Ideal S16384x768 .f32) : FVec Ideal S16384x4x64 .f32 :=
  shapeCast S16384x4x64 (extractStridedSlice S16384x256 ![0, 512] x slices_S16384x768_S16384x256_0_512) shapeCasts_S16384x256_S16384x4x64

theorem headsT_at (x : FVec Ideal S16384x768 .f32) (s : Fin 16384) (h : Fin 4) (d : Fin 64) : headsT x (ix3 s h d) = x (ix2 s (turnedQ h d)) := by
  pointwise [headsT, turnedQ]
  simp only [add_assoc]

/-- The keys' heads. -/
def headsK (x : FVec Ideal S16384x1024 .f32) : FVec Ideal S16384x4x128 .f32 :=
  shapeCast S16384x4x128 (extractStridedSlice S16384x512 ![0, 0] x slices_S16384x1024_S16384x512_0_0) shapeCasts_S16384x512_S16384x4x128

theorem headsK_at (x : FVec Ideal S16384x1024 .f32) (s : Fin 16384) (h : Fin 4) (d : Fin 128) : headsK x (ix3 s h d) = x (ix2 s (plainK h d)) := by
  pointwise [headsK, plainK]

/-- The values' heads. -/
def headsV (x : FVec Ideal S16384x1024 .f32) : FVec Ideal S16384x4x128 .f32 :=
  shapeCast S16384x4x128 (extractStridedSlice S16384x512 ![0, 512] x slices_S16384x1024_S16384x512_0_512) shapeCasts_S16384x512_S16384x4x128

theorem headsV_at (x : FVec Ideal S16384x1024 .f32) (s : Fin 16384) (h : Fin 4) (d : Fin 128) : headsV x (ix3 s h d) = x (ix2 s (valCol h d)) := by
  pointwise [headsV, valCol]
  simp only [add_assoc]

/-- The projected queries. -/
def rowsQ (x : FVec Ideal S16384x896 .f32) (g : FVec Ideal S512 .f32) (w : FVec Ideal S512x768 .bf16) : FVec Ideal S16384x768 .f32 :=
  Host.dotGeneral dot_S16384x512_S512x768_S16384x768_1_0_0_1_n_n none (normedA (cutA x) g (squaresA (cutA x))) (extf .f32 w bitsLt_bf16_f32)

theorem rowsQ_at (x : FVec Ideal S16384x896 .f32) (g : FVec Ideal S512 .f32) (w : FVec Ideal S512x768 .bf16) (s : Fin 16384) (j : Fin 768) :
    rowsQ x g w (ix2 s j) = rowQ (fun k => x (ix2 s k)) (fun k => g (ix1 k)) (fun k j => w (ix2 k j)) j := by
  have h : ∀ y : FVec Ideal S16384x512 .f32, Host.dotGeneral (F := Ideal) dot_S16384x512_S512x768_S16384x768_1_0_0_1_n_n none y (extf .f32 w bitsLt_bf16_f32) (ix2 s j)
      = ∑ k : Fin 512, y (ix2 s k) * w (ix2 k j) := fun y => by pointwise
  unfold rowsQ rowQ
  rw [h]
  simp only [normedA_at, cutA_at]

/-- The projected keys and values. -/
def rowsK (x : FVec Ideal S16384x896 .f32) (g : FVec Ideal S256 .f32) (w : FVec Ideal S256x1024 .bf16) : FVec Ideal S16384x1024 .f32 :=
  Host.dotGeneral dot_S16384x256_S256x1024_S16384x1024_1_0_0_1_n_n none (normedB (cutB x) g (squaresB (cutB x))) (extf .f32 w bitsLt_bf16_f32)

theorem rowsK_at (x : FVec Ideal S16384x896 .f32) (g : FVec Ideal S256 .f32) (w : FVec Ideal S256x1024 .bf16) (s : Fin 16384) (j : Fin 1024) :
    rowsK x g w (ix2 s j) = rowK (fun k => x (ix2 s k)) (fun k => g (ix1 k)) (fun k j => w (ix2 k j)) j := by
  have h : ∀ y : FVec Ideal S16384x256 .f32, Host.dotGeneral (F := Ideal) dot_S16384x256_S256x1024_S16384x1024_1_0_0_1_n_n none y (extf .f32 w bitsLt_bf16_f32) (ix2 s j)
      = ∑ k : Fin 256, y (ix2 s k) * w (ix2 k j) := fun y => by pointwise
  unfold rowsK rowK
  rw [h]
  simp only [normedB_at, cutB_at]

/-- An array along the rows, for each head. -/
def wide (a : FVec Ideal S16384x32 .f32) : FVec Ideal S16384x4x32 .f32 :=
  broadcastInDim S16384x4x32 ![0, 1, 2] bcast_S16384x1x32_S16384x4x32_0_1_2 (broadcastInDim S16384x1x32 ![0, 2] bcast_S16384x32_S16384x1x32_0_2 a)

/-- The turned first halves of the positional heads. -/
def lowT (y : FVec Ideal S16384x4x64 .f32) (a b : FVec Ideal S16384x32 .f32) : FVec Ideal S16384x4x32 .f32 :=
  subf (mulf (extractStridedSlice S16384x4x32 ![0, 0, 0] y slices_S16384x4x64_S16384x4x32_0_0_0) (wide a)) (mulf (extractStridedSlice S16384x4x32 ![0, 0, 32] y slices_S16384x4x64_S16384x4x32_0_0_32) (wide b))

/-- The turned second halves of the positional heads. -/
def highT (y : FVec Ideal S16384x4x64 .f32) (a b : FVec Ideal S16384x32 .f32) : FVec Ideal S16384x4x32 .f32 :=
  addf (mulf (extractStridedSlice S16384x4x32 ![0, 0, 0] y slices_S16384x4x64_S16384x4x32_0_0_0) (wide b)) (mulf (extractStridedSlice S16384x4x32 ![0, 0, 32] y slices_S16384x4x64_S16384x4x32_0_0_32) (wide a))

theorem lowT_at (y : FVec Ideal S16384x4x64 .f32) (a b : FVec Ideal S16384x32 .f32) (s : Fin 16384) (h : Fin 4) (d : Fin 32) :
    lowT y a b (ix3 s h d) = y (ix3 s h ⟨d.val, by omega⟩) * a (ix2 s d) - y (ix3 s h ⟨32 + d.val, by omega⟩) * b (ix2 s d) := by
  pointwise [lowT, wide]

theorem highT_at (y : FVec Ideal S16384x4x64 .f32) (a b : FVec Ideal S16384x32 .f32) (s : Fin 16384) (h : Fin 4) (d : Fin 32) :
    highT y a b (ix3 s h d) = y (ix3 s h ⟨d.val, by omega⟩) * b (ix2 s d) + y (ix3 s h ⟨32 + d.val, by omega⟩) * a (ix2 s d) := by
  pointwise [highT, wide]

/-- Two halves joined. -/
def joinT (u v : FVec Ideal S16384x4x32 .f32) : FVec Ideal S16384x4x64 .f32 :=
  concatenate S16384x4x64 2 [⟨S16384x4x32, u⟩, ⟨S16384x4x32, v⟩] concatenates_S16384x4x32_S16384x4x32_S16384x4x64_d2

theorem joinT_at (u v : FVec Ideal S16384x4x32 .f32) (s : Fin 16384) (h : Fin 4) (d : Fin 64) :
    joinT u v (ix3 s h d) = if hd : d.val < 32 then u (ix3 s h ⟨d.val, hd⟩) else v (ix3 s h ⟨d.val - 32, by omega⟩) := by
  pointwise [joinT]

/-- The positional heads turned. -/
theorem turnedT_at (y : FVec Ideal S16384x4x64 .f32) (a b : FVec Ideal S16384x32 .f32) (s : Fin 16384) (h : Fin 4) (d : Fin 64) :
    joinT (lowT y a b) (highT y a b) (ix3 s h d)
      = turn (fun d => y (ix3 s h d)) (fun d => a (ix2 s ⟨d.val % 32, by omega⟩)) (fun d => b (ix2 s ⟨d.val % 32, by omega⟩)) d := by
  rw [joinT_at]
  unfold turn
  by_cases hd : d.val < 32
  · have e1 : (⟨d.val % 32, by omega⟩ : Fin 32) = ⟨d.val, hd⟩ := Fin.ext (by simp only; omega)
    have e2 : (⟨32 + d.val, by omega⟩ : Fin 64) = ⟨d.val + 32, by omega⟩ := Fin.ext (by simp only; omega)
    rw [dif_pos hd, dif_pos hd, lowT_at, Cert.Latent.sub_eq]
    simp only [e1, e2]
  · have e1 : (⟨d.val % 32, by omega⟩ : Fin 32) = ⟨d.val - 32, by omega⟩ := Fin.ext (by simp only; omega)
    have e2 : (⟨32 + (d.val - 32), by omega⟩ : Fin 64) = d := Fin.ext (by simp only; omega)
    rw [dif_neg hd, dif_neg hd, highT_at, add_comm]
    simp only [e1, e2]

/-- The turned first half of the positional key. -/
def lowR (y : FVec Ideal S16384x64 .f32) (a b : FVec Ideal S16384x32 .f32) : FVec Ideal S16384x32 .f32 :=
  subf (mulf (extractStridedSlice S16384x32 ![0, 0] y slices_S16384x64_S16384x32_0_0) a) (mulf (extractStridedSlice S16384x32 ![0, 32] y slices_S16384x64_S16384x32_0_32) b)

/-- The turned second half of the positional key. -/
def highR (y : FVec Ideal S16384x64 .f32) (a b : FVec Ideal S16384x32 .f32) : FVec Ideal S16384x32 .f32 :=
  addf (mulf (extractStridedSlice S16384x32 ![0, 0] y slices_S16384x64_S16384x32_0_0) b) (mulf (extractStridedSlice S16384x32 ![0, 32] y slices_S16384x64_S16384x32_0_32) a)

theorem lowR_at (y : FVec Ideal S16384x64 .f32) (a b : FVec Ideal S16384x32 .f32) (s : Fin 16384) (d : Fin 32) :
    lowR y a b (ix2 s d) = y (ix2 s ⟨d.val, by omega⟩) * a (ix2 s d) - y (ix2 s ⟨32 + d.val, by omega⟩) * b (ix2 s d) := by
  pointwise [lowR]

theorem highR_at (y : FVec Ideal S16384x64 .f32) (a b : FVec Ideal S16384x32 .f32) (s : Fin 16384) (d : Fin 32) :
    highR y a b (ix2 s d) = y (ix2 s ⟨d.val, by omega⟩) * b (ix2 s d) + y (ix2 s ⟨32 + d.val, by omega⟩) * a (ix2 s d) := by
  pointwise [highR]

/-- Two halves joined and spread over the heads. -/
def joinR (u v : FVec Ideal S16384x32 .f32) : FVec Ideal S16384x4x64 .f32 :=
  broadcastInDim S16384x4x64 ![0, 1, 2] bcast_S16384x1x64_S16384x4x64_0_1_2 (broadcastInDim S16384x1x64 ![0, 2] bcast_S16384x64_S16384x1x64_0_2 (concatenate S16384x64 1 [⟨S16384x32, u⟩, ⟨S16384x32, v⟩] concatenates_S16384x32_S16384x32_S16384x64_d1))

theorem joinR_at (u v : FVec Ideal S16384x32 .f32) (s : Fin 16384) (h : Fin 4) (d : Fin 64) :
    joinR u v (ix3 s h d) = if hd : d.val < 32 then u (ix2 s ⟨d.val, hd⟩) else v (ix2 s ⟨d.val - 32, by omega⟩) := by
  pointwise [joinR]

/-- The positional key turned. -/
theorem turnedR_at (y : FVec Ideal S16384x64 .f32) (a b : FVec Ideal S16384x32 .f32) (s : Fin 16384) (h : Fin 4) (d : Fin 64) :
    joinR (lowR y a b) (highR y a b) (ix3 s h d)
      = turn (fun d => y (ix2 s d)) (fun d => a (ix2 s ⟨d.val % 32, by omega⟩)) (fun d => b (ix2 s ⟨d.val % 32, by omega⟩)) d := by
  rw [joinR_at]
  unfold turn
  by_cases hd : d.val < 32
  · have e1 : (⟨d.val % 32, by omega⟩ : Fin 32) = ⟨d.val, hd⟩ := Fin.ext (by simp only; omega)
    have e2 : (⟨32 + d.val, by omega⟩ : Fin 64) = ⟨d.val + 32, by omega⟩ := Fin.ext (by simp only; omega)
    rw [dif_pos hd, dif_pos hd, lowR_at, Cert.Latent.sub_eq]
    simp only [e1, e2]
  · have e1 : (⟨d.val % 32, by omega⟩ : Fin 32) = ⟨d.val - 32, by omega⟩ := Fin.ext (by simp only; omega)
    have e2 : (⟨32 + (d.val - 32), by omega⟩ : Fin 64) = d := Fin.ext (by simp only; omega)
    rw [dif_neg hd, dif_neg hd, highR_at, add_comm]
    simp only [e1, e2]

/-- The padding. -/
def zeros : FVec Ideal S16384x4x64 .f32 := broadcastInDim S16384x4x64 ![] bcast_S_S16384x4x64 (constant S_ .f32 0x00000000#32)

theorem zeros_at (s : Fin 16384) (h : Fin 4) (d : Fin 64) : zeros (ix3 s h d) = 0 :=
  Ideal.ofBits_zero_f32

/-- Three parts joined. -/
def join (u : FVec Ideal S16384x4x128 .f32) (v w : FVec Ideal S16384x4x64 .f32) : FVec Ideal S16384x4x256 .f32 :=
  concatenate S16384x4x256 2 [⟨S16384x4x128, u⟩, ⟨S16384x4x64, v⟩, ⟨S16384x4x64, w⟩] concatenates_S16384x4x128_S16384x4x64_S16384x4x64_S16384x4x256_d2

theorem join_at (u : FVec Ideal S16384x4x128 .f32) (v w : FVec Ideal S16384x4x64 .f32) (s : Fin 16384) (h : Fin 4) (j : Fin 256) :
    join u v w (ix3 s h j) = if hj : j.val < 128 then u (ix3 s h ⟨j.val, hj⟩)
      else if hj' : j.val - 128 < 64 then v (ix3 s h ⟨j.val - 128, hj'⟩) else w (ix3 s h ⟨j.val - 128 - 64, by omega⟩) := by
  pointwise [join]

/-- The root that the reference takes is the scale. -/
theorem root_eq : Host.rsqrt (constant (F := Ideal) S_ .f32 0x43400000#32) = fun _ => factor := by
  funext i
  change Ideal.rsqrt (Ideal.ofBits .f32 0x43400000#32) = _
  rw [Cert.Latent.widthBits, Ideal.rsqrt_coe, if_neg (by norm_num), if_neg (by norm_num)]
  rfl

/-- The scaled queries, the heads first. -/
def outQ (x : FVec Ideal S16384x4x256 .f32) : FVec Ideal S4x16384x256 .bf16 :=
  truncf .bf16 (transpose S4x16384x256 [1, 0, 2] (mulf x (broadcastInDim S16384x4x256 ![] bcast_S_S16384x4x256 (Host.rsqrt (constant S_ .f32 0x43400000#32)))) transposes_S16384x4x256_S4x16384x256_1_0_2) bitsLt_bf16_f32

theorem outQ_at (x : FVec Ideal S16384x4x256 .f32) (h : Fin 4) (s : Fin 16384) (j : Fin 256) : outQ x (ix3 h s j) = x (ix3 s h j) * factor := by
  unfold outQ
  rw [root_eq]
  generalize factor = f
  pointwise

/-- The keys, the heads first. -/
def outK (x : FVec Ideal S16384x4x256 .f32) : FVec Ideal S4x16384x256 .bf16 :=
  truncf .bf16 (transpose S4x16384x256 [1, 0, 2] x transposes_S16384x4x256_S4x16384x256_1_0_2) bitsLt_bf16_f32

theorem outK_at (x : FVec Ideal S16384x4x256 .f32) (h : Fin 4) (s : Fin 16384) (j : Fin 256) : outK x (ix3 h s j) = x (ix3 s h j) := by
  pointwise [outK]

/-- The values, the heads first. -/
def outV (x : FVec Ideal S16384x4x128 .f32) : FVec Ideal S4x16384x128 .bf16 :=
  truncf .bf16 (transpose S4x16384x128 [1, 0, 2] x transposes_S16384x4x128_S4x16384x128_1_0_2) bitsLt_bf16_f32

theorem outV_at (x : FVec Ideal S16384x4x128 .f32) (h : Fin 4) (s : Fin 16384) (j : Fin 128) : outV x (ix3 h s j) = x (ix3 s h j) := by
  pointwise [outV]

section

variable (pc : FVec Ideal S16384x896 .f32) (a b : FVec Ideal S16384x32 .f32) (qa : FVec Ideal S512 .f32) (ka : FVec Ideal S256 .f32)
  (wq : FVec Ideal S512x768 .bf16) (wk : FVec Ideal S256x1024 .bf16) (qn : FVec Ideal S128 .f32) (qr : FVec Ideal S64 .f32)
  (kn : FVec Ideal S128 .f32) (kr : FVec Ideal S64 .f32)

/-- The positional queries before they are turned. -/
def bareT : FVec Ideal S16384x4x64 .f32 := normedT (headsT (rowsQ pc qa wq)) qr (squaresT (headsT (rowsQ pc qa wq)))

/-- The positional key before it is turned. -/
def bareR : FVec Ideal S16384x64 .f32 := normedR (cutR pc) kr (squaresR (cutR pc))

/-- The reference's queries. -/
def wholeQ : FVec Ideal S4x16384x256 .bf16 :=
  outQ (join (normedN (headsQ (rowsQ pc qa wq)) qn (squaresN (headsQ (rowsQ pc qa wq)))) (joinT (lowT (bareT pc qa wq qr) a b) (highT (bareT pc qa wq qr) a b)) zeros)

/-- The reference's keys. -/
def wholeK : FVec Ideal S4x16384x256 .bf16 :=
  outK (join (normedN (headsK (rowsK pc ka wk)) kn (squaresN (headsK (rowsK pc ka wk)))) (joinR (lowR (bareR pc kr) a b) (highR (bareR pc kr) a b)) zeros)

/-- The reference's values. -/
def wholeV : FVec Ideal S4x16384x128 .bf16 := outV (headsV (rowsK pc ka wk))

theorem wholeQ_at (h : Fin 4) (s : Fin 16384) (j : Fin 256) : wholeQ pc a b qa wq qn qr (ix3 h s j)
    = queryOf (rowQ (fun k => pc (ix2 s k)) (fun k => qa (ix1 k)) (fun k j => wq (ix2 k j))) (fun d => qn (ix1 d)) (fun d => qr (ix1 d))
      (fun d => a (ix2 s ⟨d.val % 32, by omega⟩)) (fun d => b (ix2 s ⟨d.val % 32, by omega⟩)) h j := by
  unfold wholeQ queryOf
  rw [outQ_at, join_at]
  by_cases hj : j.val < 128
  · rw [dif_pos hj, dif_pos hj, normedN_at]
    simp only [headsQ_at, rowsQ_at]
  · rw [dif_neg hj, dif_neg hj]
    by_cases hj' : j.val - 128 < 64
    · rw [dif_pos hj', dif_pos (show j.val < 192 by omega), turnedT_at]
      unfold bareT
      simp only [normedT_at, headsT_at, rowsQ_at]
    · rw [dif_neg hj', dif_neg (show ¬ j.val < 192 by omega), zeros_at, zero_mul]

theorem wholeK_at (hz : ∀ (s : Fin 16384) (d : Fin 64), pc (ix2 s (⟨832 + d.val, by omega⟩ : Fin 896)) = 0) (h : Fin 4) (s : Fin 16384) (j : Fin 256) :
    wholeK pc a b ka wk kn kr (ix3 h s j)
    = keyOf (rowK (fun k => pc (ix2 s k)) (fun k => ka (ix1 k)) (fun k j => wk (ix2 k j))) (fun d => kn (ix1 d))
      (Cert.Kernel6Ideal.Latent.keyTurn (Cert.Kernel6Ideal.Latent.keyed (fun l => pc (ix2 s (latR l))) (Cert.Kernel6Ideal.Latent.padded fun d => kr (ix1 d)))
        (fun l => a (ix2 s ⟨l.val % 32, by omega⟩)) (fun l => b (ix2 s ⟨l.val % 32, by omega⟩))) h j := by
  unfold wholeK keyOf
  rw [outK_at, join_at]
  by_cases hj : j.val < 128
  · rw [dif_pos hj, dif_pos hj, normedN_at]
    simp only [headsK_at, rowsK_at]
  · rw [dif_neg hj, dif_neg hj]
    have e := Cert.Latent.key_pad (fun l => pc (ix2 s (latR l))) (fun d => kr (ix1 d)) (fun d => a (ix2 s d)) (fun d => b (ix2 s d))
      (fun d => (congrArg (fun k => pc (ix2 s k)) (Fin.ext (by simp only [latR]; omega))).trans (hz s d)) ⟨j.val - 128, by omega⟩
    refine Eq.trans ?_ e.symm
    by_cases hj' : j.val - 128 < 64
    · rw [dif_pos hj', dif_pos hj', turnedR_at]
      unfold bareR
      simp only [normedR_at, cutR_at]
    · rw [dif_neg hj', dif_neg hj', zeros_at]

theorem wholeV_at (h : Fin 4) (s : Fin 16384) (j : Fin 128) : wholeV pc ka wk (ix3 h s j)
    = rowK (fun k => pc (ix2 s k)) (fun k => ka (ix1 k)) (fun k j => wk (ix2 k j)) (valCol h j) := by
  unfold wholeV
  rw [outV_at, headsV_at, rowsK_at]

end

open Cert.Kernel6Ideal.Latent (PC C S QA KA WQ WK QN QR KN KR arrayQ arrayK arrayV)

/-- An index of three coordinates. -/
theorem idx3 {a b d : ℕ} (i : (⟨3, ![a, b, d]⟩ : Shape).Idx) : i = ix3 (i 0) (i 1) (i 2) := by
  funext k
  fin_cases k <;> rfl

section

variable (m : (ℓ : Loc Cert.Kernel6Ideal.nD Cert.Kernel6Ideal.τ Cert.Kernel6Ideal.sig) → Buf (Elt Ideal) ℓ)
  (m' : (ℓ : Loc nD τ sig) → Buf (Elt Ideal) ℓ) (c : Dev nD)
  (h0 : m' ((c.tc : Thread nD τ).loc main_arg0) = PC m c) (h1 : m' ((c.tc : Thread nD τ).loc main_arg1) = C m c)
  (h2 : m' ((c.tc : Thread nD τ).loc main_arg2) = S m c) (h3 : m' ((c.tc : Thread nD τ).loc main_arg3) = QA m c)
  (h4 : m' ((c.tc : Thread nD τ).loc main_arg4) = KA m c) (h5 : m' ((c.tc : Thread nD τ).loc main_arg5) = WQ m c)
  (h6 : m' ((c.tc : Thread nD τ).loc main_arg6) = WK m c) (h7 : m' ((c.tc : Thread nD τ).loc main_arg7) = QN m c)
  (h8 : m' ((c.tc : Thread nD τ).loc main_arg8) = QR m c) (h9 : m' ((c.tc : Thread nD τ).loc main_arg9) = KN m c)
  (h10 : m' ((c.tc : Thread nD τ).loc main_arg10) = KR m c)

include h0 h1 h2 h3 h5 h7 h8 in
/-- The queries are equal, from equal arguments. -/
theorem queries_eq : Cert.Reference6Ideal.Value.res_out0 m' c = arrayQ m c := by
  have e : Cert.Reference6Ideal.Value.res_out0 m' c
      = wholeQ (m' ((c.tc : Thread nD τ).loc main_arg0)) (m' ((c.tc : Thread nD τ).loc main_arg1)) (m' ((c.tc : Thread nD τ).loc main_arg2))
        (m' ((c.tc : Thread nD τ).loc main_arg3)) (m' ((c.tc : Thread nD τ).loc main_arg5)) (m' ((c.tc : Thread nD τ).loc main_arg7))
        (m' ((c.tc : Thread nD τ).loc main_arg8)) := rfl
  rw [e, h0, h1, h2, h3, h5, h7, h8]
  funext i
  exact (congrArg _ (idx3 i)).trans (wholeQ_at _ _ _ _ _ _ _ (i 0) (i 1) (i 2))

include h0 h1 h2 h4 h6 h9 h10 in
/-- The keys are equal, from equal arguments, if the padding columns are zero. -/
theorem keys_eq (hz : ∀ (s : Fin 16384) (d : Fin 64), PC m c (ix2 s (⟨832 + d.val, by omega⟩ : Fin 896)) = 0) :
    Cert.Reference6Ideal.Value.res_out1 m' c = arrayK m c := by
  have e : Cert.Reference6Ideal.Value.res_out1 m' c
      = wholeK (m' ((c.tc : Thread nD τ).loc main_arg0)) (m' ((c.tc : Thread nD τ).loc main_arg1)) (m' ((c.tc : Thread nD τ).loc main_arg2))
        (m' ((c.tc : Thread nD τ).loc main_arg4)) (m' ((c.tc : Thread nD τ).loc main_arg6)) (m' ((c.tc : Thread nD τ).loc main_arg9))
        (m' ((c.tc : Thread nD τ).loc main_arg10)) := rfl
  rw [e, h0, h1, h2, h4, h6, h9, h10]
  funext i
  exact (congrArg _ (idx3 i)).trans (wholeK_at _ _ _ _ _ _ _ hz (i 0) (i 1) (i 2))

include h0 h4 h6 in
/-- The values are equal, from equal arguments. -/
theorem values_eq : wholeV (m' ((c.tc : Thread nD τ).loc main_arg0)) (m' ((c.tc : Thread nD τ).loc main_arg4)) (m' ((c.tc : Thread nD τ).loc main_arg6)) = arrayV m c := by
  rw [h0, h4, h6]
  funext i
  exact (congrArg _ (idx3 i)).trans (wholeV_at _ _ _ (i 0) (i 1) (i 2))

end

end Cert.Reference6Ideal.Latent
end
-- ==== Proof.ConvOut.lean ====
module

public import proofs.«01_k».proof.Proof.Gen.Kernel7Ideal.Value
public import Idealize.ShloMosaic.Lib.Pipeline.ValueKit
public import Idealize.ShloMosaic.Lib.Pointwise
public import Idealize.ShloMosaic.Lib.Claim

/-! # The convolution: the kernel's array

Each grid point gates its 256 rows and the 32 before them, zero before the first row, sums the 31 shifted rows each
times its row of the convolution's weight, normalises the sums and their bias over the row, and projects their
activation. -/

@[expose] public section

set_option maxRecDepth 16384

noncomputable section

namespace Cert.Kernel7Ideal.Conv

open Cert.Kernel7Ideal Cert.Kernel7Ideal.Gen Idealize.ShloMosaic Idealize.ShloMosaic.TcCoe Idealize.SL.Sem

/-- A row less its mean. -/
def centred (a : Fin 512 → EReal) (k : Fin 512) : EReal := a k - Ideal.div (∑ n, a n) (Ideal.ofBits .f32 0x44000000#32)

/-- A row normalised: less its mean, times the inverse root of its variance, with the gain and the bias. -/
def layer (a g b : Fin 512 → EReal) (k : Fin 512) : EReal :=
  centred a k * Ideal.rsqrt (Ideal.div (∑ n, centred a n * centred a n) (Ideal.ofBits .f32 0x44000000#32) + Ideal.ofBits .f32 0x358637BD#32) * g k + b k

/-- The normalised row's activation. -/
def mid (a g b : Fin 512 → EReal) (k : Fin 512) : EReal := layer a g b k * Ideal.logistic (layer a g b k)

/-- The projection of the activation. -/
def project (a g b : Fin 512 → EReal) (w : Fin 512 → EReal) (v : EReal) : EReal := (∑ k, mid a g b k * w k) + v

/-! ## The sum of the taps -/

/-- The first `n` taps' sum. -/
def taps (w : ℕ → FVec Ideal S1x512 .f32) (z : ℕ → FVec Ideal S256x512 .f32) : ℕ → FVec Ideal S256x512 .f32
  | 0 => broadcast S256x512 (Scalar.ofBits .f32 0x00000000#32)
  | n + 1 => addf (taps w z n) (mulf (broadcastTo S256x512 (w n) broadcasts_S1x512_S256x512) (z n))

theorem taps_at (w : ℕ → FVec Ideal S1x512 .f32) (z : ℕ → FVec Ideal S256x512 .f32) (r : Fin 256) (j : Fin 512) (n : ℕ) :
    taps w z n (ix2 r j) = ∑ k ∈ Finset.range n, w k (ix2 0 j) * z k (ix2 r j) := by
  induction n with
  | zero => exact Ideal.ofBits_zero_f32
  | succ n ih =>
    rw [Finset.sum_range_succ, ← ih]
    rw [taps]
    generalize taps w z n = q
    pointwise

/-- The sums with their bias. -/
def biased (a : FVec Ideal S256x512 .f32) (b : FVec Ideal S1x512 .f32) : FVec Ideal S256x512 .f32 :=
  addf a (broadcastTo S256x512 (shapeCast S1x512 b shapeCasts_S1x512_S1x512) broadcasts_S1x512_S256x512)

/-- The rows' sums. -/
def total (a : FVec Ideal S256x512 .f32) : FVec Ideal S256 .f32 :=
  multiReduction .add [1] S256 a 0x00000000#32 reduces_S256x512_S256 (.inl rfl) rfl

/-- The rows less their means. -/
def less (a : FVec Ideal S256x512 .f32) : FVec Ideal S256x512 .f32 :=
  subf a (broadcastTo S256x512 (divf (shapeCast S256x1 (total a) shapeCasts_S256_S256x1) (broadcast S256x1 (Scalar.ofBits .f32 0x44000000#32))) broadcasts_S256x1_S256x512)

/-- The normalised rows, from the centred ones. -/
def scaled (x : FVec Ideal S256x512 .f32) (g l : FVec Ideal S1x512 .f32) : FVec Ideal S256x512 .f32 :=
  addf (mulf (mulf x (broadcastTo S256x512 (rsqrt (addf (divf (shapeCast S256x1 (total (mulf x x)) shapeCasts_S256_S256x1) (broadcast S256x1 (Scalar.ofBits .f32 0x44000000#32))) (broadcast S256x1 (Scalar.ofBits .f32 0x358637BD#32)))) broadcasts_S256x1_S256x512))
    (broadcastTo S256x512 (shapeCast S1x512 g shapeCasts_S1x512_S1x512) broadcasts_S1x512_S256x512))
    (broadcastTo S256x512 (shapeCast S1x512 l shapeCasts_S1x512_S1x512) broadcasts_S1x512_S256x512)

/-- The activated rows. -/
def active (y : FVec Ideal S256x512 .f32) : FVec Ideal S256x512 .bf16 := truncf .bf16 (mulf y (logistic y)) bitsLt_bf16_f32

/-- The activated rows, as the body states them. -/
theorem active_eq (w : ℕ → FVec Ideal S1x512 .f32) (z : ℕ → FVec Ideal S256x512 .f32) (b g l : FVec Ideal S1x512 .f32) :
    k0_pay9 (F := Ideal) (k0_pay8 (k0_pay7 (k0_pay6 (k0_pay5 (k0_pay4 (w 0) (z 0) (w 1) (z 1)) (w 2) (z 2) (w 3) (z 3) (w 4) (z 4) (w 5) (z 5) (w 6) (z 6) (w 7) (z 7) (w 8) (z 8)) (w 9) (z 9) (w 10) (z 10) (w 11) (z 11) (w 12) (z 12) (w 13) (z 13) (w 14) (z 14) (w 15) (z 15)) (w 16) (z 16) (w 17) (z 17) (w 18) (z 18) (w 19) (z 19) (w 20) (z 20) (w 21) (z 21)) (w 22) (z 22) (w 23) (z 23) (w 24) (z 24) (w 25) (z 25) (w 26) (z 26) (w 27) (z 27) (w 28) (z 28)) (w 29) (z 29) (w 30) (z 30) b g l
      = active (scaled (less (biased (taps w z 31) b)) g l) := rfl

theorem biased_at (a : FVec Ideal S256x512 .f32) (b : FVec Ideal S1x512 .f32) (r : Fin 256) (k : Fin 512) :
    biased a b (ix2 r k) = a (ix2 r k) + b (ix2 0 k) := by
  pointwise [biased]

theorem total_at (a : FVec Ideal S256x512 .f32) (r : Fin 256) : total a (ix1 r) = ∑ k, a (ix2 r k) := by
  pointwise [total]

theorem less_at (a : FVec Ideal S256x512 .f32) (r : Fin 256) (k : Fin 512) : less a (ix2 r k) = centred (fun k => a (ix2 r k)) k := by
  unfold centred
  rw [← total_at]
  unfold less
  generalize total a = q
  pointwise

theorem scaled_at (a : FVec Ideal S256x512 .f32) (g l : FVec Ideal S1x512 .f32) (r : Fin 256) (k : Fin 512) :
    scaled (less a) g l (ix2 r k) = layer (fun k => a (ix2 r k)) (fun k => g (ix2 0 k)) (fun k => l (ix2 0 k)) k := by
  unfold layer
  simp only [← less_at]
  have e : ∑ n, less a (ix2 r n) * less a (ix2 r n) = total (mulf (less a) (less a)) (ix1 r) := by rw [total_at]; rfl
  rw [e]
  unfold scaled
  generalize total (mulf (less a) (less a)) = q
  generalize less a = x
  pointwise

theorem active_at (y : FVec Ideal S256x512 .f32) (r : Fin 256) (k : Fin 512) :
    active y (ix2 r k) = y (ix2 r k) * Ideal.logistic (y (ix2 r k)) := by
  pointwise [active]

/-- The projected rows. -/
theorem pay1_at (y : FVec Ideal S256x512 .bf16) (w : FVec Ideal S512x512 .bf16) (v : FVec Ideal S1x512 .f32) (r : Fin 256) (n : Fin 512) :
    k0_pay1 (F := Ideal) y w v (ix2 r n) = (∑ k, y (ix2 r k) * w (ix2 k n)) + v (ix2 0 n) := by
  pointwise [k0_pay1]

/-! ## The gated rows -/

/-- A gated element of a row. -/
def gate (x : Fin 1024 → EReal) (k : Fin 512) : EReal := x ⟨k.val, by omega⟩ * Ideal.logistic (x ⟨512 + k.val, by omega⟩)

/-- The point's gated rows. -/
theorem pay2_at (a b : FVec Ideal S256x512 .f32) (r : Fin 256) (k : Fin 512) :
    k0_pay2 (F := Ideal) a b (ix2 r k) = a (ix2 r k) * Ideal.logistic (b (ix2 r k)) := by
  pointwise [k0_pay2]

/-- The first point is the one with no rows before it. -/
theorem first : ∀ t : Fin 64, Scalar.cmpi .sgt (BitVec.ofNat 32 t.val) 0#32 = if t.val = 0 then 0#1 else 1#1 := by decide +kernel

/-- The gated rows before the point's, zero at the first. -/
theorem pay3_at (i : grid0.Coords) (a b : FVec Ideal S32x512 .f32) (r : Fin 32) (k : Fin 512) :
    k0_pay3 (F := Ideal) i a b (ix2 r k) = if (i 0).val = 0 then 0 else a (ix2 r k) * Ideal.logistic (b (ix2 r k)) := by
  have e : k0_pay3 (F := Ideal) i a b (ix2 r k)
      = Scalar.select (Scalar.cmpi .sgt (BitVec.ofNat 32 (i 0).val) 0#32) (a (ix2 r k) * Ideal.logistic (b (ix2 r k))) 0 := by
    unfold k0_pay3
    generalize Scalar.cmpi .sgt (BitVec.ofNat 32 (i 0).val) 0#32 = q
    rcases (by decide +revert : q = 0#1 ∨ q = 1#1) with rfl | rfl
    · exact Ideal.ofBits_zero_f32
    · change shapeCast S32x512 (mulf a (logistic b)) shapeCasts_S32x512_S32x512 (ix2 r k) = a (ix2 r k) * Ideal.logistic (b (ix2 r k))
      pointwise
  rw [e, first ⟨(i 0).val, (i 0).isLt⟩]
  dsimp only
  split <;> rfl

/-- Row `p` of the rows before the point's and its own. -/
def slab (u : FVec Ideal S32x512 .f32) (v : FVec Ideal S256x512 .f32) (p : ℕ) (k : Fin 512) : EReal :=
  if h : p < 32 then u (ix2 ⟨p, h⟩ k) else if h : p - 32 < 256 then v (ix2 ⟨p - 32, h⟩ k) else 0

/-- The 256 rows from `n` on. -/
def window (s : ℕ → Fin 512 → EReal) (n : ℕ) : FVec Ideal S256x512 .f32 := fun y => s (n + (y 0).val) (y 1)

/-- The weight's row `n`. -/
def tap (x : FVec Ideal S31x512 .f32) (n : ℕ) : FVec Ideal S1x512 .f32 := fun y => if h : n < 31 then x (ix2 ⟨n, h⟩ (y 1)) else 0

theorem ld_tap (x : FVec Ideal S31x512 .f32) (n : ℕ) (h : ∀ a, ![n, 0] a + ![1, 512] a ≤ S31x512.size a) :
    View.ld (Val := Elt Ideal) (e' := .f32) x (Rect.unit (s := S31x512) ![n, 0] ![1, 512] h) = tap x n := by
  have hn : n < 31 := by have := h 0; simp at this; omega
  funext y
  refine (View.ld_unit_apply_of _ _ _ _ _ (ix2 ⟨n, hn⟩ (y 1)) fun a => ?_).trans ?_
  · have h0 : (y 0).val < 1 := (y 0).isLt
    fin_cases a
    · simp
    · simp
  · unfold tap
    rw [dif_pos hn]
    rfl

theorem cov_window {sp : Space} (v : View sig .tc sp S288x512 .f32) (u : FVec Ideal S32x512 .f32) (w : FVec Ideal S256x512 .f32) (n : ℕ)
    (h0 : ∀ a, ![0, 0] a + ![32, 512] a ≤ S288x512.size a) (h1 : ∀ a, ![32, 0] a + ![256, 512] a ≤ S288x512.size a)
    (h : ∀ a, ![n, 0] a + ![256, 512] a ≤ S288x512.size a) :
    v.readCov (Val := Elt Ideal) [⟨Rect.unit (s := S288x512) ![0, 0] ![32, 512] h0, u⟩, ⟨Rect.unit (s := S288x512) ![32, 0] ![256, 512] h1, w⟩]
      (Rect.unit (s := S288x512) ![n, 0] ![256, 512] h).toLoadRect = window (slab u w) n := by
  rw [View.readCov_eq_canon']
  funext y
  have hy : (y 0).val < 256 := (y 0).isLt
  have hn : n ≤ 32 := by have := h 0; simp at this; omega
  refine (View.canon_apply_of_pieces (fun q : S288x512.Idx => slab u w (q 0).val (q 1)) _ ?_ _ ?_).trans ?_
  · intro p hp x
    rcases List.mem_cons.mp hp with rfl | hp
    · have hx : (x 0).val < 32 := (x 0).isLt
      unfold slab
      rw [dif_pos (by simp; exact hx)]
      refine congrArg u (funext fun a => Fin.ext ?_)
      fin_cases a <;> simp
    · obtain rfl := List.mem_singleton.mp hp
      have hx : (x 0).val < 256 := (x 0).isLt
      unfold slab
      rw [dif_neg (by simp), dif_pos (by simp; exact hx)]
      refine congrArg w (funext fun a => Fin.ext ?_)
      fin_cases a <;> simp
  · have e : ∀ a, (((Rect.unit (s := S288x512) ![n, 0] ![256, 512] h).toLoadRect.idx y) a).val = ![n, 0] a + (y a).val := fun a => by simp
    by_cases hp : n + (y 0).val < 32
    · refine ⟨_, List.mem_cons_self, (Rect.mem_set_unit (inb := h0)).mpr fun a => ?_⟩
      rw [e]
      fin_cases a
      · simp; omega
      · simp; exact (y 1).isLt
    · refine ⟨_, List.mem_cons_of_mem _ List.mem_cons_self, (Rect.mem_set_unit (inb := h1)).mpr fun a => ?_⟩
      rw [e]
      fin_cases a
      · simp; omega
      · simp; exact (y 1).isLt
  · refine congrArg₂ (slab u w) ?_ (Fin.ext ?_) <;> simp

/-! ## The block -/

/-- The taps' sum over the rows `f` and the bias. -/
def sums (f : ℕ → Fin 512 → EReal) (w : Fin 31 → Fin 512 → EReal) (b : Fin 512 → EReal) (k : Fin 512) : EReal :=
  (∑ q : Fin 31, w q k * f q.val k) + b k

section Point

variable (c : Dev nD) (i : grid0.Coords) (arg1 : Memref sig .tc .vmem S256x1024 .f32) (harg1 : arg1.IsWhole) (arg2 : Memref sig .tc .vmem S32x1024 .f32) (harg2 : arg2.IsWhole) (arg3 : Memref sig .tc .vmem S31x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S256x512 .f32) (harg9 : arg9.IsWhole) (arg10 : Memref sig .tc .vmem S288x512 .f32) (harg10 : arg10.IsWhole)
  (x0 : FVec Ideal S256x1024 .f32) (x1 : FVec Ideal S32x1024 .f32) (x2 : FVec Ideal S31x512 .f32) (x3 x4 x5 : FVec Ideal S1x512 .f32) (x6 : FVec Ideal S512x512 .bf16) (x7 : FVec Ideal S1x512 .f32)

/-- The gated rows before the point's, from the block. -/
def before : FVec Ideal S32x512 .f32 :=
  k0_pay3 (F := Ideal) i (View.ld (Val := Elt Ideal) (e' := .f32) x1 (Rect.unit (s := S32x1024) ![0, 0] ![32, 512] inb_S32x1024_S32x512_0_0))
    (View.ld (Val := Elt Ideal) (e' := .f32) x1 (Rect.unit (s := S32x1024) ![0, 512] ![32, 512] inb_S32x1024_S32x512_0_512))

/-- The point's gated rows, from the block. -/
def own : FVec Ideal S256x512 .f32 :=
  k0_pay2 (F := Ideal) (View.ld (Val := Elt Ideal) (e' := .f32) x0 (Rect.unit (s := S256x1024) ![0, 0] ![256, 512] inb_S256x1024_S256x512_0_0))
    (View.ld (Val := Elt Ideal) (e' := .f32) x0 (Rect.unit (s := S256x1024) ![0, 512] ![256, 512] inb_S256x1024_S256x512_0_512))

theorem before_at (r : Fin 32) (k : Fin 512) : before i x1 (ix2 r k) = if (i 0).val = 0 then 0 else gate (fun n => x1 (ix2 r n)) k := by
  unfold before
  rw [pay3_at]
  unfold gate
  refine congrArg (fun v => if (i 0).val = 0 then (0 : EReal) else v) (congrArg₂ (fun a b => a * Ideal.logistic b) ?_ ?_)
  · refine View.ld_unit_apply_of _ _ _ _ _ (ix2 r ⟨k.val, by omega⟩) fun a => ?_
    fin_cases a <;> simp
  · refine View.ld_unit_apply_of _ _ _ _ _ (ix2 r ⟨512 + k.val, by omega⟩) fun a => ?_
    fin_cases a <;> simp

theorem own_at (r : Fin 256) (k : Fin 512) : own x0 (ix2 r k) = gate (fun n => x0 (ix2 r n)) k := by
  unfold own
  rw [pay2_at]
  unfold gate
  refine congrArg₂ (fun a b => a * Ideal.logistic b) ?_ ?_
  · refine View.ld_unit_apply_of _ _ _ _ _ (ix2 r ⟨k.val, by omega⟩) fun a => ?_
    fin_cases a <;> simp
  · refine View.ld_unit_apply_of _ _ _ _ _ (ix2 r ⟨512 + k.val, by omega⟩) fun a => ?_
    fin_cases a <;> simp

/-- A block's element from the blocks. -/
theorem out_at (r : Fin 256) (n : Fin 512) :
    out0_A_8 (F := Ideal) c i arg1 harg1 arg2 harg2 arg3 harg3 arg4 harg4 arg5 harg5 arg6 harg6 arg7 harg7 arg8 harg8 arg9 harg9 arg10 harg10 x0 x1 x2 x3 x4 x5 x6 x7 (ix2 r n)
      = project (sums (fun q => slab (before i x1) (own x0) (2 + q + r.val)) (fun q k => x2 (ix2 q k)) (fun k => x3 (ix2 0 k)))
        (fun k => x4 (ix2 0 k)) (fun k => x5 (ix2 0 k)) (fun k => x6 (ix2 k n)) (x7 (ix2 0 n)) := by
  frame_out
  simp only [ld_tap, cov_window]
  refine (congrArg (fun y => k0_pay1 (F := Ideal) y x6 x7 (ix2 r n)) (active_eq (tap x2) (fun k => window (slab (before i x1) (own x0)) (2 + k)) x3 x4 x5)).trans ?_
  rw [pay1_at]
  unfold project mid
  simp only [active_at, scaled_at, biased_at, taps_at]
  unfold sums
  refine congrArg (· + x7 (ix2 0 n)) (Finset.sum_congr rfl fun k _ => ?_)
  have e : ∀ k : Fin 512, ∑ q ∈ Finset.range 31, tap x2 q (ix2 0 k) * window (slab (before i x1) (own x0)) (2 + q) (ix2 r k)
      = ∑ q : Fin 31, x2 (ix2 q k) * slab (before i x1) (own x0) (2 + q.val + r.val) k := fun k => by
    rw [Finset.sum_range]
    refine Finset.sum_congr rfl fun q _ => ?_
    unfold tap window
    rw [dif_pos q.isLt]
    rfl
  simp only [e]

end Point

variable (m : (ℓ : Loc nD τ sig) → Buf (Elt Ideal) ℓ) (c : Dev nD)

/-- The blocks of a grid point. -/
theorem idx : ∀ t : Fin grid0.N, win0_0.index t = ![t.val, 0] ∧ win0_1.index t = ![8 * t.val - 1, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] := by decide +kernel

/-- A grid point's coordinate is its number. -/
theorem coord : ∀ t : Fin grid0.N, (grid0.coords t 0).val = t.val := by decide +kernel

/-- The rows to gate and their gates as launched. -/
abbrev X : FVec Ideal S16384x1024 .f32 := m ((c.tc : Thread nD τ).loc main_arg0)
/-- The convolution's weight. -/
abbrev D : FVec Ideal S31x512 .f32 := m ((c.tc : Thread nD τ).loc main_arg1)
/-- The convolution's bias. -/
abbrev B : FVec Ideal S512 .f32 := m ((c.tc : Thread nD τ).loc main_arg2)
/-- The norm's gain. -/
abbrev G : FVec Ideal S512 .f32 := m ((c.tc : Thread nD τ).loc main_arg3)
/-- The norm's bias. -/
abbrev L : FVec Ideal S512 .f32 := m ((c.tc : Thread nD τ).loc main_arg4)
/-- The projection's weight. -/
abbrev W : FVec Ideal S512x512 .bf16 := m ((c.tc : Thread nD τ).loc main_arg5)
/-- The projection's bias. -/
abbrev P : FVec Ideal S512 .f32 := m ((c.tc : Thread nD τ).loc main_arg6)

/-- There are 64 grid points. -/
theorem point_lt (t : Fin grid0.N) : t.val < 64 := t.isLt

/-- A point's rows. -/
theorem x_at (t : Fin grid0.N) (r : Fin 256) (n : Fin 1024) :
    iblk m c 0 t (ix2 r n) = X m c (ix2 ⟨256 * t.val + r.val, by have := point_lt t; omega⟩ n) := by
  blk_ext [iblk, V_main_arg0, idx t]

/-- The 32 rows before a point's, or the first ones. -/
theorem y_at (t : Fin grid0.N) (r : Fin 32) (n : Fin 1024) :
    iblk m c 1 t (ix2 r n) = X m c (ix2 ⟨32 * (8 * t.val - 1) + r.val, by have := point_lt t; omega⟩ n) := by
  blk_ext [iblk, V_main_arg0, idx t]

theorem d_at (t : Fin grid0.N) (q : Fin 31) (k : Fin 512) : iblk m c 2 t (ix2 q k) = D m c (ix2 q k) := by
  blk_ext [iblk, V_main_arg1, idx t]

theorem b_at (t : Fin grid0.N) (k : Fin 512) : iblk m c 3 t (ix2 0 k) = B m c (ix1 k) := by
  blk_ext! [iblk, V, idx t]

theorem g_at (t : Fin grid0.N) (k : Fin 512) : iblk m c 4 t (ix2 0 k) = G m c (ix1 k) := by
  blk_ext! [iblk, V, idx t]

theorem l_at (t : Fin grid0.N) (k : Fin 512) : iblk m c 5 t (ix2 0 k) = L m c (ix1 k) := by
  blk_ext! [iblk, V, idx t]

theorem w_at (t : Fin grid0.N) (k n : Fin 512) : iblk m c 6 t (ix2 k n) = W m c (ix2 k n) := by
  blk_ext [iblk, V_main_arg5, idx t]

theorem p_at (t : Fin grid0.N) (k : Fin 512) : iblk m c 7 t (ix2 0 k) = P m c (ix1 k) := by
  blk_ext! [iblk, V, idx t]

/-- Gated row `p` of the rows with 30 zero rows in front. -/
def padded (x : FVec Ideal S16384x1024 .f32) (p : ℕ) (k : Fin 512) : EReal :=
  if h : 30 ≤ p ∧ p - 30 < 16384 then gate (fun n => x (ix2 ⟨p - 30, h.2⟩ n)) k else 0

/-- A point's rows and those before them are rows of the padded ones. -/
theorem slab_at (t : Fin grid0.N) (r : Fin 256) (q : Fin 31) (k : Fin 512) :
    slab (before (grid0.coords t) (iblk m c 1 t)) (own (iblk m c 0 t)) (2 + q.val + r.val) k = padded (X m c) (256 * t.val + r.val + q.val) k := by
  have ht := point_lt t
  have e : ∀ (a b : Fin 16384), a.val = b.val → gate (fun n => X m c (ix2 a n)) k = gate (fun n => X m c (ix2 b n)) k := fun a b h => by
    rw [Fin.ext h]
  unfold slab padded
  by_cases hp : 2 + q.val + r.val < 32
  · rw [dif_pos hp, before_at, coord]
    by_cases h0 : t.val = 0
    · rw [if_pos h0, dif_neg (by omega)]
    · rw [if_neg h0, dif_pos (by omega)]
      simp only [y_at]
      exact e _ _ (by dsimp only; omega)
  · rw [dif_neg hp, dif_pos (by omega), own_at, dif_pos (by omega)]
    simp only [x_at]
    exact e _ _ (by dsimp only; omega)

/-- The array. -/
def array : FVec Ideal S16384x512 .f32 := fun i =>
  project (sums (fun q => padded (X m c) ((i 0).val + q)) (fun q k => D m c (ix2 q k)) (fun k => B m c (ix1 k)))
    (fun k => G m c (ix1 k)) (fun k => L m c (ix1 k)) (fun k => W m c (ix2 k (i 1))) (P m c (ix1 (i 1)))

/-- The array at an index, from the values of its coordinates. -/
theorem array_of (i : S16384x512.Idx) (s : ℕ) (n : Fin 512) (h0 : (i 0).val = s) (h1 : (i 1).val = n.val) :
    project (sums (fun q => padded (X m c) (s + q)) (fun q k => D m c (ix2 q k)) (fun k => B m c (ix1 k)))
      (fun k => G m c (ix1 k)) (fun k => L m c (ix1 k)) (fun k => W m c (ix2 k n)) (P m c (ix1 n)) = array m c i := by
  obtain rfl : n = i 1 := (Fin.ext h1).symm
  subst h0
  rfl

/-- The kernel's array. -/
theorem final : (dats m 0 c).arrAt 8 cfg0.N = array m c := by
  refine (dats m 0 c).arrAt_eq_of_covers 8 _ (by decide +kernel) fun t hf y => ?_
  blk_simp
  rw [after0_8]
  have hy0 : (y 0).val < 256 := (y 0).isLt
  have hy1 : (y 1).val < 512 := (y 1).isLt
  have ey : y = ix2 (⟨(y 0).val, hy0⟩ : Fin 256) (⟨(y 1).val, hy1⟩ : Fin 512) := by funext a; fin_cases a <;> rfl
  unfold outsAt0
  refine (congrArg _ ey).trans ((out_at _ _ _ _ _ _ _ _ _ _ _ _ _ _ _ _ _ _ _ _ _ _ _ _ _ _ _ _ _ _ _ _).trans ?_)
  have e : sums (fun q => slab (before (grid0.coords t) (iblk m c 1 t)) (own (iblk m c 0 t)) (2 + q + (y 0).val)) (fun q k => D m c (ix2 q k)) (fun k => B m c (ix1 k))
      = sums (fun q => padded (X m c) (256 * t.val + (y 0).val + q)) (fun q k => D m c (ix2 q k)) (fun k => B m c (ix1 k)) := by
    funext k
    exact congrArg (· + B m c (ix1 k)) (Finset.sum_congr rfl fun q _ => congrArg (D m c (ix2 q k) * ·) (slab_at m c t ⟨(y 0).val, hy0⟩ q k))
  simp only [d_at, b_at, g_at, l_at, w_at, p_at]
  refine (congrArg (fun a => project a _ _ _ _) e).trans (array_of m c _ _ _ ?_ ?_)
  · blk_simp [idx t]; simp; omega
  · blk_simp [idx t]

end Cert.Kernel7Ideal.Conv
end
-- ==== Proof.ConvRef.lean ====
module

public import proofs.«01_k».proof.Proof.Gen.Reference7Ideal.Run
public import proofs.«01_k».proof.Proof.ConvOut

/-! # The convolution: the reference

The gated rows with 30 zero rows in front, the 31 rows that end at each one, and their sum times the convolution's weight;
row `s` and tap `q` read padded row `s + q`. Then the norm, the activation and one product. -/

@[expose] public section

set_option maxRecDepth 16384

noncomputable section

namespace Cert.Reference7Ideal.Conv

open Cert.Reference7Ideal Cert.Reference7Ideal.Gen Idealize.ShloMosaic Idealize.ShloMosaic.TcCoe Idealize.SL.Sem
open Cert.Kernel7Ideal.Conv (gate padded sums centred layer mid project)

/-! ## The windows -/

/-- The gated rows. -/
def gated (x : FVec Ideal S16384x1024 .f32) : FVec Ideal S16384x512 .f32 :=
  mulf (extractStridedSlice S16384x512 ![0, 0] x slices_S16384x1024_S16384x512_0_0) (Host.divf (broadcastInDim S16384x512 ![] bcast_S_S16384x512 (constant S_ .f32 0x3F800000#32)) (addf (broadcastInDim S16384x512 ![] bcast_S_S16384x512 (constant S_ .f32 0x3F800000#32)) (Host.exp (Host.negf (extractStridedSlice S16384x512 ![0, 512] x slices_S16384x1024_S16384x512_0_512)))))

/-- A gated element. -/
theorem gated_at (x : FVec Ideal S16384x1024 .f32) (s : Fin 16384) (k : Fin 512) : gated x (ix2 s k) = gate (fun n => x (ix2 s n)) k := by
  unfold gate Ideal.logistic
  pointwise [gated]

/-- The rows `z` with 30 zero rows in front. -/
def front (z : FVec Ideal S16384x512 .f32) : FVec Ideal S16414x512 .f32 :=
  concatenate S16414x512 0 [⟨S30x512, (broadcastInDim S30x512 ![] bcast_S_S30x512 (constant S_ .f32 0x00000000#32))⟩, ⟨S16384x512, z⟩] concatenates_S30x512_S16384x512_S16414x512_d0

/-- An element of them. -/
theorem front_at (z : FVec Ideal S16384x512 .f32) (p : Fin 16414) (k : Fin 512) :
    front z (ix2 p k) = if h : 30 ≤ p.val then z (ix2 ⟨p.val - 30, by omega⟩ k) else 0 := by
  pointwise [front]
  by_cases h : p.val < 30
  · rw [dif_pos h, dif_neg (by omega)]
  · rw [dif_neg h, dif_pos (by omega)]

/-- The padded row of each row and tap. -/
def at_ : IVec S16384x31 32 :=
  addi (broadcastInDim S16384x31 ![0, 1] bcast_S16384x1_S16384x31_0_1 (broadcastInDim S16384x1 ![0] bcast_S16384_S16384x1_0 (iotaInDim S16384 32 0))) (broadcastInDim S16384x31 ![0, 1] bcast_S1x31_S16384x31_0_1 (broadcastInDim S1x31 ![1] bcast_S31_S1x31_1 (iotaInDim S31 32 0)))

theorem at_at (s : Fin 16384) (q : Fin 31) : at_ (ix2 s q) = BitVec.ofNat 32 (s.val + q.val) := by
  have e : at_ (ix2 s q) = IntOp.addi (BitVec.ofNat 32 s.val) (BitVec.ofNat 32 q.val) := by
    pointwise [at_]
  rw [e, BitVec.ofNat_add]
  rfl

/-- The words that choose the rows. -/
def table (a : IVec S16384x31 32) : IVec S16384x31x1 32 :=
  broadcastInDim S16384x31x1 ![0, 1] bcast_S16384x31_S16384x31x1_0_1 (select (cmpi .slt a (broadcastInDim S16384x31 ![] bcast_S_S16384x31 (constantI S_ 32 0#32))) (addi a (broadcastInDim S16384x31 ![] bcast_S_S16384x31 (constantI S_ 32 16414#32))) a)

/-- A small word is not negative. -/
theorem not_neg (w : BitVec 32) (h : w.toNat < 16414) : IntOp.cmpi .slt w 0#32 = 0#1 := by
  have e : BitVec.slt w 0#32 = false := by
    rw [Bool.eq_false_iff]
    intro h'
    rw [BitVec.slt_iff_toInt_lt, BitVec.toInt_eq_toNat_cond] at h'
    have z : BitVec.toInt 0#32 = 0 := by decide
    rw [z] at h'
    split at h' <;> omega
  simp [IntOp.cmpi, e]

/-- A word that is a padded row is used as it is. -/
theorem table_at (a : IVec S16384x31 32) (s : Fin 16384) (q : Fin 31) (h : (a (ix2 s q)).toNat < 16414) : table a (ix3 s q 0) = a (ix2 s q) := by
  have n := not_neg _ h
  pointwise [table]
  rw [n]
  rfl

/-- A word that is a padded row as the gather clamps it. -/
theorem clamp (w : BitVec 32) (h : w.toNat < 16414) : min w.toInt.toNat 16413 = w.toNat := by
  have e : w.toInt = w.toNat := by rw [BitVec.toInt_eq_toNat_cond]; split <;> omega
  rw [e, Int.toNat_natCast]
  omega

/-- A gathered element. -/
theorem gather_at (x : FVec Ideal S16414x512 .f32) (i : IVec S16384x31x1 32) (s : Fin 16384) (q : Fin 31) (k : Fin 512) (h : (i (ix3 s q 0)).toNat < 16414) :
    Host.gather gather_S16414x512_S16384x31x1_S16384x31x512_2_0_n_n_0_2_1512 x i (ix3 s q k) = x (ix2 ⟨(i (ix3 s q 0)).toNat, h⟩ k) := by
  unfold Host.gather
  refine congrArg x (funext fun a => Fin.ext ?_)
  fin_cases a
  · have e : GatherDims.siIdx gather_S16414x512_S16384x31x1_S16384x31x512_2_0_n_n_0_2_1512 (ix3 s q k) ⟨0, by decide⟩ = ix3 s q 0 := by
      funext a; fin_cases a <;> rfl
    refine Eq.trans ?_ (clamp (i (ix3 s q 0)) h)
    rw [← e]
    rfl
  · exact (Nat.zero_add _)

/-- The windows of the padded rows. -/
def windows (y : FVec Ideal S16414x512 .f32) : FVec Ideal S16384x31x512 .f32 :=
  Host.gather gather_S16414x512_S16384x31x1_S16384x31x512_2_0_n_n_0_2_1512 y (table at_)

/-- An element of a window. -/
theorem windows_at (y : FVec Ideal S16414x512 .f32) (s : Fin 16384) (q : Fin 31) (k : Fin 512) :
    windows y (ix3 s q k) = y (ix2 ⟨s.val + q.val, by omega⟩ k) := by
  have n : (at_ (ix2 s q)).toNat = s.val + q.val := by
    rw [at_at, BitVec.toNat_ofNat]
    exact Nat.mod_eq_of_lt (by omega)
  have t := table_at at_ s q (by omega)
  refine (gather_at _ _ s q k (by rw [t]; omega)).trans ?_
  exact congrArg y (congrArg (fun p : Fin 16414 => ix2 p k) (Fin.ext (by dsimp only; rw [t, n])))

/-- The windows' sums times the weight. -/
def conv (w : FVec Ideal S31x512 .f32) (y : FVec Ideal S16384x31x512 .f32) : FVec Ideal S16384x512 .f32 :=
  transpose S16384x512 [1, 0] (Host.dotGeneral dot_S31x512_S16384x31x512_S512x16384_0_1_n_0_1_2 none w y) transposes_S512x16384_S16384x512_1_0

/-- An element of them. -/
theorem conv_at (w : FVec Ideal S31x512 .f32) (y : FVec Ideal S16384x31x512 .f32) (s : Fin 16384) (k : Fin 512) :
    conv w y (ix2 s k) = ∑ q : Fin 31, w (ix2 q k) * y (ix3 s q k) := by
  pointwise [conv]

/-- A row of biases on every row. -/
def rows (b : FVec Ideal S512 .f32) : FVec Ideal S16384x512 .f32 :=
  broadcastInDim S16384x512 ![0, 1] bcast_S1x512_S16384x512_0_1 (broadcastInDim S1x512 ![1] bcast_S512_S1x512_1 b)

theorem rows_at (b : FVec Ideal S512 .f32) (s : Fin 16384) (k : Fin 512) : rows b (ix2 s k) = b (ix1 k) := by
  pointwise [rows]

/-- The convolution with its bias. -/
def summed (x : FVec Ideal S16384x1024 .f32) (w : FVec Ideal S31x512 .f32) (b : FVec Ideal S512 .f32) : FVec Ideal S16384x512 .f32 :=
  addf (conv w (windows (front (gated x)))) (rows b)

/-- An element of it. -/
theorem summed_at (x : FVec Ideal S16384x1024 .f32) (w : FVec Ideal S31x512 .f32) (b : FVec Ideal S512 .f32) (s : Fin 16384) (k : Fin 512) :
    summed x w b (ix2 s k) = sums (fun q => padded x (s.val + q)) (fun q k => w (ix2 q k)) (fun k => b (ix1 k)) k := by
  have e : summed x w b (ix2 s k) = conv w (windows (front (gated x))) (ix2 s k) + rows b (ix2 s k) := rfl
  rw [e, conv_at, rows_at]
  unfold sums
  refine congrArg (· + b (ix1 k)) (Finset.sum_congr rfl fun q _ => congrArg (w (ix2 q k) * ·) ?_)
  rw [windows_at, front_at]
  unfold padded
  dsimp only
  by_cases h : 30 ≤ s.val + q.val
  · rw [dif_pos h, dif_pos ⟨h, by omega⟩, gated_at]
  · rw [dif_neg h, dif_neg (fun h' => h h'.1)]

/-! ## The norm and the projection -/

/-- The host's sum over the second of two axes. -/
theorem add_last (a b : ℕ) (x : FVec Ideal ⟨2, ![a, b]⟩ .f32) (w : BitVec 32)
    (h : (⟨2, ![a, b]⟩ : Shape).ReducesTo [1] ⟨1, ![a]⟩) (hu) (i : Fin a) :
    Host.reduceAdd x (constant (F := Ideal) ⟨0, ![]⟩ .f32 w) h hu (ix1 i) = Ideal.ofBits .f32 w + ∑ n : Fin b, x (ix2 i n) := by
  pointwise

/-- The rows' sums. -/
def total (a : FVec Ideal S16384x512 .f32) : FVec Ideal S16384 .f32 :=
  Host.reduceAdd a (constant S_ .f32 0x00000000#32) reducesTo_S16384x512_S16384_d1 h_S_

theorem total_at (a : FVec Ideal S16384x512 .f32) (s : Fin 16384) : total a (ix1 s) = ∑ k : Fin 512, a (ix2 s k) := by
  unfold total
  rw [add_last 16384 512, Ideal.ofBits_zero_f32, zero_add]

/-- The rows less their means. -/
def less (a : FVec Ideal S16384x512 .f32) : FVec Ideal S16384x512 .f32 :=
  subf a (broadcastInDim S16384x512 ![0, 1] bcast_S16384x1_S16384x512_0_1 (Host.divf (broadcastInDim S16384x1 ![0] bcast_S16384_S16384x1_0 (total a)) (broadcastInDim S16384x1 ![] bcast_S_S16384x1 (constant S_ .f32 0x44000000#32))))

theorem less_at (a : FVec Ideal S16384x512 .f32) (s : Fin 16384) (k : Fin 512) : less a (ix2 s k) = centred (fun k => a (ix2 s k)) k := by
  unfold centred
  rw [← total_at]
  unfold less
  generalize total a = q
  pointwise

/-- The normalised rows, from the centred ones. -/
def scaled (x : FVec Ideal S16384x512 .f32) (g l : FVec Ideal S512 .f32) : FVec Ideal S16384x512 .f32 :=
  addf (mulf (mulf x (broadcastInDim S16384x512 ![0, 1] bcast_S16384x1_S16384x512_0_1 (Host.rsqrt (addf (Host.divf (broadcastInDim S16384x1 ![0] bcast_S16384_S16384x1_0 (total (mulf x x))) (broadcastInDim S16384x1 ![] bcast_S_S16384x1 (constant S_ .f32 0x44000000#32))) (broadcastInDim S16384x1 ![] bcast_S_S16384x1 (constant S_ .f32 0x358637BD#32)))))) (rows g)) (rows l)

theorem scaled_at (a : FVec Ideal S16384x512 .f32) (g l : FVec Ideal S512 .f32) (s : Fin 16384) (k : Fin 512) :
    scaled (less a) g l (ix2 s k) = layer (fun k => a (ix2 s k)) (fun k => g (ix1 k)) (fun k => l (ix1 k)) k := by
  unfold layer
  simp only [← less_at]
  have e : ∑ n, less a (ix2 s n) * less a (ix2 s n) = total (mulf (less a) (less a)) (ix1 s) := by rw [total_at]; rfl
  rw [e, ← rows_at g s k, ← rows_at l s k]
  unfold scaled
  generalize total (mulf (less a) (less a)) = q
  generalize less a = x
  generalize rows g = g
  generalize rows l = l
  pointwise

/-- The activated rows. -/
def active (y : FVec Ideal S16384x512 .f32) : FVec Ideal S16384x512 .f32 :=
  mulf y (Host.divf (broadcastInDim S16384x512 ![] bcast_S_S16384x512 (constant S_ .f32 0x3F800000#32)) (addf (broadcastInDim S16384x512 ![] bcast_S_S16384x512 (constant S_ .f32 0x3F800000#32)) (Host.exp (Host.negf y))))

theorem active_at (y : FVec Ideal S16384x512 .f32) (s : Fin 16384) (k : Fin 512) :
    active y (ix2 s k) = y (ix2 s k) * Ideal.logistic (y (ix2 s k)) := by
  unfold Ideal.logistic
  pointwise [active]

/-- The projected rows. -/
def out (y : FVec Ideal S16384x512 .f32) (w : FVec Ideal S512x512 .bf16) (b : FVec Ideal S512 .f32) : FVec Ideal S16384x512 .f32 :=
  addf (Host.dotGeneral dot_S16384x512_S512x512_S16384x512_1_0_0_1_n_n none y (extf .f32 w bitsLt_bf16_f32)) (rows b)

theorem out_at (y : FVec Ideal S16384x512 .f32) (w : FVec Ideal S512x512 .bf16) (b : FVec Ideal S512 .f32) (s : Fin 16384) (n : Fin 512) :
    out y w b (ix2 s n) = (∑ k : Fin 512, y (ix2 s k) * w (ix2 k n)) + b (ix1 n) := by
  rw [← rows_at b s n]
  unfold out
  generalize rows b = b
  pointwise

variable (x : FVec Ideal S16384x1024 .f32) (d : FVec Ideal S31x512 .f32) (b g l : FVec Ideal S512 .f32) (w : FVec Ideal S512x512 .bf16) (v : FVec Ideal S512 .f32)

/-- The reference's output. -/
def whole : FVec Ideal S16384x512 .f32 := out (active (scaled (less (summed x d b)) g l)) w v

/-- An element of the reference's output. -/
theorem whole_at (s : Fin 16384) (n : Fin 512) :
    whole x d b g l w v (ix2 s n)
      = project (sums (fun q => padded x (s.val + q)) (fun q k => d (ix2 q k)) (fun k => b (ix1 k)))
        (fun k => g (ix1 k)) (fun k => l (ix1 k)) (fun k => w (ix2 k n)) (v (ix1 n)) := by
  unfold whole
  rw [out_at]
  unfold project mid
  simp only [active_at, scaled_at, summed_at]

open Cert.Kernel7Ideal.Conv (X D B G L W P array array_of)

/-- The two arrays are equal, from equal arguments. -/
theorem arrays_eq (m : (ℓ : Loc Cert.Kernel7Ideal.nD Cert.Kernel7Ideal.τ Cert.Kernel7Ideal.sig) → Buf (Elt Ideal) ℓ)
    (m' : (ℓ : Loc nD τ sig) → Buf (Elt Ideal) ℓ) (c : Dev nD)
    (h0 : m' ((c.tc : Thread nD τ).loc main_arg0) = X m c) (h1 : m' ((c.tc : Thread nD τ).loc main_arg1) = D m c)
    (h2 : m' ((c.tc : Thread nD τ).loc main_arg2) = B m c) (h3 : m' ((c.tc : Thread nD τ).loc main_arg3) = G m c)
    (h4 : m' ((c.tc : Thread nD τ).loc main_arg4) = L m c) (h5 : m' ((c.tc : Thread nD τ).loc main_arg5) = W m c)
    (h6 : m' ((c.tc : Thread nD τ).loc main_arg6) = P m c) :
    Value.res_main_v57 m' c = array m c := by
  have e : Value.res_main_v57 m' c = whole (m' ((c.tc : Thread nD τ).loc main_arg0)) (m' ((c.tc : Thread nD τ).loc main_arg1)) (m' ((c.tc : Thread nD τ).loc main_arg2))
      (m' ((c.tc : Thread nD τ).loc main_arg3)) (m' ((c.tc : Thread nD τ).loc main_arg4)) (m' ((c.tc : Thread nD τ).loc main_arg5)) (m' ((c.tc : Thread nD τ).loc main_arg6)) := by
    unfold Value.res_main_v57
    rfl
  rw [e, h0, h1, h2, h3, h4, h5, h6]
  funext i
  have hi0 : (i 0).val < 16384 := (i 0).isLt
  have hi1 : (i 1).val < 512 := (i 1).isLt
  have ei : i = ix2 (⟨(i 0).val, hi0⟩ : Fin 16384) (⟨(i 1).val, hi1⟩ : Fin 512) := by funext a; fin_cases a <;> rfl
  refine (congrArg _ ei).trans ((whole_at _ _ _ _ _ _ _ _ _).trans ?_)
  exact array_of m c i _ _ rfl rfl

end Cert.Reference7Ideal.Conv
end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel.Frame
public import proofs.«01_k».proof.Proof.Agree
public import proofs.«01_k».proof.Proof.Gen.Kernel2.Frame
public import proofs.«01_k».proof.Proof.NormRef
public import proofs.«01_k».proof.Proof.Gen.Kernel3.Frame
public import proofs.«01_k».proof.Proof.MixRef
public import proofs.«01_k».proof.Proof.Gen.Kernel5.Frame
public import proofs.«01_k».proof.Proof.Named
public import proofs.«01_k».proof.Proof.ExpertsRef
public import proofs.«01_k».proof.Proof.MemoryRef
public import proofs.«01_k».proof.Proof.LatentRef
public import proofs.«01_k».proof.Proof.ConvRef
public import proofs.«01_k».proof.Proof.Gen.Kernel6Ideal.Value
public import proofs.«01_k».proof.Proof.Gen.Reference6Ideal.Run
public import proofs.«01_k».proof.Proof.Gen.Kernel6.Frame
public import proofs.«01_k».proof.Proof.Gen.Kernel7.Frame
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments, and ends with every semaphore at zero: it has none. -/
theorem reference_frame (m : (ℓ : Loc ReferenceIdeal.nD ReferenceIdeal.τ ReferenceIdeal.sig) → Buf (Elt Ideal) ℓ) (g : Dev ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run m g)

/-- The two arrays agree where the precondition holds. -/
theorem arrays_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hp : Cert.Pre_KernelIdeal_finite_scores m)
    (h0 : m' ((c.tc : Thread ReferenceIdeal.nD ReferenceIdeal.τ).loc ReferenceIdeal.main_arg0) = KernelIdeal.Flash.Q m c)
    (h1 : m' ((c.tc : Thread ReferenceIdeal.nD ReferenceIdeal.τ).loc ReferenceIdeal.main_arg1) = KernelIdeal.Flash.K m c)
    (h2 : m' ((c.tc : Thread ReferenceIdeal.nD ReferenceIdeal.τ).loc ReferenceIdeal.main_arg2) = KernelIdeal.Flash.V' m c) :
    ReferenceIdeal.Value.res_main_v24 m' c = KernelIdeal.Flash.array m c := by
  rw [ReferenceIdeal.Attn.res_eq, h0, h1, h2]
  funext i
  have ei : i = ix2 (i 0) (i 1) := by funext a; fin_cases a <;> rfl
  refine (congrArg _ ei).trans ((ReferenceIdeal.Attn.reference_at _ _ _ (i 0) (i 1)).trans ?_)
  exact (quotient _ _ _ (Pre_finite_scores.finite _ _ _ (hp c)) _ _ _).symm

/-- The projection's reference runs, keeps its arguments, and ends with every semaphore at zero: it has none. -/
theorem reference2_frame (m : (ℓ : Loc Reference2Ideal.nD Reference2Ideal.τ Reference2Ideal.sig) → Buf (Elt Ideal) ℓ) (g : Dev Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0) :=
  (θ_run _ _ _).mono (fun r h => ⟨fun c => (h c).2.2.2.2, sem_eq_zero_of_no_sems (by decide) r.2⟩) (Cert.Reference2Ideal.Value.run m g)

/-- The mix's reference runs, keeps its arguments, and ends with every semaphore at zero: it has none. -/
theorem reference3_frame (m : (ℓ : Loc Reference3Ideal.nD Reference3Ideal.τ Reference3Ideal.sig) → Buf (Elt Ideal) ℓ) (g : Dev Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0) :=
  (θ_run _ _ _).mono (fun r h => ⟨fun c => (h c).2, sem_eq_zero_of_no_sems (by decide) r.2⟩) (Cert.Reference3Ideal.Value.run m g)

/-- The experts' reference runs, keeps its arguments, and ends with every semaphore at zero: it has none. -/
theorem reference4_frame (m : (ℓ : Loc Reference4Ideal.nD Reference4Ideal.τ Reference4Ideal.sig) → Buf (Elt Ideal) ℓ) (g : Dev Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0) :=
  (θ_run _ _ _).mono (fun r h => ⟨fun c => (h c).2, sem_eq_zero_of_no_sems (by decide) r.2⟩) (Cert.Reference4Ideal.Value.run m g)

/-- The memory attention's reference runs, keeps its arguments, and ends with every semaphore at zero: it has none. -/
theorem reference5_frame (m : (ℓ : Loc Reference5Ideal.nD Reference5Ideal.τ Reference5Ideal.sig) → Buf (Elt Ideal) ℓ) (g : Dev Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0) :=
  (θ_run _ _ _).mono (fun r h => ⟨fun c => (h c).2, sem_eq_zero_of_no_sems (by decide) r.2⟩) (Cert.Reference5Ideal.Value.run m g)

/-- The latent projections' reference runs, keeps its arguments, and ends with every semaphore at zero: it has none. -/
theorem reference6_frame (m : (ℓ : Loc Reference6Ideal.nD Reference6Ideal.τ Reference6Ideal.sig) → Buf (Elt Ideal) ℓ) (g : Dev Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0) :=
  (θ_run _ _ _).mono (fun r h => ⟨fun c => (h c).2.2.2, sem_eq_zero_of_no_sems (by decide) r.2⟩) (Cert.Reference6Ideal.Value.run m g)

/-- The convolution's reference runs, keeps its arguments, and ends with every semaphore at zero: it has none. -/
theorem reference7_frame (m : (ℓ : Loc Reference7Ideal.nD Reference7Ideal.τ Reference7Ideal.sig) → Buf (Elt Ideal) ℓ) (g : Dev Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0) :=
  (θ_run _ _ _).mono (fun r h => ⟨fun c => (h c).2, sem_eq_zero_of_no_sems (by decide) r.2⟩) (Cert.Reference7Ideal.Value.run m g)

/-- The claims of the seven calls. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_finite_scores.facts, Cert.Pre_experts_named.Gen.facts, Cert.Pre_finite_gains.facts, Cert.Pre_padding_zero.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    fun m g _ => Cert.Kernel2.Gen.frame m g,
    fun m g _ => Cert.Kernel2Ideal.Gen.frame m g,
    fun m g _ => reference2_frame m g,
    fun m g _ => Cert.Kernel3.Gen.frame m g,
    fun m g _ => Cert.Kernel3Ideal.Gen.frame m g,
    fun m g _ => reference3_frame m g,
    fun m g hp => (θ_run _ _ _).mono (fun _ h => ⟨fun c => (h.1 c).2, h.2⟩) (Kernel4.Experts.run _ m g (Kernel4.Experts.tables m (Kernel4.Experts.exist m hp))),
    fun m g hp => (θ_run _ _ _).mono (fun _ h => ⟨fun c => (h.1 c).2, h.2⟩) (Kernel4Ideal.Experts.run _ m g (Kernel4Ideal.Experts.tables m (Kernel4Ideal.Experts.exist m hp))),
    fun m g _ => reference4_frame m g,
    fun m g _ => reference4_frame m g,
    fun m g _ => Cert.Kernel5.Gen.frame m g,
    fun m g _ => Cert.Kernel5Ideal.Gen.frame m g,
    fun m g _ => Cert.Kernel5Ideal.Gen.frame m g,
    fun m g _ => reference5_frame m g,
    fun m g _ => reference5_frame m g,
    fun m g _ => Cert.Kernel6.Gen.frame m g,
    fun m g _ => Cert.Kernel6Ideal.Gen.frame m g,
    fun m g _ => Cert.Kernel6Ideal.Gen.frame m g,
    fun m g _ => reference6_frame m g,
    fun m g _ => reference6_frame m g,
    fun m g _ => Cert.Kernel7.Gen.frame m g,
    fun m g _ => Cert.Kernel7Ideal.Gen.frame m g,
    fun m g _ => reference7_frame m g,
    IdealRules.named_const.statement Cert.KernelIdeal.κ "mask" .f32 0xF149F2CA#32 ⊥ rfl,
    fun m g m' g' hp ha => ⟨fun c => KernelIdeal.Flash.array m c,
      (θ_run _ _ _).mono (fun _ h c => ⟨(h c).1.trans (KernelIdeal.Flash.final m c), (h c).2⟩) (Cert.KernelIdeal.Value.run_blocks m g),
      (θ_run _ _ _).mono (fun _ h c => ⟨(h c).1.trans (arrays_eq m m' c hp (ha c).1 (ha c).2.1 (ha c).2.2), (h c).2⟩) (Cert.ReferenceIdeal.Value.run m' g')⟩,
    trivial,
    fun m g m' g' _ ha => ⟨fun c => Kernel2Ideal.Proj.cols m c 0 (w := 768) (by decide), fun c => Kernel2Ideal.Proj.cols m c 768 (w := 1024) (by decide),
      fun c => Kernel2Ideal.Proj.cols m c 1792 (w := 896) (by decide), fun c => Kernel2Ideal.Proj.cols m c 2688 (w := 512) (by decide),
      (θ_run _ _ _).mono (fun _ h c => ⟨(h c).1.trans (Kernel2Ideal.Proj.final3 m c), (h c).2.1.trans (Kernel2Ideal.Proj.final4 m c),
        (h c).2.2.1.trans (Kernel2Ideal.Proj.final5 m c), (h c).2.2.2.1.trans (Kernel2Ideal.Proj.final6 m c), (h c).2.2.2.2⟩) (Cert.Kernel2Ideal.Value.run_blocks m g),
      (θ_run _ _ _).mono (fun _ h c => ⟨(h c).1.trans (Reference2Ideal.Proj.slice_cols _ _ _ m c 0 _ _ (ha c).1 (ha c).2.1 (ha c).2.2),
        (h c).2.1.trans (Reference2Ideal.Proj.slice_cols _ _ _ m c 768 _ _ (ha c).1 (ha c).2.1 (ha c).2.2),
        (h c).2.2.1.trans (Reference2Ideal.Proj.slice_cols _ _ _ m c 1792 _ _ (ha c).1 (ha c).2.1 (ha c).2.2),
        (h c).2.2.2.1.trans (Reference2Ideal.Proj.slice_cols _ _ _ m c 2688 _ _ (ha c).1 (ha c).2.1 (ha c).2.2), (h c).2.2.2.2⟩) (Cert.Reference2Ideal.Value.run m' g')⟩,
    trivial,
    fun m g m' g' _ ha => ⟨fun c => Kernel3Ideal.Mix.array m c,
      (θ_run _ _ _).mono (fun _ h c => ⟨(h c).1.trans (Kernel3Ideal.Mix.final m c), (h c).2⟩) (Cert.Kernel3Ideal.Value.run_blocks m g),
      (θ_run _ _ _).mono (fun _ h c => ⟨(h c).1.trans (Reference3Ideal.Mix.arrays_eq m m' c (ha c).1 (ha c).2.1 (ha c).2.2.1 (ha c).2.2.2.1
        (ha c).2.2.2.2.1 (ha c).2.2.2.2.2.1 (ha c).2.2.2.2.2.2.1 (ha c).2.2.2.2.2.2.2.1 (ha c).2.2.2.2.2.2.2.2), (h c).2⟩) (Cert.Reference3Ideal.Value.run m' g')⟩,
    trivial,
    fun m g m' g' hp ha => ⟨fun c => Kernel4Ideal.Experts.array m c,
      (θ_run _ _ _).mono (fun _ h c => ⟨(h.1 c).1.trans (Kernel4Ideal.Experts.final _ m g c (Kernel4Ideal.Experts.tables m (Kernel4Ideal.Experts.exist m hp)) (Pre_experts_named.named _ _ _ _ _ _ (hp c))), (h.1 c).2⟩)
        (Kernel4Ideal.Experts.run _ m g (Kernel4Ideal.Experts.tables m (Kernel4Ideal.Experts.exist m hp))),
      (θ_run _ _ _).mono (fun _ h c => ⟨(h c).1.trans (Reference4Ideal.Experts.arrays_eq m m' c (Pre_experts_named.named _ _ _ _ _ _ (hp c)) (ha c).1 (ha c).2.1 (ha c).2.2.1 (ha c).2.2.2.1
        (ha c).2.2.2.2.1 (ha c).2.2.2.2.2), (h c).2⟩) (Cert.Reference4Ideal.Value.run m' g')⟩,
    IdealRules.named_const.statement Cert.Kernel5Ideal.κ "scale" .f32 0x3DB504F3#32 (((Real.sqrt 128)⁻¹ : ℝ) : EReal) rfl,
    fun m g m' g' hp ha => ⟨fun c => Kernel5Ideal.Memory.array m c,
      (θ_run _ _ _).mono (fun _ h c => ⟨(h c).1.trans (Kernel5Ideal.Memory.final m c), (h c).2⟩) (Cert.Kernel5Ideal.Value.run_blocks m g),
      (θ_run _ _ _).mono (fun _ h c => ⟨(h c).1.trans (Reference5Ideal.Memory.arrays_eq m m' c (Pre_finite_gains.finite _ _ _ _ _ _ _ (hp c)) (ha c).1 (ha c).2.1 (ha c).2.2.1
        (ha c).2.2.2.1 (ha c).2.2.2.2.1 (ha c).2.2.2.2.2.1 (ha c).2.2.2.2.2.2), (h c).2⟩) (Cert.Reference5Ideal.Value.run m' g')⟩,
    IdealRules.named_const.statement Cert.Kernel6Ideal.κ "scale" .f32 0x3D93CD3A#32 (((Real.sqrt 192)⁻¹ : ℝ) : EReal) rfl,
    fun m g m' g' hp ha => ⟨fun c => Kernel6Ideal.Latent.arrayQ m c, fun c => Kernel6Ideal.Latent.arrayK m c, fun c => Kernel6Ideal.Latent.arrayV m c,
      (θ_run _ _ _).mono (fun _ h c => ⟨(h c).1.trans (Kernel6Ideal.Latent.final11 m c), (h c).2.1.trans (Kernel6Ideal.Latent.final12 m c),
        (h c).2.2.1.trans (Kernel6Ideal.Latent.final13 m c), (h c).2.2.2⟩) (Cert.Kernel6Ideal.Value.run_blocks m g),
      (θ_run _ _ _).mono (fun _ h c => ⟨
        (h c).1.trans (Reference6Ideal.Latent.queries_eq m m' c (ha c).1 (ha c).2.1 (ha c).2.2.1 (ha c).2.2.2.1 (ha c).2.2.2.2.2.1 (ha c).2.2.2.2.2.2.2.1 (ha c).2.2.2.2.2.2.2.2.1),
        (h c).2.1.trans (Reference6Ideal.Latent.keys_eq m m' c (ha c).1 (ha c).2.1 (ha c).2.2.1 (ha c).2.2.2.2.1 (ha c).2.2.2.2.2.2.1 (ha c).2.2.2.2.2.2.2.2.2.1 (ha c).2.2.2.2.2.2.2.2.2.2
          (Pre_padding_zero.zero _ _ _ _ _ _ _ _ _ _ _ (hp c))),
        (h c).2.2.1.trans (Reference6Ideal.Latent.values_eq m m' c (ha c).1 (ha c).2.2.2.2.1 (ha c).2.2.2.2.2.2.1), (h c).2.2.2⟩) (Cert.Reference6Ideal.Value.run m' g')⟩,
    trivial,
    fun m g m' g' _ ha => ⟨fun c => Kernel7Ideal.Conv.array m c,
      (θ_run _ _ _).mono (fun _ h c => ⟨(h c).1.trans (Kernel7Ideal.Conv.final m c), (h c).2⟩) (Cert.Kernel7Ideal.Value.run_blocks m g),
      (θ_run _ _ _).mono (fun _ h c => ⟨(h c).1.trans (Reference7Ideal.Conv.arrays_eq m m' c (ha c).1 (ha c).2.1 (ha c).2.2.1 (ha c).2.2.2.1
        (ha c).2.2.2.2.1 (ha c).2.2.2.2.2.1 (ha c).2.2.2.2.2.2), (h c).2⟩) (Cert.Reference7Ideal.Value.run m' g')⟩⟩

end Cert.Proof

end
